-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_queries [hPre_finite_queries : Cert.Pre_finite_queries.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_queries.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_queries [hPre_finite_queries : Cert.Pre_finite_queries.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_queries.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_queries [hKernel7Ideal : Cert.Kernel7Ideal.Facts] [hPre_finite_queries : Cert.Pre_finite_queries.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_queries m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_queries [hReference7Ideal : Cert.Reference7Ideal.Facts] [hPre_finite_queries : Cert.Pre_finite_queries.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_queries m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "scale" .f32 0x3D93CD3A#32 (((Real.sqrt 192)⁻¹ : ℝ) : EReal)
  ∧ IdealRules.named_const.Statement Cert.KernelIdeal.κ "mask" .f32 0xF149F2CA#32 ⊥

def algebraic_KernelIdeal_ReferenceIdeal_on_real_rows_pre_finite_scores [hKernelIdeal : Cert.KernelIdeal.Facts] [hReferenceIdeal : Cert.ReferenceIdeal.Facts] [hPre_finite_scores : Cert.Pre_finite_scores.Facts] [hOn_real_rows : Cert.On_real_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![17408, 2048]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![17408, 2048]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v55) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v93_0)) (v1 : (c : Dev Cert.Kernel2Ideal.nD) → Buf (Elt Ideal) ((c.tc : Thread Cert.Kernel2Ideal.nD Cert.Kernel2Ideal.τ).loc Cert.Kernel2Ideal.main_v93_1)) (v2 : (c : Dev Cert.Kernel2Ideal.nD) → Buf (Elt Ideal) ((c.tc : Thread Cert.Kernel2Ideal.nD Cert.Kernel2Ideal.τ).loc Cert.Kernel2Ideal.main_v93_2)) (v3 : (c : Dev Cert.Kernel2Ideal.nD) → Buf (Elt Ideal) ((c.tc : Thread Cert.Kernel2Ideal.nD Cert.Kernel2Ideal.τ).loc Cert.Kernel2Ideal.main_v93_3)) (v4 : (c : Dev Cert.Kernel2Ideal.nD) → Buf (Elt Ideal) ((c.tc : Thread Cert.Kernel2Ideal.nD Cert.Kernel2Ideal.τ).loc Cert.Kernel2Ideal.main_v93_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v93_0) = v0 c
          ∧ r.2.mem ((c.tc : Thread Cert.Kernel2Ideal.nD Cert.Kernel2Ideal.τ).loc Cert.Kernel2Ideal.main_v93_1) = v1 c
          ∧ r.2.mem ((c.tc : Thread Cert.Kernel2Ideal.nD Cert.Kernel2Ideal.τ).loc Cert.Kernel2Ideal.main_v93_2) = v2 c
          ∧ r.2.mem ((c.tc : Thread Cert.Kernel2Ideal.nD Cert.Kernel2Ideal.τ).loc Cert.Kernel2Ideal.main_v93_3) = v3 c
          ∧ r.2.mem ((c.tc : Thread Cert.Kernel2Ideal.nD Cert.Kernel2Ideal.τ).loc Cert.Kernel2Ideal.main_v93_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v177) = v0 c
          ∧ r.2.mem ((c.tc : Thread Cert.Reference2Ideal.nD Cert.Reference2Ideal.τ).loc Cert.Reference2Ideal.main_v168) = v1 c
          ∧ r.2.mem ((c.tc : Thread Cert.Reference2Ideal.nD Cert.Reference2Ideal.τ).loc Cert.Reference2Ideal.main_v172) = v2 c
          ∧ r.2.mem ((c.tc : Thread Cert.Reference2Ideal.nD Cert.Reference2Ideal.τ).loc Cert.Reference2Ideal.main_v179) = v3 c
          ∧ r.2.mem ((c.tc : Thread Cert.Reference2Ideal.nD Cert.Reference2Ideal.τ).loc Cert.Reference2Ideal.main_v176) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v18) = v2 c
          ∧ r.2.mem ((c.tc : Thread Cert.Reference3Ideal.nD Cert.Reference3Ideal.τ).loc Cert.Reference3Ideal.main_v19) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite_queries [hKernel7Ideal : Cert.Kernel7Ideal.Facts] [hReference7Ideal : Cert.Reference7Ideal.Facts] [hPre_finite_queries : Cert.Pre_finite_queries.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_queries m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v76_0)) (v1 : (c : Dev Cert.Kernel7Ideal.nD) → Buf (Elt Ideal) ((c.tc : Thread Cert.Kernel7Ideal.nD Cert.Kernel7Ideal.τ).loc Cert.Kernel7Ideal.main_v76_1)) (v2 : (c : Dev Cert.Kernel7Ideal.nD) → Buf (Elt Ideal) ((c.tc : Thread Cert.Kernel7Ideal.nD Cert.Kernel7Ideal.τ).loc Cert.Kernel7Ideal.main_v76_2)) (v3 : (c : Dev Cert.Kernel7Ideal.nD) → Buf (Elt Ideal) ((c.tc : Thread Cert.Kernel7Ideal.nD Cert.Kernel7Ideal.τ).loc Cert.Kernel7Ideal.main_v76_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v76_0) = v0 c
          ∧ r.2.mem ((c.tc : Thread Cert.Kernel7Ideal.nD Cert.Kernel7Ideal.τ).loc Cert.Kernel7Ideal.main_v76_1) = v1 c
          ∧ r.2.mem ((c.tc : Thread Cert.Kernel7Ideal.nD Cert.Kernel7Ideal.τ).loc Cert.Kernel7Ideal.main_v76_2) = v2 c
          ∧ r.2.mem ((c.tc : Thread Cert.Kernel7Ideal.nD Cert.Kernel7Ideal.τ).loc Cert.Kernel7Ideal.main_v76_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v81) = v0 c
          ∧ r.2.mem ((c.tc : Thread Cert.Reference7Ideal.nD Cert.Reference7Ideal.τ).loc Cert.Reference7Ideal.main_v83) = v1 c
          ∧ r.2.mem ((c.tc : Thread Cert.Reference7Ideal.nD Cert.Reference7Ideal.τ).loc Cert.Reference7Ideal.main_v85) = v2 c
          ∧ r.2.mem ((c.tc : Thread Cert.Reference7Ideal.nD Cert.Reference7Ideal.τ).loc Cert.Reference7Ideal.main_v87) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_scores : Cert.Pre_finite_scores.Facts) (hPre_finite_inputs : Cert.Pre_finite_inputs.Facts) (hPre_finite_queries : Cert.Pre_finite_queries.Facts) (hOn_real_rows : Cert.On_real_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_queries (hKernel7Ideal := hKernel7Ideal) (hPre_finite_queries := hPre_finite_queries)
    ∧ quiescent_Reference7Ideal (hReference7Ideal := hReference7Ideal)
    ∧ quiescent_Reference7Ideal_pre_finite_queries (hReference7Ideal := hReference7Ideal) (hPre_finite_queries := hPre_finite_queries)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_on_real_rows_pre_finite_scores (hKernelIdeal := hKernelIdeal) (hReferenceIdeal := hReferenceIdeal) (hPre_finite_scores := hPre_finite_scores) (hOn_real_rows := hOn_real_rows)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_queries (hKernel7Ideal := hKernel7Ideal) (hReference7Ideal := hReference7Ideal) (hPre_finite_queries := hPre_finite_queries)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_real_rows.lean ====
abbrev S17920x2048 : Shape := ⟨2, ![17920, 2048]⟩
abbrev S17920x128 : Shape := ⟨2, ![17920, 128]⟩
abbrev S8x2176x2048 : Shape := ⟨3, ![8, 2176, 2048]⟩
abbrev S_ : Shape := ⟨0, ![]⟩
abbrev S17408x2048 : Shape := ⟨2, ![17408, 2048]⟩

class Facts : Prop where
  bcast_S_S8x2176x2048 : S_.BroadcastsInDim S8x2176x2048 (![] : Fin 0 → Fin S8x2176x2048.rank)
  shapeCasts_S8x2176x2048_S17408x2048 : S8x2176x2048.ShapeCasts S17408x2048

variable [Facts]

def fn {F : FTy → Type} [FloatOps F] (main_arg0 : FVec F S17920x2048 .bf16) (main_arg1 : FVec F S17920x2048 .bf16) (main_arg2 : FVec F S17920x2048 .bf16) (main_arg3 : FVec F S17920x128 .bf16) (main_arg4 : FVec F S17920x2048 .bf16) (main_arg5 : FVec F S17920x2048 .f32) : IVec S17408x2048 1 :=
  let main_v0 : IVec S8x2176x2048 32 := iotaInDim S8x2176x2048 32 1
  let main_c : IVec S_ 32 := constantI S_ 32 112#32
  let main_v1 : IVec S8x2176x2048 32 := broadcastInDim S8x2176x2048 ![] bcast_S_S8x2176x2048 main_c
  let main_v2 : IVec S8x2176x2048 1 := cmpi .sge main_v0 main_v1
  let main_v3 : IVec S17408x2048 1 := shapeCast S17408x2048 main_v2 shapeCasts_S8x2176x2048_S17408x2048
  main_v3
-- ==== Pre_finite_inputs.lean ====
abbrev S8x2048x2048 : Shape := ⟨3, ![8, 2048, 2048]⟩
abbrev S128x4x2048 : Shape := ⟨3, ![128, 4, 2048]⟩
abbrev S16x2048 : Shape := ⟨2, ![16, 2048]⟩
abbrev S1x2048 : Shape := ⟨2, ![1, 2048]⟩
abbrev S1x2048x3136 : Shape := ⟨3, ![1, 2048, 3136]⟩
abbrev S1x512 : Shape := ⟨2, ![1, 512]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S128x4x2048 : S_.BroadcastsInDim S128x4x2048 (![] : Fin 0 → Fin S128x4x2048.rank)
  reducesTo_S128x4x2048_S_d0_1_2 : S128x4x2048.ReducesTo [0, 1, 2] S_
  bcast_S_S16x2048 : S_.BroadcastsInDim S16x2048 (![] : Fin 0 → Fin S16x2048.rank)
  reducesTo_S16x2048_S_d0_1 : S16x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1x2048x3136 : S_.BroadcastsInDim S1x2048x3136 (![] : Fin 0 → Fin S1x2048x3136.rank)
  reducesTo_S1x2048x3136_S_d0_1_2 : S1x2048x3136.ReducesTo [0, 1, 2] S_

variable [Facts]

def fn_part1 {F : FTy → Type} [FloatOps F] (main_arg4 : FVec F S1x2048x3136 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048x3136 .f32 := Host.absf main_arg4
  let main_cst_6 : FVec F S_ .f32 := constant S_ .f32 0x7F800000#32
  let main_v20 : FVec F S1x2048x3136 .f32 := broadcastInDim S1x2048x3136 ![] bcast_S_S1x2048x3136 main_cst_6
  let main_v21 : IVec S1x2048x3136 1 := cmpf .olt main_v19 main_v20
  let main_c_7 : IVec S_ 1 := constantI S_ 1 1#1
  let main_v22 : IVec S_ 1 := (fun x v => Host.reduce IntOp.andi x v reducesTo_S1x2048x3136_S_d0_1_2 h_S_) main_v21 main_c_7
  let main_v23 : IVec S_ 1 := andi main_v18 main_v22
  main_v23

def fn {F : FTy → Type} [FloatOps F] (main_arg0 : FVec F S8x2048x2048 .f32) (main_arg1 : FVec F S128x4x2048 .f32) (main_arg2 : FVec F S16x2048 .f32) (main_arg3 : FVec F S1x2048 .f32) (main_arg4 : FVec F S1x2048x3136 .f32) (main_arg5 : FVec F S1x512 .f32) (main_arg6 : FVec F S1x512 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S128x4x2048 .f32 := Host.absf main_arg1
  let main_cst_0 : FVec F S_ .f32 := constant S_ .f32 0x7F800000#32
  let main_v5 : FVec F S128x4x2048 .f32 := broadcastInDim S128x4x2048 ![] bcast_S_S128x4x2048 main_cst_0
  let main_v6 : IVec S128x4x2048 1 := cmpf .olt main_v4 main_v5
  let main_c_1 : IVec S_ 1 := constantI S_ 1 1#1
  let main_v7 : IVec S_ 1 := (fun x v => Host.reduce IntOp.andi x v reducesTo_S128x4x2048_S_d0_1_2 h_S_) main_v6 main_c_1
  let main_v8 : IVec S_ 1 := andi main_v3 main_v7
  let main_v9 : FVec F S16x2048 .f32 := Host.absf main_arg2
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_v13 main_v16
-- ==== Pre_finite_queries.lean ====
abbrev S17920x512 : Shape := ⟨2, ![17920, 512]⟩
abbrev S1x512x16x192 : Shape := ⟨4, ![1, 512, 16, 192]⟩
abbrev S1x512x16x128 : Shape := ⟨4, ![1, 512, 16, 128]⟩
abbrev S_ : Shape := ⟨0, ![]⟩

class Facts : Prop where
  bitsLt_bf16_f32 : FTy.bits .bf16 < FTy.bits .f32
  bcast_S_S17920x512 : S_.BroadcastsInDim S17920x512 (![] : Fin 0 → Fin S17920x512.rank)
  reducesTo_S17920x512_S_d0_1 : S17920x512.ReducesTo [0, 1] S_
  h_S_ : 0 < S_.numel
  bcast_S_S1x512x16x192 : S_.BroadcastsInDim S1x512x16x192 (![] : Fin 0 → Fin S1x512x16x192.rank)
  reducesTo_S1x512x16x192_S_d0_1_2_3 : S1x512x16x192.ReducesTo [0, 1, 2, 3] S_

variable [Facts]

def fn {F : FTy → Type} [FloatOps F] (main_arg0 : FVec F S17920x512 .bf16) (main_arg1 : FVec F S17920x512 .f32) (main_arg2 : FVec F S1x512x16x192 .f32) (main_arg3 : FVec F S1x512x16x128 .f32) (main_arg4 : FVec F S1x512x16x128 .f32) : IVec S_ 1 :=
  let main_v0 : FVec F S17920x512 .f32 := (extf .f32 · bitsLt_bf16_f32) main_arg0
  let main_v1 : FVec F S17920x512 .f32 := Host.absf main_v0
  let main_cst : FVec F S_ .f32 := constant S_ .f32 0x7F800000#32
  let main_v2 : FVec F S17920x512 .f32 := broadcastInDim S17920x512 ![] bcast_S_S17920x512 main_cst
  let main_v3 : IVec S17920x512 1 := cmpf .olt main_v1 main_v2
  let main_c : IVec S_ 1 := constantI S_ 1 1#1
  let main_v4 : IVec S_ 1 := (fun x v => Host.reduce IntOp.andi x v reducesTo_S17920x512_S_d0_1 h_S_) main_v3 main_c
  let main_v5 : FVec F S1x512x16x192 .f32 := Host.absf main_arg2
  let main_cst_0 : FVec F S_ .f32 := constant S_ .f32 0x7F800000#32
  let main_v6 : FVec F S1x512x16x192 .f32 := broadcastInDim S1x512x16x192 ![] bcast_S_S1x512x16x192 main_cst_0
  let main_v7 : IVec S1x512x16x192 1 := cmpf .olt main_v5 main_v6
  let main_c_1 : IVec S_ 1 := constantI S_ 1 1#1
  let main_v8 : IVec S_ 1 := (fun x v => Host.reduce IntOp.andi x v reducesTo_S1x512x16x192_S_d0_1_2_3 h_S_) main_v7 main_c_1
  let main_v9 : IVec S_ 1 := andi main_v4 main_v8
  main_v9
-- ==== Pre_finite_scores.lean ====
abbrev S17920x2048 : Shape := ⟨2, ![17920, 2048]⟩
abbrev S17920x128 : Shape := ⟨2, ![17920, 128]⟩
abbrev S_ : Shape := ⟨0, ![]⟩

class Facts : Prop where
  bitsLt_bf16_f32 : FTy.bits .bf16 < FTy.bits .f32
  bcast_S_S17920x2048 : S_.BroadcastsInDim S17920x2048 (![] : Fin 0 → Fin S17920x2048.rank)
  reducesTo_S17920x2048_S_d0_1 : S17920x2048.ReducesTo [0, 1] S_
  h_S_ : 0 < S_.numel
  bcast_S_S17920x128 : S_.BroadcastsInDim S17920x128 (![] : Fin 0 → Fin S17920x128.rank)
  reducesTo_S17920x128_S_d0_1 : S17920x128.ReducesTo [0, 1] S_

variable [Facts]

def fn_part1 {F : FTy → Type} [FloatOps F] (main_v16 : IVec S_ 1) (main_v17 : FVec F S17920x128 .f32) : IVec S_ 1 :=
  let main_v18 : FVec F S17920x128 .f32 := Host.absf main_v17
  let main_cst_4 : FVec F S_ .f32 := constant S_ .f32 0x7F800000#32
  let main_v19 : FVec F S17920x128 .f32 := broadcastInDim S17920x128 ![] bcast_S_S17920x128 main_cst_4
  let main_v20 : IVec S17920x128 1 := cmpf .olt main_v18 main_v19
  let main_c_5 : IVec S_ 1 := constantI S_ 1 1#1
  let main_v21 : IVec S_ 1 := (fun x v => Host.reduce IntOp.andi x v reducesTo_S17920x128_S_d0_1 h_S_) main_v20 main_c_5
  let main_v22 : IVec S_ 1 := andi main_v16 main_v21
  main_v22

def fn {F : FTy → Type} [FloatOps F] (main_arg0 : FVec F S17920x2048 .bf16) (main_arg1 : FVec F S17920x2048 .bf16) (main_arg2 : FVec F S17920x2048 .bf16) (main_arg3 : FVec F S17920x128 .bf16) (main_arg4 : FVec F S17920x2048 .bf16) (main_arg5 : FVec F S17920x2048 .f32) : IVec S_ 1 :=
  let main_v0 : FVec F S17920x2048 .f32 := (extf .f32 · bitsLt_bf16_f32) main_arg0
  let main_v1 : FVec F S17920x2048 .f32 := Host.absf main_v0
  let main_cst : FVec F S_ .f32 := constant S_ .f32 0x7F800000#32
  let main_v2 : FVec F S17920x2048 .f32 := broadcastInDim S17920x2048 ![] bcast_S_S17920x2048 main_cst
  let main_v3 : IVec S17920x2048 1 := cmpf .olt main_v1 main_v2
  let main_c : IVec S_ 1 := constantI S_ 1 1#1
  let main_v4 : IVec S_ 1 := (fun x v => Host.reduce IntOp.andi x v reducesTo_S17920x2048_S_d0_1 h_S_) main_v3 main_c
  let main_v5 : FVec F S17920x2048 .f32 := (extf .f32 · bitsLt_bf16_f32) main_arg1
  let main_v6 : FVec F S17920x2048 .f32 := Host.absf main_v5
  let main_cst_0 : FVec F S_ .f32 := constant S_ .f32 0x7F800000#32
  let main_v7 : FVec F S17920x2048 .f32 := broadcastInDim S17920x2048 ![] bcast_S_S17920x2048 main_cst_0
  let main_v8 : IVec S17920x2048 1 := cmpf .olt main_v6 main_v7
  let main_c_1 : IVec S_ 1 := constantI S_ 1 1#1
  let main_v9 : IVec S_ 1 := (fun x v => Host.reduce IntOp.andi x v reducesTo_S17920x2048_S_d0_1 h_S_) main_v8 main_c_1
  let main_v10 : IVec S_ 1 := andi main_v4 main_v9
  let main_v11 : FVec F S17920x2048 .f32 := (extf .f32 · bitsLt_bf16_f32) main_arg2
  let main_v12 : FVec F S17920x2048 .f32 := Host.absf main_v11
  let main_cst_2 : FVec F S_ .f32 := constant S_ .f32 0x7F800000#32
  let main_v13 : FVec F S17920x2048 .f32 := broadcastInDim S17920x2048 ![] bcast_S_S17920x2048 main_cst_2
  let main_v14 : IVec S17920x2048 1 := cmpf .olt main_v12 main_v13
  let main_c_3 : IVec S_ 1 := constantI S_ 1 1#1
  let main_v15 : IVec S_ 1 := (fun x v => Host.reduce IntOp.andi x v reducesTo_S17920x2048_S_d0_1 h_S_) main_v14 main_c_3
  let main_v16 : IVec S_ 1 := andi main_v10 main_v15
  let main_v17 : FVec F S17920x128 .f32 := (extf .f32 · bitsLt_bf16_f32) main_arg3
  fn_part1 (F := F) main_v16 main_v17
-- ==== Kernel.lean ====
abbrev S17920x2048 : Shape := ⟨2, ![17920, 2048]⟩
abbrev S17920x128 : Shape := ⟨2, ![17920, 128]⟩
abbrev S17408x2048 : Shape := ⟨2, ![17408, 2048]⟩
abbrev S2176x128 : Shape := ⟨2, ![2176, 128]⟩
abbrev S512x128 : Shape := ⟨2, ![512, 128]⟩
abbrev S512x256 : Shape := ⟨2, ![512, 256]⟩
abbrev S400x128 : Shape := ⟨2, ![400, 128]⟩
abbrev S400x256 : Shape := ⟨2, ![400, 256]⟩
abbrev S512x400 : Shape := ⟨2, ![512, 400]⟩
abbrev S512 : Shape := ⟨1, ![512]⟩
abbrev S512x1 : Shape := ⟨2, ![512, 1]⟩
abbrev S512x512 : Shape := ⟨2, ![512, 512]⟩
abbrev S912x128 : Shape := ⟨2, ![912, 128]⟩
abbrev S912x256 : Shape := ⟨2, ![912, 256]⟩
abbrev S512x912 : Shape := ⟨2, ![512, 912]⟩
abbrev S640x128 : Shape := ⟨2, ![640, 128]⟩
abbrev S640x256 : Shape := ⟨2, ![640, 256]⟩
abbrev S640x640 : Shape := ⟨2, ![640, 640]⟩
abbrev S640 : Shape := ⟨1, ![640]⟩
abbrev S640x1 : Shape := ⟨2, ![640, 1]⟩
abbrev S1424x128 : Shape := ⟨2, ![1424, 128]⟩
abbrev S1424x256 : Shape := ⟨2, ![1424, 256]⟩
abbrev S640x1424 : Shape := ⟨2, ![640, 1424]⟩

abbrev nBuf : Space → Nat
  | .hbm => 7
  | .vmem => 14
  | .smem => 0
  | _ => 0

abbrev bufTy : (tb : Table) → Fin (tcTables nBuf tb) → BufTy
  | .hbm, ⟨0, _⟩ => ⟨S17920x2048, .bf16⟩
  | .hbm, ⟨1, _⟩ => ⟨S17920x2048, .bf16⟩
  | .hbm, ⟨2, _⟩ => ⟨S17920x2048, .bf16⟩
  | .hbm, ⟨3, _⟩ => ⟨S17920x128, .bf16⟩
  | .hbm, ⟨4, _⟩ => ⟨S17920x2048, .bf16⟩
  | .hbm, ⟨5, _⟩ => ⟨S17920x2048, .f32⟩
  | .hbm, ⟨6, _⟩ => ⟨S17408x2048, .bf16⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S2176x128, .bf16⟩
  | .local _ .vmem, ⟨8, _⟩ => ⟨S2176x128, .bf16⟩
  | .local _ .vmem, ⟨9, _⟩ => ⟨S2176x128, .bf16⟩
  | .local _ .vmem, ⟨10, _⟩ => ⟨S2176x128, .f32⟩
  | .local _ .vmem, ⟨11, _⟩ => ⟨S2176x128, .f32⟩
  | .local _ .vmem, ⟨12, _⟩ => ⟨S2176x128, .bf16⟩
  | .local _ .vmem, ⟨13, _⟩ => ⟨S2176x128, .bf16⟩
  | _, _ => ⟨S17920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "scale" => some (((Real.sqrt 192)⁻¹ : ℝ) : EReal)
  | _ => none
-- ==== ReferenceIdeal.lean ====
abbrev S17920x2048 : Shape := ⟨2, ![17920, 2048]⟩
abbrev S17920x128 : Shape := ⟨2, ![17920, 128]⟩
abbrev S17408x2048 : Shape := ⟨2, ![17408, 2048]⟩
abbrev S8x2176x16x128 : Shape := ⟨4, ![8, 2176, 16, 128]⟩
abbrev S17408x128 : Shape := ⟨2, ![17408, 128]⟩
abbrev S8x2176x128 : Shape := ⟨3, ![8, 2176, 128]⟩
abbrev S8x2176x2048 : Shape := ⟨3, ![8, 2176, 2048]⟩
abbrev S2176 : Shape := ⟨1, ![2176]⟩
abbrev S_ : Shape := ⟨0, ![]⟩
abbrev S8x16x2176x2176 : Shape := ⟨4, ![8, 16, 2176, 2176]⟩
abbrev S8x2176x2176x16 : Shape := ⟨4, ![8, 2176, 2176, 16]⟩
abbrev S1x2176 : Shape := ⟨2, ![1, 2176]⟩
abbrev S2176x1 : Shape := ⟨2, ![2176, 1]⟩
abbrev S2176x2176 : Shape := ⟨2, ![2176, 2176]⟩
abbrev S8x16x2176 : Shape := ⟨3, ![8, 16, 2176]⟩
abbrev S8x16x2176x1 : Shape := ⟨4, ![8, 16, 2176, 1]⟩
abbrev S8x16x128x2176 : Shape := ⟨4, ![8, 16, 128, 2176]⟩

abbrev nBuf : Space → Nat
  | .hbm => 80
  | .vmem => 0
  | .smem => 0
  | _ => 0

abbrev bufTy : (tb : Table) → Fin (tcTables nBuf tb) → BufTy
  | .hbm, ⟨0, _⟩ => ⟨S17920x2048, .bf16⟩
  | .hbm, ⟨1, _⟩ => ⟨S17920x2048, .bf16⟩
  | .hbm, ⟨2, _⟩ => ⟨S17920x2048, .bf16⟩
  | .hbm, ⟨3, _⟩ => ⟨S17920x128, .bf16⟩
  | .hbm, ⟨4, _⟩ => ⟨S17920x2048, .bf16⟩
  | .hbm, ⟨5, _⟩ => ⟨S17920x2048, .f32⟩
  | .hbm, ⟨6, _⟩ => ⟨S17920x2048, .f32⟩
  | .hbm, ⟨7, _⟩ => ⟨S17408x2048, .f32⟩
  | .hbm, ⟨8, _⟩ => ⟨S8x2176x16x128, .f32⟩
  | .hbm, ⟨9, _⟩ => ⟨S17920x2048, .f32⟩
  | .hbm, ⟨10, _⟩ => ⟨S17408x2048, .f32⟩
  | .hbm, ⟨11, _⟩ => ⟨S8x2176x16x128, .f32⟩
  | .hbm, ⟨12, _⟩ => ⟨S17920x2048, .f32⟩
  | .hbm, ⟨13, _⟩ => ⟨S17408x2048, .f32⟩
  | .hbm, ⟨14, _⟩ => ⟨S8x2176x16x128, .f32⟩
  | .hbm, ⟨15, _⟩ => ⟨S17920x2048, .f32⟩
  | .hbm, ⟨16, _⟩ => ⟨S17408x2048, .f32⟩
  | .hbm, ⟨17, _⟩ => ⟨S8x2176x16x128, .f32⟩
  | .hbm, ⟨18, _⟩ => ⟨S17920x128, .f32⟩
  | .hbm, ⟨19, _⟩ => ⟨S17408x128, .f32⟩
  | .hbm, ⟨20, _⟩ => ⟨S8x2176x128, .f32⟩
  | .hbm, ⟨21, _⟩ => ⟨S17408x2048, .f32⟩
  | .hbm, ⟨22, _⟩ => ⟨S8x2176x2048, .f32⟩
  | .hbm, ⟨23, _⟩ => ⟨S2176, .i32⟩
  | .hbm, ⟨24, _⟩ => ⟨S_, .i32⟩
  | .hbm, ⟨25, _⟩ => ⟨S2176, .i32⟩
  | .hbm, ⟨26, _⟩ => ⟨S2176, .i32⟩
  | .hbm, ⟨27, _⟩ => ⟨S8x16x2176x2176, .f32⟩
  | .hbm, ⟨28, _⟩ => ⟨S8x2176x2176x16, .f32⟩
  | .hbm, ⟨29, _⟩ => ⟨S8x16x2176x2176, .f32⟩
  | .hbm, ⟨30, _⟩ => ⟨S8x16x2176x2176, .f32⟩
  | .hbm, ⟨31, _⟩ => ⟨S_, .f32⟩
  | .hbm, ⟨32, _⟩ => ⟨S_, .f32⟩
  | .hbm, ⟨33, _⟩ => ⟨S8x16x2176x2176, .f32⟩
  | .hbm, ⟨34, _⟩ => ⟨S8x16x2176x2176, .f32⟩
  | .hbm, ⟨35, _⟩ => ⟨S1x2176, .i32⟩
  | .hbm, ⟨36, _⟩ => ⟨S2176x1, .i32⟩
  | .hbm, ⟨37, _⟩ => ⟨S2176x2176, .i32⟩
  | .hbm, ⟨38, _⟩ => ⟨S2176x2176, .i32⟩
  | .hbm, ⟨39, _⟩ => ⟨S2176x2176, .i1⟩
  | .hbm, ⟨40, _⟩ => ⟨S1x2176, .i32⟩
  | .hbm, ⟨41, _⟩ => ⟨S_, .i32⟩
  | .hbm, ⟨42, _⟩ => ⟨S1x2176, .i32⟩
  | .hbm, ⟨43, _⟩ => ⟨S1x2176, .i1⟩
  | .hbm, ⟨44, _⟩ => ⟨S2176x2176, .i1⟩
  | .hbm, ⟨45, _⟩ => ⟨S2176x2176, .i1⟩
  | .hbm, ⟨46, _⟩ => ⟨S_, .f32⟩
  | .hbm, ⟨47, _⟩ => ⟨S_, .f32⟩
  | .hbm, ⟨48, _⟩ => ⟨S8x16x2176x2176, .i1⟩
  | .hbm, ⟨49, _⟩ => ⟨S8x16x2176x2176, .f32⟩
  | .hbm, ⟨50, _⟩ => ⟨S8x16x2176x2176, .f32⟩
  | .hbm, ⟨51, _⟩ => ⟨S_, .f32⟩
  | .hbm, ⟨52, _⟩ => ⟨S8x16x2176, .f32⟩
  | .hbm, ⟨53, _⟩ => ⟨S_, .f32⟩
  | .hbm, ⟨54, _⟩ => ⟨S8x16x2176, .f32⟩
  | .hbm, ⟨55, _⟩ => ⟨S8x16x2176, .f32⟩
  | .hbm, ⟨56, _⟩ => ⟨S8x16x2176x1, .f32⟩
  | .hbm, ⟨57, _⟩ => ⟨S8x16x2176x2176, .f32⟩
  | .hbm, ⟨58, _⟩ => ⟨S8x16x2176x2176, .f32⟩
  | .hbm, ⟨59, _⟩ => ⟨S8x16x2176x2176, .f32⟩
  | .hbm, ⟨60, _⟩ => ⟨S_, .f32⟩
  | .hbm, ⟨61, _⟩ => ⟨S8x16x2176, .f32⟩
  | .hbm, ⟨62, _⟩ => ⟨S8x16x2176x1, .f32⟩
  | .hbm, ⟨63, _⟩ => ⟨S8x16x2176x2176, .f32⟩
  | .hbm, ⟨64, _⟩ => ⟨S8x16x2176x2176, .f32⟩
  | .hbm, ⟨65, _⟩ => ⟨S8x16x128x2176, .f32⟩
  | .hbm, ⟨66, _⟩ => ⟨S8x2176x16x128, .f32⟩
  | .hbm, ⟨67, _⟩ => ⟨S8x2176x2048, .f32⟩
  | .hbm, ⟨68, _⟩ => ⟨S8x2176x2048, .f32⟩
  | .hbm, ⟨69, _⟩ => ⟨S8x2176x2048, .f32⟩
  | .hbm, ⟨70, _⟩ => ⟨S_, .f32⟩
  | .hbm, ⟨71, _⟩ => ⟨S8x2176x2048, .f32⟩
  | .hbm, ⟨72, _⟩ => ⟨S8x2176x2048, .f32⟩
  | .hbm, ⟨73, _⟩ => ⟨S_, .f32⟩
  | .hbm, ⟨74, _⟩ => ⟨S8x2176x2048, .f32⟩
  | .hbm, ⟨75, _⟩ => ⟨S8x2176x2048, .f32⟩
  | .hbm, ⟨76, _⟩ => ⟨S8x2176x2048, .f32⟩
  | .hbm, ⟨77, _⟩ => ⟨S8x2176x2048, .f32⟩
  | .hbm, ⟨78, _⟩ => ⟨S8x2176x2048, .bf16⟩
  | .hbm, ⟨79, _⟩ => ⟨S17408x2048, .bf16⟩
  | _, _ => ⟨S17920x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Kernel2.lean ====
abbrev S8x2048x2048 : Shape := ⟨3, ![8, 2048, 2048]⟩
abbrev S128x4x2048 : Shape := ⟨3, ![128, 4, 2048]⟩
abbrev S16x2048 : Shape := ⟨2, ![16, 2048]⟩
abbrev S1x2048 : Shape := ⟨2, ![1, 2048]⟩
abbrev S1x2048x3136 : Shape := ⟨3, ![1, 2048, 3136]⟩
abbrev S1x512 : Shape := ⟨2, ![1, 512]⟩
abbrev S_ : Shape := ⟨0, ![]⟩
abbrev S112x2048 : Shape := ⟨2, ![112, 2048]⟩
abbrev S1x2048x2048 : Shape := ⟨3, ![1, 2048, 2048]⟩
abbrev S2048x2048 : Shape := ⟨2, ![2048, 2048]⟩
abbrev S512x2048 : Shape := ⟨2, ![512, 2048]⟩
abbrev S10992x2048 : Shape := ⟨2, ![10992, 2048]⟩
abbrev S6928x2048 : Shape := ⟨2, ![6928, 2048]⟩
abbrev S17920x2048 : Shape := ⟨2, ![17920, 2048]⟩
abbrev S32 : Shape := ⟨1, ![32]⟩
abbrev S2176 : Shape := ⟨1, ![2176]⟩
abbrev S2176x1 : Shape := ⟨2, ![2176, 1]⟩
abbrev S1x32 : Shape := ⟨2, ![1, 32]⟩
abbrev S2176x32 : Shape := ⟨2, ![2176, 32]⟩
abbrev S2176x64 : Shape := ⟨2, ![2176, 64]⟩
abbrev S2176x128 : Shape := ⟨2, ![2176, 128]⟩
abbrev S1x2176x1x128 : Shape := ⟨4, ![1, 2176, 1, 128]⟩
abbrev S8x2176x1x128 : Shape := ⟨4, ![8, 2176, 1, 128]⟩
abbrev S17408x128 : Shape := ⟨2, ![17408, 128]⟩
abbrev S4 : Shape := ⟨1, ![4]⟩
abbrev S4x1 : Shape := ⟨2, ![4, 1]⟩
abbrev S4x32 : Shape := ⟨2, ![4, 32]⟩
abbrev S4x64 : Shape := ⟨2, ![4, 64]⟩
abbrev S4x128 : Shape := ⟨2, ![4, 128]⟩
abbrev S1x4x1x128 : Shape := ⟨4, ![1, 4, 1, 128]⟩
abbrev S128x4x1x128 : Shape := ⟨4, ![128, 4, 1, 128]⟩
abbrev S512x128 : Shape := ⟨2, ![512, 128]⟩
abbrev S17920x128 : Shape := ⟨2, ![17920, 128]⟩
abbrev S2048x3136 : Shape := ⟨2, ![2048, 3136]⟩
abbrev S2048x64 : Shape := ⟨2, ![2048, 64]⟩
abbrev S2048x1024 : Shape := ⟨2, ![2048, 1024]⟩
abbrev S2048x128 : Shape := ⟨2, ![2048, 128]⟩
abbrev S2048x32 : Shape := ⟨2, ![2048, 32]⟩
abbrev S2048x3328 : Shape := ⟨2, ![2048, 3328]⟩
abbrev S2048 : Shape := ⟨1, ![2048]⟩
abbrev S512 : Shape := ⟨1, ![512]⟩
abbrev S17920x512 : Shape := ⟨2, ![17920, 512]⟩
abbrev S17920x64 : Shape := ⟨2, ![17920, 64]⟩
abbrev S512x512 : Shape := ⟨2, ![512, 512]⟩
abbrev S512x64 : Shape := ⟨2, ![512, 64]⟩
abbrev S512x1 : Shape := ⟨2, ![512, 1]⟩
abbrev S2048x512 : Shape := ⟨2, ![2048, 512]⟩
abbrev S512x1024 : Shape := ⟨2, ![512, 1024]⟩
abbrev S2048x256 : Shape := ⟨2, ![2048, 256]⟩
abbrev S512x256 : Shape := ⟨2, ![512, 256]⟩

abbrev nBuf : Space → Nat
  | .hbm => 114
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S128x4x2048, .f32⟩
  | .hbm, ⟨2, _⟩ => ⟨S16x2048, .f32⟩
  | .hbm, ⟨3, _⟩ => ⟨S1x2048, .f32⟩
  | .hbm, ⟨4, _⟩ => ⟨S1x2048x3136, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S112x2048, .f32⟩
  | .hbm, ⟨9, _⟩ => ⟨S1x2048x2048, .f32⟩
  | .hbm, ⟨10, _⟩ => ⟨S2048x2048, .f32⟩
  | .hbm, ⟨11, _⟩ => ⟨S1x2048x2048, .f32⟩
  | .hbm, ⟨12, _⟩ => ⟨S2048x2048, .f32⟩
  | .hbm, ⟨13, _⟩ => ⟨S1x2048x2048, .f32⟩
  | .hbm, ⟨14, _⟩ => ⟨S2048x2048, .f32⟩
  | .hbm, ⟨15, _⟩ => ⟨S1x2048x2048, .f32⟩
  | .hbm, ⟨16, _⟩ => ⟨S2048x2048, .f32⟩
  | .hbm, ⟨17, _⟩ => ⟨S1x2048x2048, .f32⟩
  | .hbm, ⟨18, _⟩ => ⟨S2048x2048, .f32⟩
  | .hbm, ⟨19, _⟩ => ⟨S1x2048x2048, .f32⟩
  | .hbm, ⟨20, _⟩ => ⟨S2048x2048, .f32⟩
  | .hbm, ⟨21, _⟩ => ⟨S1x2048x2048, .f32⟩
  | .hbm, ⟨22, _⟩ => ⟨S2048x2048, .f32⟩
  | .hbm, ⟨23, _⟩ => ⟨S1x2048x2048, .f32⟩
  | .hbm, ⟨24, _⟩ => ⟨S2048x2048, .f32⟩
  | .hbm, ⟨25, _⟩ => ⟨S512x2048, .f32⟩
  | .hbm, ⟨26, _⟩ => ⟨S10992x2048, .f32⟩
  | .hbm, ⟨27, _⟩ => ⟨S6928x2048, .f32⟩
  | .hbm, ⟨28, _⟩ => ⟨S17920x2048, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S2176, .i32⟩
  | .hbm, ⟨38, _⟩ => ⟨S_, .i32⟩
  | .hbm, ⟨39, _⟩ => ⟨S2176, .i32⟩
  | .hbm, ⟨40, _⟩ => ⟨S2176, .i32⟩
  | .hbm, ⟨41, _⟩ => ⟨S2176, .f32⟩
  | .hbm, ⟨42, _⟩ => ⟨S2176x1, .f32⟩
  | .hbm, ⟨43, _⟩ => ⟨S1x32, .f32⟩
  | .hbm, ⟨44, _⟩ => ⟨S2176x32, .f32⟩
  | .hbm, ⟨45, _⟩ => ⟨S2176x32, .f32⟩
  | .hbm, ⟨46, _⟩ => ⟨S2176x32, .f32⟩
  | .hbm, ⟨47, _⟩ => ⟨S_, .f32⟩
  | .hbm, ⟨48, _⟩ => ⟨S2176x64, .f32⟩
  | .hbm, ⟨49, _⟩ => ⟨S2176x32, .f32⟩
  | .hbm, ⟨50, _⟩ => ⟨S2176x32, .f32⟩
  | .hbm, ⟨51, _⟩ => ⟨S2176x128, .f32⟩
  | .hbm, ⟨52, _⟩ => ⟨S1x2176x1x128, .f32⟩
  | .hbm, ⟨53, _⟩ => ⟨S8x2176x1x128, .f32⟩
  | .hbm, ⟨54, _⟩ => ⟨S17408x128, .f32⟩
  | .hbm, ⟨55, _⟩ => ⟨S2176x32, .f32⟩
  | .hbm, ⟨56, _⟩ => ⟨S2176x32, .f32⟩
  | .hbm, ⟨57, _⟩ => ⟨S2176x128, .f32⟩
  | .hbm, ⟨58, _⟩ => ⟨S1x2176x1x128, .f32⟩
  | .hbm, ⟨59, _⟩ => ⟨S8x2176x1x128, .f32⟩
  | .hbm, ⟨60, _⟩ => ⟨S17408x128, .f32⟩
  | .hbm, ⟨61, _⟩ => ⟨S4, .i32⟩
  | .hbm, ⟨62, _⟩ => ⟨S_, .i32⟩
  | .hbm, ⟨63, _⟩ => ⟨S4, .i32⟩
  | .hbm, ⟨64, _⟩ => ⟨S4, .i32⟩
  | .hbm, ⟨65, _⟩ => ⟨S4, .f32⟩
  | .hbm, ⟨66, _⟩ => ⟨S4x1, .f32⟩
  | .hbm, ⟨67, _⟩ => ⟨S1x32, .f32⟩
  | .hbm, ⟨68, _⟩ => ⟨S4x32, .f32⟩
  | .hbm, ⟨69, _⟩ => ⟨S4x32, .f32⟩
  | .hbm, ⟨70, _⟩ => ⟨S4x32, .f32⟩
  | .hbm, ⟨71, _⟩ => ⟨S_, .f32⟩
  | .hbm, ⟨72, _⟩ => ⟨S4x64, .f32⟩
  | .hbm, ⟨73, _⟩ => ⟨S4x32, .f32⟩
  | .hbm, ⟨74, _⟩ => ⟨S4x32, .f32⟩
  | .hbm, ⟨75, _⟩ => ⟨S4x128, .f32⟩
  | .hbm, ⟨76, _⟩ => ⟨S1x4x1x128, .f32⟩
  | .hbm, ⟨77, _⟩ => ⟨S128x4x1x128, .f32⟩
  | .hbm, ⟨78, _⟩ => ⟨S512x128, .f32⟩
  | .hbm, ⟨79, _⟩ => ⟨S4x32, .f32⟩
  | .hbm, ⟨80, _⟩ => ⟨S4x32, .f32⟩
  | .hbm, ⟨81, _⟩ => ⟨S4x128, .f32⟩
  | .hbm, ⟨82, _⟩ => ⟨S1x4x1x128, .f32⟩
  | .hbm, ⟨83, _⟩ => ⟨S128x4x1x128, .f32⟩
  | .hbm, ⟨84, _⟩ => ⟨S512x128, .f32⟩
  | .hbm, ⟨85, _⟩ => ⟨S17920x128, .f32⟩
  | .hbm, ⟨86, _⟩ => ⟨S17920x128, .f32⟩
  | .hbm, ⟨87, _⟩ => ⟨S2048x3136, .f32⟩
  | .hbm, ⟨88, _⟩ => ⟨S2048x64, .f32⟩
  | .hbm, ⟨89, _⟩ => ⟨S2048x1024, .f32⟩
  | .hbm, ⟨90, _⟩ => ⟨S2048x2048, .f32⟩
  | .hbm, ⟨91, _⟩ => ⟨S_, .f32⟩
  | .hbm, ⟨92, _⟩ => ⟨S2048x64, .f32⟩
  | .hbm, ⟨93, _⟩ => ⟨S2048x128, .f32⟩
  | .hbm, ⟨94, _⟩ => ⟨S2048x32, .f32⟩
  | .hbm, ⟨95, _⟩ => ⟨S2048x32, .f32⟩
  | .hbm, ⟨96, _⟩ => ⟨S2048x32, .f32⟩
  | .hbm, ⟨97, _⟩ => ⟨S2048x64, .f32⟩
  | .hbm, ⟨98, _⟩ => ⟨S_, .f32⟩
  | .hbm, ⟨99, _⟩ => ⟨S2048x64, .f32⟩
  | .hbm, ⟨100, _⟩ => ⟨S2048x128, .f32⟩
  | .hbm, ⟨101, _⟩ => ⟨S2048x3328, .f32⟩
  | .hbm, ⟨102, _⟩ => ⟨S2048x3328, .bf16⟩
  | .hbm, ⟨103, _⟩ => ⟨S2048, .f32⟩
  | .hbm, ⟨104, _⟩ => ⟨S1x2048, .f32⟩
  | .hbm, ⟨105, _⟩ => ⟨S512, .f32⟩
  | .hbm, ⟨106, _⟩ => ⟨S1x512, .f32⟩
  | .hbm, ⟨107, _⟩ => ⟨S512, .f32⟩
  | .hbm, ⟨108, _⟩ => ⟨S1x512, .f32⟩
  | .hbm, ⟨109, _⟩ => ⟨S17920x512, .bf16⟩
  | .hbm, ⟨110, _⟩ => ⟨S17920x512, .f32⟩
  | .hbm, ⟨111, _⟩ => ⟨S17920x64, .f32⟩
  | .hbm, ⟨112, _⟩ => ⟨S17920x128, .bf16⟩
  | .hbm, ⟨113, _⟩ => ⟨S17920x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3328, .bf16⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x64, .f32⟩
  | .local _ .vmem, ⟨15, _⟩ => ⟨S512x64, .f32⟩
  | .local _ .vmem, ⟨16, _⟩ => ⟨S512x128, .bf16⟩
  | .local _ .vmem, ⟨17, _⟩ => ⟨S512x128, .bf16⟩
  | .local _ .vmem, ⟨18, _⟩ => ⟨S512x2048, .f32⟩
  | .local _ .vmem, ⟨19, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_5 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_6 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93_0 : Ref sig .tc := ⟨.hbm, 109, rfl⟩
abbrev main_v93_1 : Ref sig .tc := ⟨.hbm, 110, rfl⟩
abbrev main_v93_2 : Ref sig .tc := ⟨.hbm, 111, rfl⟩
abbrev main_v93_3 : Ref sig .tc := ⟨.hbm, 112, rfl⟩
abbrev main_v93_4 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x2048x2048 : Shape := ⟨3, ![8, 2048, 2048]⟩
abbrev S128x4x2048 : Shape := ⟨3, ![128, 4, 2048]⟩
abbrev S16x2048 : Shape := ⟨2, ![16, 2048]⟩
abbrev S1x2048 : Shape := ⟨2, ![1, 2048]⟩
abbrev S1x2048x3136 : Shape := ⟨3, ![1, 2048, 3136]⟩
abbrev S1x512 : Shape := ⟨2, ![1, 512]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S2064 : Shape := ⟨1, ![2064]⟩
abbrev S4 : Shape := ⟨1, ![4]⟩
abbrev S_ : Shape := ⟨0, ![]⟩
abbrev S2048 : Shape := ⟨1, ![2048]⟩
abbrev S8x2064 : Shape := ⟨2, ![8, 2064]⟩
abbrev S8x2064x1 : Shape := ⟨3, ![8, 2064, 1]⟩
abbrev S1x1x2048 : Shape := ⟨3, ![1, 1, 2048]⟩
abbrev S2048x3136 : Shape := ⟨2, ![2048, 3136]⟩
abbrev S8x2064x3136 : Shape := ⟨3, ![8, 2064, 3136]⟩
abbrev S8x2064x512 : Shape := ⟨3, ![8, 2064, 512]⟩
abbrev S8x2064x64 : Shape := ⟨3, ![8, 2064, 64]⟩
abbrev S512 : Shape := ⟨1, ![512]⟩
abbrev S1x1x512 : Shape := ⟨3, ![1, 1, 512]⟩
abbrev S32 : Shape := ⟨1, ![32]⟩
abbrev S2064x1 : Shape := ⟨2, ![2064, 1]⟩
abbrev S1x32 : Shape := ⟨2, ![1, 32]⟩
abbrev S2064x32 : Shape := ⟨2, ![2064, 32]⟩
abbrev S1x2064x32 : Shape := ⟨3, ![1, 2064, 32]⟩
abbrev S8x2064x32 : Shape := ⟨3, ![8, 2064, 32]⟩
abbrev S128x4 : Shape := ⟨2, ![128, 4]⟩
abbrev S128x4x1 : Shape := ⟨3, ![128, 4, 1]⟩
abbrev S128x4x3136 : Shape := ⟨3, ![128, 4, 3136]⟩
abbrev S128x4x512 : Shape := ⟨3, ![128, 4, 512]⟩
abbrev S128x4x64 : Shape := ⟨3, ![128, 4, 64]⟩
abbrev S4x1 : Shape := ⟨2, ![4, 1]⟩
abbrev S4x32 : Shape := ⟨2, ![4, 32]⟩
abbrev S1x4x32 : Shape := ⟨3, ![1, 4, 32]⟩
abbrev S128x4x32 : Shape := ⟨3, ![128, 4, 32]⟩
abbrev S8x2176x512 : Shape := ⟨3, ![8, 2176, 512]⟩
abbrev S17408x512 : Shape := ⟨2, ![17408, 512]⟩
abbrev S512x512 : Shape := ⟨2, ![512, 512]⟩
abbrev S17920x512 : Shape := ⟨2, ![17920, 512]⟩
abbrev S8x2176x64 : Shape := ⟨3, ![8, 2176, 64]⟩
abbrev S17408x64 : Shape := ⟨2, ![17408, 64]⟩
abbrev S512x64 : Shape := ⟨2, ![512, 64]⟩
abbrev S17920x64 : Shape := ⟨2, ![17920, 64]⟩
abbrev S8x2176x2048 : Shape := ⟨3, ![8, 2176, 2048]⟩
abbrev S17408x2048 : Shape := ⟨2, ![17408, 2048]⟩
abbrev S512x2048 : Shape := ⟨2, ![512, 2048]⟩
abbrev S17920x2048 : Shape := ⟨2, ![17920, 2048]⟩
abbrev S17920x128 : Shape := ⟨2, ![17920, 128]⟩

abbrev nBuf : Space → Nat
  | .hbm => 220
  | .vmem => 0
  | .smem => 0
  | _ => 0

abbrev hbmTy0_0 (i : Nat) : BufTy := match i % 128 with
  | 0 => ⟨S8x2048x2048, .f32⟩
  | 1 => ⟨S128x4x2048, .f32⟩
  | 2 => ⟨S16x2048, .f32⟩
  | 3 => ⟨S1x2048, .f32⟩
  | 4 => ⟨S1x2048x3136, .f32⟩
  | 5 => ⟨S1x512, .f32⟩
  | 6 => ⟨S1x512, .f32⟩
  | 7 => ⟨S1x16x2048, .f32⟩
  | 8 => ⟨S8x16x2048, .f32⟩
  | 9 => ⟨S8x2064x2048, .f32⟩
  | 10 => ⟨S2064, .i32⟩
  | 11 => ⟨S4, .i32⟩
  | 12 => ⟨S_, .i32⟩
  | 13 => ⟨S4, .i32⟩
  | 14 => ⟨S4, .i32⟩
  | 15 => ⟨S2048, .f32⟩
  | 16 => ⟨S8x2064x2048, .f32⟩
  | 17 => ⟨S_, .f32⟩
  | 18 => ⟨S8x2064, .f32⟩
  | 19 => ⟨S8x2064x1, .f32⟩
  | 20 => ⟨S_, .f32⟩
  | 21 => ⟨S8x2064x1, .f32⟩
  | 22 => ⟨S8x2064x1, .f32⟩
  | 23 => ⟨S_, .f32⟩
  | 24 => ⟨S8x2064x1, .f32⟩
  | 25 => ⟨S8x2064x1, .f32⟩
  | 26 => ⟨S8x2064x1, .f32⟩
  | 27 => ⟨S8x2064x2048, .f32⟩
  | 28 => ⟨S8x2064x2048, .f32⟩
  | 29 => ⟨S1x1x2048, .f32⟩
  | 30 => ⟨S8x2064x2048, .f32⟩
  | 31 => ⟨S8x2064x2048, .f32⟩
  | 32 => ⟨S2048x3136, .f32⟩
  | 33 => ⟨S8x2064x3136, .f32⟩
  | 34 => ⟨S8x2064x512, .f32⟩
  | 35 => ⟨S8x2064x512, .f32⟩
  | 36 => ⟨S8x2064x64, .f32⟩
  | 37 => ⟨S8x2064x2048, .f32⟩
  | 38 => ⟨S512, .f32⟩
  | 39 => ⟨S8x2064x512, .f32⟩
  | 40 => ⟨S_, .f32⟩
  | 41 => ⟨S8x2064, .f32⟩
  | 42 => ⟨S8x2064x1, .f32⟩
  | 43 => ⟨S_, .f32⟩
  | 44 => ⟨S8x2064x1, .f32⟩
  | 45 => ⟨S8x2064x1, .f32⟩
  | 46 => ⟨S_, .f32⟩
  | 47 => ⟨S8x2064x1, .f32⟩
  | 48 => ⟨S8x2064x1, .f32⟩
  | 49 => ⟨S8x2064x1, .f32⟩
  | 50 => ⟨S8x2064x512, .f32⟩
  | 51 => ⟨S8x2064x512, .f32⟩
  | 52 => ⟨S1x1x512, .f32⟩
  | 53 => ⟨S8x2064x512, .f32⟩
  | 54 => ⟨S8x2064x512, .f32⟩
  | 55 => ⟨S512, .f32⟩
  | 56 => ⟨S8x2064x512, .f32⟩
  | 57 => ⟨S_, .f32⟩
  | 58 => ⟨S8x2064, .f32⟩
  | 59 => ⟨S8x2064x1, .f32⟩
  | 60 => ⟨S_, .f32⟩
  | 61 => ⟨S8x2064x1, .f32⟩
  | 62 => ⟨S8x2064x1, .f32⟩
  | 63 => ⟨S_, .f32⟩
  | 64 => ⟨S8x2064x1, .f32⟩
  | 65 => ⟨S8x2064x1, .f32⟩
  | 66 => ⟨S8x2064x1, .f32⟩
  | 67 => ⟨S8x2064x512, .f32⟩
  | 68 => ⟨S8x2064x512, .f32⟩
  | 69 => ⟨S1x1x512, .f32⟩
  | 70 => ⟨S8x2064x512, .f32⟩
  | 71 => ⟨S8x2064x512, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S2064, .f32⟩
  | 81 => ⟨S2064x1, .f32⟩
  | 82 => ⟨S1x32, .f32⟩
  | 83 => ⟨S2064x32, .f32⟩
  | 84 => ⟨S2064x32, .f32⟩
  | 85 => ⟨S2064x32, .f32⟩
  | 86 => ⟨S2064x32, .f32⟩
  | 87 => ⟨S1x2064x32, .f32⟩
  | 88 => ⟨S2064x32, .f32⟩
  | 89 => ⟨S1x2064x32, .f32⟩
  | 90 => ⟨S8x2064x32, .f32⟩
  | 91 => ⟨S8x2064x32, .f32⟩
  | 92 => ⟨S8x2064x32, .f32⟩
  | 93 => ⟨S8x2064x32, .f32⟩
  | 94 => ⟨S8x2064x32, .f32⟩
  | 95 => ⟨S8x2064x32, .f32⟩
  | 96 => ⟨S8x2064x32, .f32⟩
  | 97 => ⟨S8x2064x32, .f32⟩
  | 98 => ⟨S8x2064x32, .f32⟩
  | 99 => ⟨S8x2064x32, .f32⟩
  | 100 => ⟨S8x2064x32, .f32⟩
  | 101 => ⟨S8x2064x32, .f32⟩
  | 102 => ⟨S8x2064x64, .f32⟩
  | 103 => ⟨S2048, .f32⟩
  | 104 => ⟨S128x4x2048, .f32⟩
  | 105 => ⟨S_, .f32⟩
  | 106 => ⟨S128x4, .f32⟩
  | 107 => ⟨S128x4x1, .f32⟩
  | 108 => ⟨S_, .f32⟩
  | 109 => ⟨S128x4x1, .f32⟩
  | 110 => ⟨S128x4x1, .f32⟩
  | 111 => ⟨S_, .f32⟩
  | 112 => ⟨S128x4x1, .f32⟩
  | 113 => ⟨S128x4x1, .f32⟩
  | 114 => ⟨S128x4x1, .f32⟩
  | 115 => ⟨S128x4x2048, .f32⟩
  | 116 => ⟨S128x4x2048, .f32⟩
  | 117 => ⟨S1x1x2048, .f32⟩
  | 118 => ⟨S128x4x2048, .f32⟩
  | 119 => ⟨S128x4x2048, .f32⟩
  | 120 => ⟨S2048x3136, .f32⟩
  | 121 => ⟨S128x4x3136, .f32⟩
  | 122 => ⟨S128x4x512, .f32⟩
  | 123 => ⟨S128x4x512, .f32⟩
  | 124 => ⟨S128x4x64, .f32⟩
  | 125 => ⟨S128x4x2048, .f32⟩
  | 126 => ⟨S512, .f32⟩
  | 127 => ⟨S128x4x512, .f32⟩
  | _ => ⟨S8x2048x2048, .f32⟩

abbrev hbmTy0_1 (i : Nat) : BufTy := match i % 128 with
  | 0 => ⟨S_, .f32⟩
  | 1 => ⟨S128x4, .f32⟩
  | 2 => ⟨S128x4x1, .f32⟩
  | 3 => ⟨S_, .f32⟩
  | 4 => ⟨S128x4x1, .f32⟩
  | 5 => ⟨S128x4x1, .f32⟩
  | 6 => ⟨S_, .f32⟩
  | 7 => ⟨S128x4x1, .f32⟩
  | 8 => ⟨S128x4x1, .f32⟩
  | 9 => ⟨S128x4x1, .f32⟩
  | 10 => ⟨S128x4x512, .f32⟩
  | 11 => ⟨S128x4x512, .f32⟩
  | 12 => ⟨S1x1x512, .f32⟩
  | 13 => ⟨S128x4x512, .f32⟩
  | 14 => ⟨S128x4x512, .f32⟩
  | 15 => ⟨S512, .f32⟩
  | 16 => ⟨S128x4x512, .f32⟩
  | 17 => ⟨S_, .f32⟩
  | 18 => ⟨S128x4, .f32⟩
  | 19 => ⟨S128x4x1, .f32⟩
  | 20 => ⟨S_, .f32⟩
  | 21 => ⟨S128x4x1, .f32⟩
  | 22 => ⟨S128x4x1, .f32⟩
  | 23 => ⟨S_, .f32⟩
  | 24 => ⟨S128x4x1, .f32⟩
  | 25 => ⟨S128x4x1, .f32⟩
  | 26 => ⟨S128x4x1, .f32⟩
  | 27 => ⟨S128x4x512, .f32⟩
  | 28 => ⟨S128x4x512, .f32⟩
  | 29 => ⟨S1x1x512, .f32⟩
  | 30 => ⟨S128x4x512, .f32⟩
  | 31 => ⟨S128x4x512, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S4, .f32⟩
  | 41 => ⟨S4x1, .f32⟩
  | 42 => ⟨S1x32, .f32⟩
  | 43 => ⟨S4x32, .f32⟩
  | 44 => ⟨S4x32, .f32⟩
  | 45 => ⟨S4x32, .f32⟩
  | 46 => ⟨S4x32, .f32⟩
  | 47 => ⟨S1x4x32, .f32⟩
  | 48 => ⟨S4x32, .f32⟩
  | 49 => ⟨S1x4x32, .f32⟩
  | 50 => ⟨S128x4x32, .f32⟩
  | 51 => ⟨S128x4x32, .f32⟩
  | 52 => ⟨S128x4x32, .f32⟩
  | 53 => ⟨S128x4x32, .f32⟩
  | 54 => ⟨S128x4x32, .f32⟩
  | 55 => ⟨S128x4x32, .f32⟩
  | 56 => ⟨S128x4x32, .f32⟩
  | 57 => ⟨S128x4x32, .f32⟩
  | 58 => ⟨S128x4x32, .f32⟩
  | 59 => ⟨S128x4x32, .f32⟩
  | 60 => ⟨S128x4x32, .f32⟩
  | 61 => ⟨S128x4x32, .f32⟩
  | 62 => ⟨S128x4x64, .f32⟩
  | 63 => ⟨S_, .i32⟩
  | 64 => ⟨S_, .f32⟩
  | 65 => ⟨S8x2176x512, .f32⟩
  | 66 => ⟨S17408x512, .f32⟩
  | 67 => ⟨S512x512, .f32⟩
  | 68 => ⟨S17920x512, .f32⟩
  | 69 => ⟨S_, .i32⟩
  | 70 => ⟨S_, .f32⟩
  | 71 => ⟨S8x2176x512, .f32⟩
  | 72 => ⟨S17408x512, .f32⟩
  | 73 => ⟨S512x512, .f32⟩
  | 74 => ⟨S17920x512, .f32⟩
  | 75 => ⟨S_, .i32⟩
  | 76 => ⟨S_, .f32⟩
  | 77 => ⟨S8x2176x64, .f32⟩
  | 78 => ⟨S17408x64, .f32⟩
  | 79 => ⟨S512x64, .f32⟩
  | 80 => ⟨S17920x64, .f32⟩
  | 81 => ⟨S_, .i32⟩
  | 82 => ⟨S_, .f32⟩
  | 83 => ⟨S8x2176x2048, .f32⟩
  | 84 => ⟨S17408x2048, .f32⟩
  | 85 => ⟨S512x2048, .f32⟩
  | 86 => ⟨S17920x2048, .f32⟩
  | 87 => ⟨S17920x512, .bf16⟩
  | 88 => ⟨S_, .i32⟩
  | 89 => ⟨S_, .f32⟩
  | 90 => ⟨S17920x128, .f32⟩
  | 91 => ⟨S17920x128, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_10 : Ref sig .tc := ⟨.hbm, 105, rfl⟩
abbrev main_v86 : Ref sig .tc := ⟨.hbm, 106, rfl⟩
abbrev main_v87 : Ref sig .tc := ⟨.hbm, 107, rfl⟩
abbrev main_cst_11 : Ref sig .tc := ⟨.hbm, 108, rfl⟩
abbrev main_v88 : Ref sig .tc := ⟨.hbm, 109, rfl⟩
abbrev main_v89 : Ref sig .tc := ⟨.hbm, 110, rfl⟩
abbrev main_cst_12 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_13 : Ref sig .tc := ⟨.hbm, 128, rfl⟩
abbrev main_v106 : Ref sig .tc := ⟨.hbm, 129, rfl⟩
abbrev main_v107 : Ref sig .tc := ⟨.hbm, 130, rfl⟩
abbrev main_cst_14 : Ref sig .tc := ⟨.hbm, 131, rfl⟩
abbrev main_v108 : Ref sig .tc := ⟨.hbm, 132, rfl⟩
abbrev main_v109 : Ref sig .tc := ⟨.hbm, 133, rfl⟩
abbrev main_cst_15 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_16 : Ref sig .tc := ⟨.hbm, 145, rfl⟩
abbrev main_v120 : Ref sig .tc := ⟨.hbm, 146, rfl⟩
abbrev main_v121 : Ref sig .tc := ⟨.hbm, 147, rfl⟩
abbrev main_cst_17 : Ref sig .tc := ⟨.hbm, 148, rfl⟩
abbrev main_v122 : Ref sig .tc := ⟨.hbm, 149, rfl⟩
abbrev main_v123 : Ref sig .tc := ⟨.hbm, 150, rfl⟩
abbrev main_cst_18 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_19 : Ref sig .tc := ⟨.hbm, 162, rfl⟩
abbrev main_v134 : Ref sig .tc := ⟨.hbm, 163, rfl⟩
abbrev main_v135 : Ref sig .tc := ⟨.hbm, 164, rfl⟩
abbrev main_cst_20 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_c_21 : Ref sig .tc := ⟨.hbm, 191, rfl⟩
abbrev main_call0_v0 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_c_22 : Ref sig .tc := ⟨.hbm, 197, rfl⟩
abbrev main_call1_v0 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_c_23 : Ref sig .tc := ⟨.hbm, 203, rfl⟩
abbrev main_call2_v0 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_c_24 : Ref sig .tc := ⟨.hbm, 209, rfl⟩
abbrev main_call3_v0 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_c_25 : Ref sig .tc := ⟨.hbm, 216, rfl⟩
abbrev main_call4_v0 : Ref sig .tc := ⟨.hbm, 217, rfl⟩
abbrev main_v178 : Ref sig .tc := ⟨.hbm, 218, rfl⟩
abbrev main_v179 : Ref sig .tc := ⟨.hbm, 219, rfl⟩

abbrev nD : Nat := 1
abbrev τ : Topo := Topo.v7x

variable {F : FTy → Type} [FloatOps F]
-- ==== Kernel3.lean ====
abbrev S17920x2048 : Shape := ⟨2, ![17920, 2048]⟩
abbrev S1x2048 : Shape := ⟨2, ![1, 2048]⟩
abbrev S1x2048x4608 : Shape := ⟨3, ![1, 2048, 4608]⟩
abbrev S2048x4608 : Shape := ⟨2, ![2048, 4608]⟩
abbrev S2048 : Shape := ⟨1, ![2048]⟩
abbrev S17920x256 : Shape := ⟨2, ![17920, 256]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S2048x256 : Shape := ⟨2, ![2048, 256]⟩

abbrev nBuf : Space → Nat
  | .hbm => 11
  | .vmem => 12
  | .smem => 0
  | _ => 0

abbrev bufTy : (tb : Table) → Fin (tcTables nBuf tb) → BufTy
  | .hbm, ⟨0, _⟩ => ⟨S17920x2048, .f32⟩
  | .hbm, ⟨1, _⟩ => ⟨S1x2048, .f32⟩
  | .hbm, ⟨2, _⟩ => ⟨S1x2048x4608, .f32⟩
  | .hbm, ⟨3, _⟩ => ⟨S2048x4608, .f32⟩
  | .hbm, ⟨4, _⟩ => ⟨S2048x4608, .bf16⟩
  | .hbm, ⟨5, _⟩ => ⟨S2048, .f32⟩
  | .hbm, ⟨6, _⟩ => ⟨S1x2048, .f32⟩
  | .hbm, ⟨7, _⟩ => ⟨S17920x2048, .bf16⟩
  | .hbm, ⟨8, _⟩ => ⟨S17920x256, .f32⟩
  | .hbm, ⟨9, _⟩ => ⟨S17920x256, .f32⟩
  | .hbm, ⟨10, _⟩ => ⟨S17920x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4608, .bf16⟩
  | .local _ .vmem, ⟨4, _⟩ => ⟨S512x2048, .bf16⟩
  | .local _ .vmem, ⟨5, _⟩ => ⟨S512x2048, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x2048, .f32⟩
  | .local _ .vmem, ⟨11, _⟩ => ⟨S512x2048, .f32⟩
  | _, _ => ⟨S17920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S17920x2048 : Shape := ⟨2, ![17920, 2048]⟩
abbrev S1x2048 : Shape := ⟨2, ![1, 2048]⟩
abbrev S1x2048x4608 : Shape := ⟨3, ![1, 2048, 4608]⟩
abbrev S2048 : Shape := ⟨1, ![2048]⟩
abbrev S_ : Shape := ⟨0, ![]⟩
abbrev S17920 : Shape := ⟨1, ![17920]⟩
abbrev S17920x1 : Shape := ⟨2, ![17920, 1]⟩
abbrev S2048x4608 : Shape := ⟨2, ![2048, 4608]⟩
abbrev S17920x4608 : Shape := ⟨2, ![17920, 4608]⟩
abbrev S17920x256 : Shape := ⟨2, ![17920, 256]⟩

abbrev nBuf : Space → Nat
  | .hbm => 27
  | .vmem => 0
  | .smem => 0
  | _ => 0

abbrev bufTy : (tb : Table) → Fin (tcTables nBuf tb) → BufTy
  | .hbm, ⟨0, _⟩ => ⟨S17920x2048, .f32⟩
  | .hbm, ⟨1, _⟩ => ⟨S1x2048, .f32⟩
  | .hbm, ⟨2, _⟩ => ⟨S1x2048x4608, .f32⟩
  | .hbm, ⟨3, _⟩ => ⟨S2048, .f32⟩
  | .hbm, ⟨4, _⟩ => ⟨S17920x2048, .f32⟩
  | .hbm, ⟨5, _⟩ => ⟨S_, .f32⟩
  | .hbm, ⟨6, _⟩ => ⟨S17920, .f32⟩
  | .hbm, ⟨7, _⟩ => ⟨S17920x1, .f32⟩
  | .hbm, ⟨8, _⟩ => ⟨S_, .f32⟩
  | .hbm, ⟨9, _⟩ => ⟨S17920x1, .f32⟩
  | .hbm, ⟨10, _⟩ => ⟨S17920x1, .f32⟩
  | .hbm, ⟨11, _⟩ => ⟨S_, .f32⟩
  | .hbm, ⟨12, _⟩ => ⟨S17920x1, .f32⟩
  | .hbm, ⟨13, _⟩ => ⟨S17920x1, .f32⟩
  | .hbm, ⟨14, _⟩ => ⟨S17920x1, .f32⟩
  | .hbm, ⟨15, _⟩ => ⟨S17920x2048, .f32⟩
  | .hbm, ⟨16, _⟩ => ⟨S17920x2048, .f32⟩
  | .hbm, ⟨17, _⟩ => ⟨S1x2048, .f32⟩
  | .hbm, ⟨18, _⟩ => ⟨S17920x2048, .f32⟩
  | .hbm, ⟨19, _⟩ => ⟨S17920x2048, .f32⟩
  | .hbm, ⟨20, _⟩ => ⟨S2048x4608, .f32⟩
  | .hbm, ⟨21, _⟩ => ⟨S17920x4608, .f32⟩
  | .hbm, ⟨22, _⟩ => ⟨S17920x2048, .f32⟩
  | .hbm, ⟨23, _⟩ => ⟨S17920x256, .f32⟩
  | .hbm, ⟨24, _⟩ => ⟨S17920x256, .f32⟩
  | .hbm, ⟨25, _⟩ => ⟨S17920x2048, .f32⟩
  | .hbm, ⟨26, _⟩ => ⟨S17920x2048, .bf16⟩
  | _, _ => ⟨S17920x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel4.lean ====
abbrev S17920x2048 : Shape := ⟨2, ![17920, 2048]⟩
abbrev S17408x2048 : Shape := ⟨2, ![17408, 2048]⟩
abbrev S1x2048x2048 : Shape := ⟨3, ![1, 2048, 2048]⟩
abbrev S2048 : Shape := ⟨1, ![2048]⟩
abbrev S2048x2048 : Shape := ⟨2, ![2048, 2048]⟩
abbrev S1x2048 : Shape := ⟨2, ![1, 2048]⟩
abbrev S8x2048x2048 : Shape := ⟨3, ![8, 2048, 2048]⟩
abbrev S128x2048 : Shape := ⟨2, ![128, 2048]⟩
abbrev S1x128x2048 : Shape := ⟨3, ![1, 128, 2048]⟩
abbrev S128 : Shape := ⟨1, ![128]⟩
abbrev S128x1 : Shape := ⟨2, ![128, 1]⟩

abbrev nBuf : Space → Nat
  | .hbm => 8
  | .vmem => 8
  | .smem => 0
  | _ => 0

abbrev bufTy : (tb : Table) → Fin (tcTables nBuf tb) → BufTy
  | .hbm, ⟨0, _⟩ => ⟨S17920x2048, .f32⟩
  | .hbm, ⟨1, _⟩ => ⟨S17408x2048, .bf16⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S8x2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S2048x2048, .bf16⟩
  | .local _ .vmem, ⟨5, _⟩ => ⟨S1x2048, .f32⟩
  | .local _ .vmem, ⟨6, _⟩ => ⟨S1x128x2048, .f32⟩
  | .local _ .vmem, ⟨7, _⟩ => ⟨S1x128x2048, .f32⟩
  | _, _ => ⟨S17920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c1_i32 : BitVec 32 := 1#32
  let v1 : BitVec 32 := Scalar.addi v0 c1_i32
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c1_i32 : BitVec 32 := 1#32
  let v1 : BitVec 32 := Scalar.addi v0 c1_i32
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S17920x2048 : Shape := ⟨2, ![17920, 2048]⟩
abbrev S17408x2048 : Shape := ⟨2, ![17408, 2048]⟩
abbrev S1x2048x2048 : Shape := ⟨3, ![1, 2048, 2048]⟩
abbrev S2048 : Shape := ⟨1, ![2048]⟩
abbrev S8x2176x2048 : Shape := ⟨3, ![8, 2176, 2048]⟩
abbrev S8x2064x2048 : Shape := ⟨3, ![8, 2064, 2048]⟩
abbrev S2048x2048 : Shape := ⟨2, ![2048, 2048]⟩
abbrev S_ : Shape := ⟨0, ![]⟩
abbrev S8x2064 : Shape := ⟨2, ![8, 2064]⟩
abbrev S8x2064x1 : Shape := ⟨3, ![8, 2064, 1]⟩
abbrev S1x1x2048 : Shape := ⟨3, ![1, 1, 2048]⟩
abbrev S8x2048x2048 : Shape := ⟨3, ![8, 2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S17920x2048, .f32⟩
  | .hbm, ⟨1, _⟩ => ⟨S17408x2048, .bf16⟩
  | .hbm, ⟨2, _⟩ => ⟨S1x2048x2048, .f32⟩
  | .hbm, ⟨3, _⟩ => ⟨S2048, .f32⟩
  | .hbm, ⟨4, _⟩ => ⟨S17408x2048, .f32⟩
  | .hbm, ⟨5, _⟩ => ⟨S8x2176x2048, .f32⟩
  | .hbm, ⟨6, _⟩ => ⟨S8x2064x2048, .f32⟩
  | .hbm, ⟨7, _⟩ => ⟨S17408x2048, .f32⟩
  | .hbm, ⟨8, _⟩ => ⟨S8x2176x2048, .f32⟩
  | .hbm, ⟨9, _⟩ => ⟨S8x2064x2048, .f32⟩
  | .hbm, ⟨10, _⟩ => ⟨S2048x2048, .f32⟩
  | .hbm, ⟨11, _⟩ => ⟨S8x2064x2048, .f32⟩
  | .hbm, ⟨12, _⟩ => ⟨S8x2064x2048, .f32⟩
  | .hbm, ⟨13, _⟩ => ⟨S8x2064x2048, .f32⟩
  | .hbm, ⟨14, _⟩ => ⟨S_, .f32⟩
  | .hbm, ⟨15, _⟩ => ⟨S8x2064, .f32⟩
  | .hbm, ⟨16, _⟩ => ⟨S8x2064x1, .f32⟩
  | .hbm, ⟨17, _⟩ => ⟨S_, .f32⟩
  | .hbm, ⟨18, _⟩ => ⟨S8x2064x1, .f32⟩
  | .hbm, ⟨19, _⟩ => ⟨S8x2064x1, .f32⟩
  | .hbm, ⟨20, _⟩ => ⟨S_, .f32⟩
  | .hbm, ⟨21, _⟩ => ⟨S8x2064x1, .f32⟩
  | .hbm, ⟨22, _⟩ => ⟨S8x2064x1, .f32⟩
  | .hbm, ⟨23, _⟩ => ⟨S8x2064x1, .f32⟩
  | .hbm, ⟨24, _⟩ => ⟨S8x2064x2048, .f32⟩
  | .hbm, ⟨25, _⟩ => ⟨S8x2064x2048, .f32⟩
  | .hbm, ⟨26, _⟩ => ⟨S1x1x2048, .f32⟩
  | .hbm, ⟨27, _⟩ => ⟨S8x2064x2048, .f32⟩
  | .hbm, ⟨28, _⟩ => ⟨S8x2064x2048, .f32⟩
  | .hbm, ⟨29, _⟩ => ⟨S8x2048x2048, .f32⟩
  | _, _ => ⟨S17920x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S17920x2048 : Shape := ⟨2, ![17920, 2048]⟩
abbrev S512x2048 : Shape := ⟨2, ![512, 2048]⟩
abbrev S1x2048x2048 : Shape := ⟨3, ![1, 2048, 2048]⟩
abbrev S2048 : Shape := ⟨1, ![2048]⟩
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 8
  | .smem => 0
  | _ => 0

abbrev bufTy : (tb : Table) → Fin (tcTables nBuf tb) → BufTy
  | .hbm, ⟨0, _⟩ => ⟨S17920x2048, .f32⟩
  | .hbm, ⟨1, _⟩ => ⟨S512x2048, .bf16⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S2048x2048, .bf16⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | _, _ => ⟨S17920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c136_i32 : BitVec 32 := 136#32
  let v0 : BitVec 32 := Scalar.addi c136_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S17920x2048 : Shape := ⟨2, ![17920, 2048]⟩
abbrev S512x2048 : Shape := ⟨2, ![512, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S17920x2048, .f32⟩
  | .hbm, ⟨1, _⟩ => ⟨S512x2048, .bf16⟩
  | .hbm, ⟨2, _⟩ => ⟨S1x2048x2048, .f32⟩
  | .hbm, ⟨3, _⟩ => ⟨S2048, .f32⟩
  | .hbm, ⟨4, _⟩ => ⟨S512x2048, .f32⟩
  | .hbm, ⟨5, _⟩ => ⟨S512x2048, .f32⟩
  | .hbm, ⟨6, _⟩ => ⟨S2048x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x2048, .f32⟩
  | .hbm, ⟨21, _⟩ => ⟨S512x2048, .f32⟩
  | .hbm, ⟨22, _⟩ => ⟨S1x2048, .f32⟩
  | .hbm, ⟨23, _⟩ => ⟨S512x2048, .f32⟩
  | .hbm, ⟨24, _⟩ => ⟨S512x2048, .f32⟩
  | _, _ => ⟨S17920x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S8x2048x2048 : Shape := ⟨3, ![8, 2048, 2048]⟩
abbrev S128x4x2048 : Shape := ⟨3, ![128, 4, 2048]⟩
abbrev S16x2048 : Shape := ⟨2, ![16, 2048]⟩
abbrev S17408x2048 : Shape := ⟨2, ![17408, 2048]⟩
abbrev S512x2048 : Shape := ⟨2, ![512, 2048]⟩
abbrev S1x2048x2048 : Shape := ⟨3, ![1, 2048, 2048]⟩
abbrev S_ : Shape := ⟨0, ![]⟩
abbrev S112x2048 : Shape := ⟨2, ![112, 2048]⟩
abbrev S2048x2048 : Shape := ⟨2, ![2048, 2048]⟩
abbrev S10992x2048 : Shape := ⟨2, ![10992, 2048]⟩
abbrev S6928x2048 : Shape := ⟨2, ![6928, 2048]⟩
abbrev S17920x2048 : Shape := ⟨2, ![17920, 2048]⟩

abbrev nBuf : Space → Nat
  | .hbm => 31
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S128x4x2048, .f32⟩
  | .hbm, ⟨2, _⟩ => ⟨S16x2048, .f32⟩
  | .hbm, ⟨3, _⟩ => ⟨S17408x2048, .bf16⟩
  | .hbm, ⟨4, _⟩ => ⟨S512x2048, .bf16⟩
  | .hbm, ⟨5, _⟩ => ⟨S1x2048x2048, .f32⟩
  | .hbm, ⟨6, _⟩ => ⟨S_, .f32⟩
  | .hbm, ⟨7, _⟩ => ⟨S112x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S1x2048x2048, .f32⟩
  | .hbm, ⟨17, _⟩ => ⟨S2048x2048, .f32⟩
  | .hbm, ⟨18, _⟩ => ⟨S1x2048x2048, .f32⟩
  | .hbm, ⟨19, _⟩ => ⟨S2048x2048, .f32⟩
  | .hbm, ⟨20, _⟩ => ⟨S1x2048x2048, .f32⟩
  | .hbm, ⟨21, _⟩ => ⟨S2048x2048, .f32⟩
  | .hbm, ⟨22, _⟩ => ⟨S1x2048x2048, .f32⟩
  | .hbm, ⟨23, _⟩ => ⟨S2048x2048, .f32⟩
  | .hbm, ⟨24, _⟩ => ⟨S512x2048, .f32⟩
  | .hbm, ⟨25, _⟩ => ⟨S10992x2048, .f32⟩
  | .hbm, ⟨26, _⟩ => ⟨S6928x2048, .f32⟩
  | .hbm, ⟨27, _⟩ => ⟨S17920x2048, .f32⟩
  | .hbm, ⟨28, _⟩ => ⟨S2048x2048, .f32⟩
  | .hbm, ⟨29, _⟩ => ⟨S2048x2048, .bf16⟩
  | .hbm, ⟨30, _⟩ => ⟨S17920x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![35], ![false]⟩

def k0_cond1 (i : grid0.Coords) : BitVec 1 :=
  let arg0 : BitVec 32 := BitVec.ofNat 32 (i 0).val
  let c34_i32 : BitVec 32 := 34#32
  let v0 : BitVec 1 := Scalar.cmpi .slt arg0 c34_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c34_i32_0 : BitVec 32 := 34#32
  let v3 : BitVec 1 := Scalar.cmpi .sge arg0 c34_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.minsi arg0 c33_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c34_i32 : BitVec 32 := 34#32
  let v0 : BitVec 32 := Scalar.subi arg0 c34_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8x2048x2048 : Shape := ⟨3, ![8, 2048, 2048]⟩
abbrev S128x4x2048 : Shape := ⟨3, ![128, 4, 2048]⟩
abbrev S16x2048 : Shape := ⟨2, ![16, 2048]⟩
abbrev S17408x2048 : Shape := ⟨2, ![17408, 2048]⟩
abbrev S512x2048 : Shape := ⟨2, ![512, 2048]⟩
abbrev S1x2048x2048 : Shape := ⟨3, ![1, 2048, 2048]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S_ : Shape := ⟨0, ![]⟩
abbrev S8x2176x2048 : Shape := ⟨3, ![8, 2176, 2048]⟩
abbrev S2048x2048 : Shape := ⟨2, ![2048, 2048]⟩
abbrev S17920x2048 : Shape := ⟨2, ![17920, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S128x4x2048, .f32⟩
  | .hbm, ⟨2, _⟩ => ⟨S16x2048, .f32⟩
  | .hbm, ⟨3, _⟩ => ⟨S17408x2048, .bf16⟩
  | .hbm, ⟨4, _⟩ => ⟨S512x2048, .bf16⟩
  | .hbm, ⟨5, _⟩ => ⟨S1x2048x2048, .f32⟩
  | .hbm, ⟨6, _⟩ => ⟨S1x16x2048, .f32⟩
  | .hbm, ⟨7, _⟩ => ⟨S8x16x2048, .f32⟩
  | .hbm, ⟨8, _⟩ => ⟨S8x2064x2048, .f32⟩
  | .hbm, ⟨9, _⟩ => ⟨S_, .i32⟩
  | .hbm, ⟨10, _⟩ => ⟨S_, .f32⟩
  | .hbm, ⟨11, _⟩ => ⟨S8x2176x2048, .f32⟩
  | .hbm, ⟨12, _⟩ => ⟨S17408x2048, .f32⟩
  | .hbm, ⟨13, _⟩ => ⟨S8x2176x2048, .f32⟩
  | .hbm, ⟨14, _⟩ => ⟨S2048x2048, .f32⟩
  | .hbm, ⟨15, _⟩ => ⟨S8x2176x2048, .f32⟩
  | .hbm, ⟨16, _⟩ => ⟨S8x2176x2048, .f32⟩
  | .hbm, ⟨17, _⟩ => ⟨S512x2048, .f32⟩
  | .hbm, ⟨18, _⟩ => ⟨S128x4x2048, .f32⟩
  | .hbm, ⟨19, _⟩ => ⟨S2048x2048, .f32⟩
  | .hbm, ⟨20, _⟩ => ⟨S128x4x2048, .f32⟩
  | .hbm, ⟨21, _⟩ => ⟨S128x4x2048, .f32⟩
  | .hbm, ⟨22, _⟩ => ⟨S17408x2048, .f32⟩
  | .hbm, ⟨23, _⟩ => ⟨S512x2048, .f32⟩
  | .hbm, ⟨24, _⟩ => ⟨S17920x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel7.lean ====
abbrev S17920x512 : Shape := ⟨2, ![17920, 512]⟩
abbrev S1x512x16x192 : Shape := ⟨4, ![1, 512, 16, 192]⟩
abbrev S1x512x16x128 : Shape := ⟨4, ![1, 512, 16, 128]⟩
abbrev S32 : Shape := ⟨1, ![32]⟩
abbrev S_ : Shape := ⟨0, ![]⟩
abbrev S2176 : Shape := ⟨1, ![2176]⟩
abbrev S2176x1 : Shape := ⟨2, ![2176, 1]⟩
abbrev S1x32 : Shape := ⟨2, ![1, 32]⟩
abbrev S2176x32 : Shape := ⟨2, ![2176, 32]⟩
abbrev S2176x64 : Shape := ⟨2, ![2176, 64]⟩
abbrev S2176x128 : Shape := ⟨2, ![2176, 128]⟩
abbrev S1x2176x1x128 : Shape := ⟨4, ![1, 2176, 1, 128]⟩
abbrev S8x2176x1x128 : Shape := ⟨4, ![8, 2176, 1, 128]⟩
abbrev S17408x128 : Shape := ⟨2, ![17408, 128]⟩
abbrev S4 : Shape := ⟨1, ![4]⟩
abbrev S4x1 : Shape := ⟨2, ![4, 1]⟩
abbrev S4x32 : Shape := ⟨2, ![4, 32]⟩
abbrev S4x64 : Shape := ⟨2, ![4, 64]⟩
abbrev S4x128 : Shape := ⟨2, ![4, 128]⟩
abbrev S1x4x1x128 : Shape := ⟨4, ![1, 4, 1, 128]⟩
abbrev S128x4x1x128 : Shape := ⟨4, ![128, 4, 1, 128]⟩
abbrev S512x128 : Shape := ⟨2, ![512, 128]⟩
abbrev S17920x128 : Shape := ⟨2, ![17920, 128]⟩
abbrev S512x16x192 : Shape := ⟨3, ![512, 16, 192]⟩
abbrev S512x16x128 : Shape := ⟨3, ![512, 16, 128]⟩
abbrev S512x2048 : Shape := ⟨2, ![512, 2048]⟩
abbrev S512x16x64 : Shape := ⟨3, ![512, 16, 64]⟩
abbrev S512x16x32 : Shape := ⟨3, ![512, 16, 32]⟩
abbrev S17920x2048 : Shape := ⟨2, ![17920, 2048]⟩
abbrev S512x512 : Shape := ⟨2, ![512, 512]⟩
abbrev S512x1024 : Shape := ⟨2, ![512, 1024]⟩

abbrev nBuf : Space → Nat
  | .hbm => 93
  | .vmem => 21
  | .smem => 0
  | _ => 0

abbrev bufTy : (tb : Table) → Fin (tcTables nBuf tb) → BufTy
  | .hbm, ⟨0, _⟩ => ⟨S17920x512, .bf16⟩
  | .hbm, ⟨1, _⟩ => ⟨S17920x512, .f32⟩
  | .hbm, ⟨2, _⟩ => ⟨S1x512x16x192, .f32⟩
  | .hbm, ⟨3, _⟩ => ⟨S1x512x16x128, .f32⟩
  | .hbm, ⟨4, _⟩ => ⟨S1x512x16x128, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2176, .i32⟩
  | .hbm, ⟨14, _⟩ => ⟨S_, .i32⟩
  | .hbm, ⟨15, _⟩ => ⟨S2176, .i32⟩
  | .hbm, ⟨16, _⟩ => ⟨S2176, .i32⟩
  | .hbm, ⟨17, _⟩ => ⟨S2176, .f32⟩
  | .hbm, ⟨18, _⟩ => ⟨S2176x1, .f32⟩
  | .hbm, ⟨19, _⟩ => ⟨S1x32, .f32⟩
  | .hbm, ⟨20, _⟩ => ⟨S2176x32, .f32⟩
  | .hbm, ⟨21, _⟩ => ⟨S2176x32, .f32⟩
  | .hbm, ⟨22, _⟩ => ⟨S2176x32, .f32⟩
  | .hbm, ⟨23, _⟩ => ⟨S_, .f32⟩
  | .hbm, ⟨24, _⟩ => ⟨S2176x64, .f32⟩
  | .hbm, ⟨25, _⟩ => ⟨S2176x32, .f32⟩
  | .hbm, ⟨26, _⟩ => ⟨S2176x32, .f32⟩
  | .hbm, ⟨27, _⟩ => ⟨S2176x128, .f32⟩
  | .hbm, ⟨28, _⟩ => ⟨S1x2176x1x128, .f32⟩
  | .hbm, ⟨29, _⟩ => ⟨S8x2176x1x128, .f32⟩
  | .hbm, ⟨30, _⟩ => ⟨S17408x128, .f32⟩
  | .hbm, ⟨31, _⟩ => ⟨S2176x32, .f32⟩
  | .hbm, ⟨32, _⟩ => ⟨S2176x32, .f32⟩
  | .hbm, ⟨33, _⟩ => ⟨S2176x128, .f32⟩
  | .hbm, ⟨34, _⟩ => ⟨S1x2176x1x128, .f32⟩
  | .hbm, ⟨35, _⟩ => ⟨S8x2176x1x128, .f32⟩
  | .hbm, ⟨36, _⟩ => ⟨S17408x128, .f32⟩
  | .hbm, ⟨37, _⟩ => ⟨S4, .i32⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .f32⟩
  | .hbm, ⟨42, _⟩ => ⟨S4x1, .f32⟩
  | .hbm, ⟨43, _⟩ => ⟨S1x32, .f32⟩
  | .hbm, ⟨44, _⟩ => ⟨S4x32, .f32⟩
  | .hbm, ⟨45, _⟩ => ⟨S4x32, .f32⟩
  | .hbm, ⟨46, _⟩ => ⟨S4x32, .f32⟩
  | .hbm, ⟨47, _⟩ => ⟨S_, .f32⟩
  | .hbm, ⟨48, _⟩ => ⟨S4x64, .f32⟩
  | .hbm, ⟨49, _⟩ => ⟨S4x32, .f32⟩
  | .hbm, ⟨50, _⟩ => ⟨S4x32, .f32⟩
  | .hbm, ⟨51, _⟩ => ⟨S4x128, .f32⟩
  | .hbm, ⟨52, _⟩ => ⟨S1x4x1x128, .f32⟩
  | .hbm, ⟨53, _⟩ => ⟨S128x4x1x128, .f32⟩
  | .hbm, ⟨54, _⟩ => ⟨S512x128, .f32⟩
  | .hbm, ⟨55, _⟩ => ⟨S4x32, .f32⟩
  | .hbm, ⟨56, _⟩ => ⟨S4x32, .f32⟩
  | .hbm, ⟨57, _⟩ => ⟨S4x128, .f32⟩
  | .hbm, ⟨58, _⟩ => ⟨S1x4x1x128, .f32⟩
  | .hbm, ⟨59, _⟩ => ⟨S128x4x1x128, .f32⟩
  | .hbm, ⟨60, _⟩ => ⟨S512x128, .f32⟩
  | .hbm, ⟨61, _⟩ => ⟨S17920x128, .f32⟩
  | .hbm, ⟨62, _⟩ => ⟨S17920x128, .f32⟩
  | .hbm, ⟨63, _⟩ => ⟨S512x16x192, .f32⟩
  | .hbm, ⟨64, _⟩ => ⟨S512x16x128, .f32⟩
  | .hbm, ⟨65, _⟩ => ⟨S512x2048, .f32⟩
  | .hbm, ⟨66, _⟩ => ⟨S512x2048, .bf16⟩
  | .hbm, ⟨67, _⟩ => ⟨S512x16x64, .f32⟩
  | .hbm, ⟨68, _⟩ => ⟨S_, .f32⟩
  | .hbm, ⟨69, _⟩ => ⟨S512x16x64, .f32⟩
  | .hbm, ⟨70, _⟩ => ⟨S512x16x128, .f32⟩
  | .hbm, ⟨71, _⟩ => ⟨S512x2048, .f32⟩
  | .hbm, ⟨72, _⟩ => ⟨S512x2048, .bf16⟩
  | .hbm, ⟨73, _⟩ => ⟨S512x16x64, .f32⟩
  | .hbm, ⟨74, _⟩ => ⟨S512x16x32, .f32⟩
  | .hbm, ⟨75, _⟩ => ⟨S512x16x32, .f32⟩
  | .hbm, ⟨76, _⟩ => ⟨S512x16x32, .f32⟩
  | .hbm, ⟨77, _⟩ => ⟨S512x16x64, .f32⟩
  | .hbm, ⟨78, _⟩ => ⟨S_, .f32⟩
  | .hbm, ⟨79, _⟩ => ⟨S512x16x64, .f32⟩
  | .hbm, ⟨80, _⟩ => ⟨S512x16x128, .f32⟩
  | .hbm, ⟨81, _⟩ => ⟨S512x2048, .f32⟩
  | .hbm, ⟨82, _⟩ => ⟨S512x2048, .bf16⟩
  | .hbm, ⟨83, _⟩ => ⟨S512x16x128, .f32⟩
  | .hbm, ⟨84, _⟩ => ⟨S512x2048, .f32⟩
  | .hbm, ⟨85, _⟩ => ⟨S512x2048, .bf16⟩
  | .hbm, ⟨86, _⟩ => ⟨S512x16x128, .f32⟩
  | .hbm, ⟨87, _⟩ => ⟨S512x2048, .f32⟩
  | .hbm, ⟨88, _⟩ => ⟨S512x2048, .bf16⟩
  | .hbm, ⟨89, _⟩ => ⟨S17920x2048, .bf16⟩
  | .hbm, ⟨90, _⟩ => ⟨S17920x2048, .bf16⟩
  | .hbm, ⟨91, _⟩ => ⟨S17920x2048, .bf16⟩
  | .hbm, ⟨92, _⟩ => ⟨S17920x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | _, _ => ⟨S17920x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76_0 : Ref sig .tc := ⟨.hbm, 89, rfl⟩
abbrev main_v76_1 : Ref sig .tc := ⟨.hbm, 90, rfl⟩
abbrev main_v76_2 : Ref sig .tc := ⟨.hbm, 91, rfl⟩
abbrev main_v76_3 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S17920x512 : Shape := ⟨2, ![17920, 512]⟩
abbrev S1x512x16x192 : Shape := ⟨4, ![1, 512, 16, 192]⟩
abbrev S1x512x16x128 : Shape := ⟨4, ![1, 512, 16, 128]⟩
abbrev S512x16x192 : Shape := ⟨3, ![512, 16, 192]⟩
abbrev S17920x16x192 : Shape := ⟨3, ![17920, 16, 192]⟩
abbrev S2176 : Shape := ⟨1, ![2176]⟩
abbrev S_ : Shape := ⟨0, ![]⟩
abbrev S4 : Shape := ⟨1, ![4]⟩
abbrev S17408x16x64 : Shape := ⟨3, ![17408, 16, 64]⟩
abbrev S8x2176x16x64 : Shape := ⟨4, ![8, 2176, 16, 64]⟩
abbrev S32 : Shape := ⟨1, ![32]⟩
abbrev S2176x1 : Shape := ⟨2, ![2176, 1]⟩
abbrev S1x32 : Shape := ⟨2, ![1, 32]⟩
abbrev S2176x32 : Shape := ⟨2, ![2176, 32]⟩
abbrev S1x2176x1x32 : Shape := ⟨4, ![1, 2176, 1, 32]⟩
abbrev S8x2176x16x32 : Shape := ⟨4, ![8, 2176, 16, 32]⟩
abbrev S512x16x64 : Shape := ⟨3, ![512, 16, 64]⟩
abbrev S128x4x16x64 : Shape := ⟨4, ![128, 4, 16, 64]⟩
abbrev S4x1 : Shape := ⟨2, ![4, 1]⟩
abbrev S4x32 : Shape := ⟨2, ![4, 32]⟩
abbrev S1x4x1x32 : Shape := ⟨4, ![1, 4, 1, 32]⟩
abbrev S128x4x16x32 : Shape := ⟨4, ![128, 4, 16, 32]⟩
abbrev S17920x16x64 : Shape := ⟨3, ![17920, 16, 64]⟩
abbrev S17920x16x128 : Shape := ⟨3, ![17920, 16, 128]⟩
abbrev S512x16x128 : Shape := ⟨3, ![512, 16, 128]⟩
abbrev S17920x2048 : Shape := ⟨2, ![17920, 2048]⟩

abbrev nBuf : Space → Nat
  | .hbm => 101
  | .vmem => 0
  | .smem => 0
  | _ => 0

abbrev bufTy : (tb : Table) → Fin (tcTables nBuf tb) → BufTy
  | .hbm, ⟨0, _⟩ => ⟨S17920x512, .bf16⟩
  | .hbm, ⟨1, _⟩ => ⟨S17920x512, .f32⟩
  | .hbm, ⟨2, _⟩ => ⟨S1x512x16x192, .f32⟩
  | .hbm, ⟨3, _⟩ => ⟨S1x512x16x128, .f32⟩
  | .hbm, ⟨4, _⟩ => ⟨S1x512x16x128, .f32⟩
  | .hbm, ⟨5, _⟩ => ⟨S17920x512, .f32⟩
  | .hbm, ⟨6, _⟩ => ⟨S512x16x192, .f32⟩
  | .hbm, ⟨7, _⟩ => ⟨S17920x16x192, .f32⟩
  | .hbm, ⟨8, _⟩ => ⟨S2176, .i32⟩
  | .hbm, ⟨9, _⟩ => ⟨S_, .i32⟩
  | .hbm, ⟨10, _⟩ => ⟨S2176, .i32⟩
  | .hbm, ⟨11, _⟩ => ⟨S2176, .i32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S17408x16x64, .f32⟩
  | .hbm, ⟨17, _⟩ => ⟨S8x2176x16x64, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2176, .f32⟩
  | .hbm, ⟨27, _⟩ => ⟨S2176x1, .f32⟩
  | .hbm, ⟨28, _⟩ => ⟨S1x32, .f32⟩
  | .hbm, ⟨29, _⟩ => ⟨S2176x32, .f32⟩
  | .hbm, ⟨30, _⟩ => ⟨S2176x32, .f32⟩
  | .hbm, ⟨31, _⟩ => ⟨S2176x32, .f32⟩
  | .hbm, ⟨32, _⟩ => ⟨S2176x32, .f32⟩
  | .hbm, ⟨33, _⟩ => ⟨S1x2176x1x32, .f32⟩
  | .hbm, ⟨34, _⟩ => ⟨S2176x32, .f32⟩
  | .hbm, ⟨35, _⟩ => ⟨S1x2176x1x32, .f32⟩
  | .hbm, ⟨36, _⟩ => ⟨S8x2176x16x32, .f32⟩
  | .hbm, ⟨37, _⟩ => ⟨S8x2176x16x32, .f32⟩
  | .hbm, ⟨38, _⟩ => ⟨S8x2176x16x32, .f32⟩
  | .hbm, ⟨39, _⟩ => ⟨S8x2176x16x32, .f32⟩
  | .hbm, ⟨40, _⟩ => ⟨S8x2176x16x32, .f32⟩
  | .hbm, ⟨41, _⟩ => ⟨S8x2176x16x32, .f32⟩
  | .hbm, ⟨42, _⟩ => ⟨S8x2176x16x32, .f32⟩
  | .hbm, ⟨43, _⟩ => ⟨S8x2176x16x32, .f32⟩
  | .hbm, ⟨44, _⟩ => ⟨S8x2176x16x32, .f32⟩
  | .hbm, ⟨45, _⟩ => ⟨S8x2176x16x32, .f32⟩
  | .hbm, ⟨46, _⟩ => ⟨S8x2176x16x32, .f32⟩
  | .hbm, ⟨47, _⟩ => ⟨S8x2176x16x32, .f32⟩
  | .hbm, ⟨48, _⟩ => ⟨S8x2176x16x64, .f32⟩
  | .hbm, ⟨49, _⟩ => ⟨S512x16x64, .f32⟩
  | .hbm, ⟨50, _⟩ => ⟨S128x4x16x64, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S4, .f32⟩
  | .hbm, ⟨60, _⟩ => ⟨S4x1, .f32⟩
  | .hbm, ⟨61, _⟩ => ⟨S1x32, .f32⟩
  | .hbm, ⟨62, _⟩ => ⟨S4x32, .f32⟩
  | .hbm, ⟨63, _⟩ => ⟨S4x32, .f32⟩
  | .hbm, ⟨64, _⟩ => ⟨S4x32, .f32⟩
  | .hbm, ⟨65, _⟩ => ⟨S4x32, .f32⟩
  | .hbm, ⟨66, _⟩ => ⟨S1x4x1x32, .f32⟩
  | .hbm, ⟨67, _⟩ => ⟨S4x32, .f32⟩
  | .hbm, ⟨68, _⟩ => ⟨S1x4x1x32, .f32⟩
  | .hbm, ⟨69, _⟩ => ⟨S128x4x16x32, .f32⟩
  | .hbm, ⟨70, _⟩ => ⟨S128x4x16x32, .f32⟩
  | .hbm, ⟨71, _⟩ => ⟨S128x4x16x32, .f32⟩
  | .hbm, ⟨72, _⟩ => ⟨S128x4x16x32, .f32⟩
  | .hbm, ⟨73, _⟩ => ⟨S128x4x16x32, .f32⟩
  | .hbm, ⟨74, _⟩ => ⟨S128x4x16x32, .f32⟩
  | .hbm, ⟨75, _⟩ => ⟨S128x4x16x32, .f32⟩
  | .hbm, ⟨76, _⟩ => ⟨S128x4x16x32, .f32⟩
  | .hbm, ⟨77, _⟩ => ⟨S128x4x16x32, .f32⟩
  | .hbm, ⟨78, _⟩ => ⟨S128x4x16x32, .f32⟩
  | .hbm, ⟨79, _⟩ => ⟨S128x4x16x32, .f32⟩
  | .hbm, ⟨80, _⟩ => ⟨S128x4x16x32, .f32⟩
  | .hbm, ⟨81, _⟩ => ⟨S128x4x16x64, .f32⟩
  | .hbm, ⟨82, _⟩ => ⟨S17408x16x64, .f32⟩
  | .hbm, ⟨83, _⟩ => ⟨S512x16x64, .f32⟩
  | .hbm, ⟨84, _⟩ => ⟨S17920x16x64, .f32⟩
  | .hbm, ⟨85, _⟩ => ⟨S_, .i32⟩
  | .hbm, ⟨86, _⟩ => ⟨S_, .f32⟩
  | .hbm, ⟨87, _⟩ => ⟨S17920x16x128, .f32⟩
  | .hbm, ⟨88, _⟩ => ⟨S512x16x128, .f32⟩
  | .hbm, ⟨89, _⟩ => ⟨S17920x16x128, .f32⟩
  | .hbm, ⟨90, _⟩ => ⟨S512x16x128, .f32⟩
  | .hbm, ⟨91, _⟩ => ⟨S17920x16x128, .f32⟩
  | .hbm, ⟨92, _⟩ => ⟨S17920x16x128, .f32⟩
  | .hbm, ⟨93, _⟩ => ⟨S17920x2048, .f32⟩
  | .hbm, ⟨94, _⟩ => ⟨S17920x2048, .bf16⟩
  | .hbm, ⟨95, _⟩ => ⟨S17920x2048, .f32⟩
  | .hbm, ⟨96, _⟩ => ⟨S17920x2048, .bf16⟩
  | .hbm, ⟨97, _⟩ => ⟨S17920x2048, .f32⟩
  | .hbm, ⟨98, _⟩ => ⟨S17920x2048, .bf16⟩
  | .hbm, ⟨99, _⟩ => ⟨S17920x2048, .f32⟩
  | .hbm, ⟨100, _⟩ => ⟨S17920x2048, .bf16⟩
  | _, _ => ⟨S17920x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_c_4 : Ref sig .tc := ⟨.hbm, 85, rfl⟩
abbrev main_call0_v0 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Kernel8.lean ====
abbrev S17920x2048 : Shape := ⟨2, ![17920, 2048]⟩
abbrev S1x512x16x128 : Shape := ⟨4, ![1, 512, 16, 128]⟩
abbrev S512x16x128 : Shape := ⟨3, ![512, 16, 128]⟩
abbrev S16x128x512 : Shape := ⟨3, ![16, 128, 512]⟩
abbrev S16x512x512 : Shape := ⟨3, ![16, 512, 512]⟩
abbrev S512x128 : Shape := ⟨2, ![512, 128]⟩
abbrev S1x128x512 : Shape := ⟨3, ![1, 128, 512]⟩
abbrev S1x512x512 : Shape := ⟨3, ![1, 512, 512]⟩
abbrev S128x512 : Shape := ⟨2, ![128, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S17920x2048, .bf16⟩
  | .hbm, ⟨1, _⟩ => ⟨S1x512x16x128, .f32⟩
  | .hbm, ⟨2, _⟩ => ⟨S512x16x128, .f32⟩
  | .hbm, ⟨3, _⟩ => ⟨S16x128x512, .f32⟩
  | .hbm, ⟨4, _⟩ => ⟨S16x128x512, .bf16⟩
  | .hbm, ⟨5, _⟩ => ⟨S16x512x512, .bf16⟩
  | .local _ .vmem, ⟨0, _⟩ => ⟨S512x128, .bf16⟩
  | .local _ .vmem, ⟨1, _⟩ => ⟨S512x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | _, _ => ⟨S17920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c34_i32 : BitVec 32 := 34#32
  let c0_i32 : BitVec 32 := 0#32
  ![c34_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S17920x2048 : Shape := ⟨2, ![17920, 2048]⟩
abbrev S1x512x16x128 : Shape := ⟨4, ![1, 512, 16, 128]⟩
abbrev S512x2048 : Shape := ⟨2, ![512, 2048]⟩
abbrev S512x16x128 : Shape := ⟨3, ![512, 16, 128]⟩
abbrev S16x512x512 : Shape := ⟨3, ![16, 512, 512]⟩

abbrev nBuf : Space → Nat
  | .hbm => 8
  | .vmem => 0
  | .smem => 0
  | _ => 0

abbrev bufTy : (tb : Table) → Fin (tcTables nBuf tb) → BufTy
  | .hbm, ⟨0, _⟩ => ⟨S17920x2048, .bf16⟩
  | .hbm, ⟨1, _⟩ => ⟨S1x512x16x128, .f32⟩
  | .hbm, ⟨2, _⟩ => ⟨S17920x2048, .f32⟩
  | .hbm, ⟨3, _⟩ => ⟨S512x2048, .f32⟩
  | .hbm, ⟨4, _⟩ => ⟨S512x16x128, .f32⟩
  | .hbm, ⟨5, _⟩ => ⟨S512x16x128, .f32⟩
  | .hbm, ⟨6, _⟩ => ⟨S16x512x512, .f32⟩
  | .hbm, ⟨7, _⟩ => ⟨S16x512x512, .bf16⟩
  | _, _ => ⟨S17920x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S16x512x512 : Shape := ⟨3, ![16, 512, 512]⟩
abbrev S1x512x16x128 : Shape := ⟨4, ![1, 512, 16, 128]⟩
abbrev S17920x2048 : Shape := ⟨2, ![17920, 2048]⟩
abbrev S512x16x128 : Shape := ⟨3, ![512, 16, 128]⟩
abbrev S512x2048 : Shape := ⟨2, ![512, 2048]⟩
abbrev S1x512x512 : Shape := ⟨3, ![1, 512, 512]⟩
abbrev S512x128 : Shape := ⟨2, ![512, 128]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x512x512, .bf16⟩
  | .hbm, ⟨1, _⟩ => ⟨S1x512x16x128, .f32⟩
  | .hbm, ⟨2, _⟩ => ⟨S17920x2048, .f32⟩
  | .hbm, ⟨3, _⟩ => ⟨S512x16x128, .f32⟩
  | .hbm, ⟨4, _⟩ => ⟨S512x2048, .f32⟩
  | .hbm, ⟨5, _⟩ => ⟨S512x2048, .bf16⟩
  | .hbm, ⟨6, _⟩ => ⟨S512x2048, .bf16⟩
  | .local _ .vmem, ⟨0, _⟩ => ⟨S1x512x512, .bf16⟩
  | .local _ .vmem, ⟨1, _⟩ => ⟨S1x512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | _, _ => ⟨S16x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c34_i32 : BitVec 32 := 34#32
  let c0_i32 : BitVec 32 := 0#32
  ![c34_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16x512x512 : Shape := ⟨3, ![16, 512, 512]⟩
abbrev S1x512x16x128 : Shape := ⟨4, ![1, 512, 16, 128]⟩
abbrev S17920x2048 : Shape := ⟨2, ![17920, 2048]⟩
abbrev S512x16x128 : Shape := ⟨3, ![512, 16, 128]⟩
abbrev S16x128x512 : Shape := ⟨3, ![16, 128, 512]⟩
abbrev S512x2048 : Shape := ⟨2, ![512, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16x512x512, .bf16⟩
  | .hbm, ⟨1, _⟩ => ⟨S1x512x16x128, .f32⟩
  | .hbm, ⟨2, _⟩ => ⟨S17920x2048, .f32⟩
  | .hbm, ⟨3, _⟩ => ⟨S16x512x512, .f32⟩
  | .hbm, ⟨4, _⟩ => ⟨S512x16x128, .f32⟩
  | .hbm, ⟨5, _⟩ => ⟨S16x128x512, .f32⟩
  | .hbm, ⟨6, _⟩ => ⟨S512x16x128, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S512x2048, .bf16⟩
  | _, _ => ⟨S16x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel10.lean ====
abbrev S512x2048 : Shape := ⟨2, ![512, 2048]⟩
abbrev S17920x2048 : Shape := ⟨2, ![17920, 2048]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S17920x2048, .f32⟩
  | .hbm, ⟨2, _⟩ => ⟨S512x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c34_i32 : BitVec 32 := 34#32
  let c0_i32 : BitVec 32 := 0#32
  let c0_i32_0 : BitVec 32 := 0#32
  ![c34_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference10Ideal.lean ====
abbrev S512x2048 : Shape := ⟨2, ![512, 2048]⟩
abbrev S17920x2048 : Shape := ⟨2, ![17920, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S17920x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Proof.Attn.Soft.lean ====
/- Softmax averages over the extended reals, with no program in sight: the average taken in one or two parts of its keys,
   and the average with each weight divided by the denominator first. -/
module

public import Idealize.ShloMosaic.PureOps.Ideal
public import Idealize.ShloMosaic.PureOps.Ideal.Laws

@[expose] public section

noncomputable section

namespace Cert.Soft

open Idealize.ShloMosaic

/-- The largest of finitely many scores, `⊥` when there is none. -/
abbrev top {K : ℕ} (S : Fin K → EReal) : EReal := Finset.fold max ⊥ S Finset.univ

/-- The average of `V` under the softmax weights of the scores `S`, the division by the weights' sum taken last. -/
def avg {K : ℕ} (S V : Fin K → EReal) : EReal :=
  (∑ j, Ideal.exp (S j - top S) * V j) * Ideal.div 1 (∑ j, Ideal.exp (S j - top S))

/-- The largest of the scores is at most `c` exactly when every score is. -/
theorem top_le {K : ℕ} (S : Fin K → EReal) (c : EReal) : top S ≤ c ↔ ∀ j, S j ≤ c := by
  simp [top, Finset.fold_max_le]

/-- A score of `⊥` has weight zero, whatever is subtracted from it. -/
theorem exp_bot_sub (x : EReal) : Ideal.exp (⊥ - x) = 0 := by
  rw [sub_eq_add_neg, EReal.bot_add, Ideal.exp_bot]

/-- A sum over `K` places that vanishes outside the `n` places from `a` on is the sum over those. -/
theorem sum_part {K n a : ℕ} (ha : a + n ≤ K) (f : Fin K → EReal)
    (hf : ∀ j : Fin K, ¬(a ≤ j.val ∧ j.val < a + n) → f j = 0) :
    ∑ i : Fin n, f ⟨a + i.val, by omega⟩ = ∑ j, f j := by
  refine Fintype.sum_of_injective (fun i : Fin n => (⟨a + i.val, by omega⟩ : Fin K)) ?_ _ _ ?_ fun _ => rfl
  · intro i i' h
    have := congrArg Fin.val h
    exact Fin.ext (by simpa using this)
  · intro j hj
    refine hf j fun h => hj ⟨⟨j.val - a, by omega⟩, Fin.ext ?_⟩
    show a + (j.val - a) = j.val
    omega

/-- A sum over `K` places that vanishes outside two neighbouring runs of places is the sum over the second run plus the
    sum over the first. -/
theorem sum_parts {K n n' a d : ℕ} (hd : d = a + n') (ha : d + n ≤ K) (f : Fin K → EReal)
    (hf : ∀ j : Fin K, ¬(a ≤ j.val ∧ j.val < d + n) → f j = 0) :
    ∑ i : Fin n, f ⟨d + i.val, by omega⟩ + ∑ i : Fin n', f ⟨a + i.val, by omega⟩ = ∑ j, f j := by
  have hsplit : ∀ j, f j = (if d ≤ j.val then f j else 0) + (if d ≤ j.val then 0 else f j) := by
    intro j; split <;> simp
  rw [Finset.sum_congr rfl fun j _ => hsplit j, Finset.sum_add_distrib]
  congr 1
  · rw [← sum_part (a := d) (n := n) ha (fun j => if d ≤ j.val then f j else 0)]
    · refine Finset.sum_congr rfl fun i _ => ?_
      rw [if_pos (by simp)]
    · intro j hj
      split
      · exact hf j (by omega)
      · rfl
  · rw [← sum_part (a := a) (n := n') (by omega) (fun j => if d ≤ j.val then 0 else f j)]
    · refine Finset.sum_congr rfl fun i _ => ?_
      rw [if_neg (by simp; omega)]
    · intro j hj
      split
      · rfl
      · exact hf j (by omega)

/-- The softmax average over the `n` keys from `a` on is the average over all `K` keys, when every other key scores `⊥`. -/
theorem one_part {K n a : ℕ} (ha : a + n ≤ K) (S V : Fin K → EReal) (sD vD : Fin n → EReal)
    (hs : ∀ i : Fin n, sD i = S ⟨a + i.val, by omega⟩) (hv : ∀ i : Fin n, vD i = V ⟨a + i.val, by omega⟩)
    (hdead : ∀ j : Fin K, ¬(a ≤ j.val ∧ j.val < a + n) → S j = ⊥) :
    (∑ i, Ideal.exp (sD i - top sD) * vD i) * Ideal.div 1 (∑ i, Ideal.exp (sD i - top sD)) = avg S V := by
  have htop : top sD = top S := by
    refine eq_of_forall_ge_iff fun c => ?_
    rw [top_le, top_le]
    refine ⟨fun h j => ?_, fun h i => by rw [hs]; exact h _⟩
    by_cases hj : a ≤ j.val ∧ j.val < a + n
    · have := h ⟨j.val - a, by omega⟩
      rw [hs] at this
      convert this using 2
      exact Fin.ext (by simp; omega)
    · rw [hdead j hj]; exact bot_le
  rw [avg, htop]
  have h1 := sum_part ha (fun j => Ideal.exp (S j - top S) * V j) fun j hj => by
    simp only [hdead j hj, exp_bot_sub, zero_mul]
  have h2 := sum_part ha (fun j => Ideal.exp (S j - top S)) fun j hj => by simp only [hdead j hj, exp_bot_sub]
  rw [← h1, ← h2]
  simp only [hs, hv]

/-- The softmax average taken in two parts of the keys, the maximum being the larger of the two parts' maxima and the sums
    the sums of the two parts' sums, is the average over all keys, when every key outside the two parts scores `⊥`. -/
theorem two_part {K n n' a d : ℕ} (hd : d = a + n') (ha : d + n ≤ K) (S V : Fin K → EReal) (sD vD : Fin n → EReal)
    (sF vF : Fin n' → EReal)
    (hs : ∀ i : Fin n, sD i = S ⟨d + i.val, by omega⟩) (hv : ∀ i : Fin n, vD i = V ⟨d + i.val, by omega⟩)
    (hs' : ∀ i : Fin n', sF i = S ⟨a + i.val, by omega⟩) (hv' : ∀ i : Fin n', vF i = V ⟨a + i.val, by omega⟩)
    (hdead : ∀ j : Fin K, ¬(a ≤ j.val ∧ j.val < d + n) → S j = ⊥) :
    (∑ i, Ideal.exp (sD i - max (top sD) (top sF)) * vD i + ∑ i, Ideal.exp (sF i - max (top sD) (top sF)) * vF i)
      * Ideal.div 1 (∑ i, Ideal.exp (sD i - max (top sD) (top sF)) + ∑ i, Ideal.exp (sF i - max (top sD) (top sF)))
    = avg S V := by
  have htop : max (top sD) (top sF) = top S := by
    refine eq_of_forall_ge_iff fun c => ?_
    rw [max_le_iff, top_le, top_le, top_le]
    refine ⟨fun h j => ?_, fun h => ⟨fun i => by rw [hs]; exact h _, fun i => by rw [hs']; exact h _⟩⟩
    by_cases hj : a ≤ j.val ∧ j.val < d + n
    · by_cases hj' : d ≤ j.val
      · have := h.1 ⟨j.val - d, by omega⟩
        rw [hs] at this
        convert this using 2
        exact Fin.ext (by simp; omega)
      · have := h.2 ⟨j.val - a, by omega⟩
        rw [hs'] at this
        convert this using 2
        exact Fin.ext (by simp; omega)
    · rw [hdead j hj]; exact bot_le
  rw [avg, htop]
  have h1 := sum_parts hd ha (fun j => Ideal.exp (S j - top S) * V j) fun j hj => by
    simp only [hdead j hj, exp_bot_sub, zero_mul]
  have h2 := sum_parts hd ha (fun j => Ideal.exp (S j - top S)) fun j hj => by simp only [hdead j hj, exp_bot_sub]
  rw [← h1, ← h2]
  simp only [hs, hv, hs', hv']

/-- A nonnegative real factor distributes over a finite sum of extended reals. -/
theorem sum_mul_real {ι : Type*} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih, mul_comm, EReal.left_distrib_of_nonneg_of_ne_top
      (by exact_mod_cast hc) (EReal.coe_ne_top _), mul_comm (c : EReal) (f a), mul_comm (c : EReal) (∑ j ∈ s, f j)]

/-- A sum of real numbers, taken in the extended reals, is the real sum. -/
theorem coe_sum {ι : Type*} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- Dividing every weight by the weights' sum before averaging is the same average, when every score is a real number or
    `⊥` and one is a real number: the weights' sum is then a positive real. -/
theorem avg_weights {K : ℕ} (S V : Fin K → EReal) (htop : ∀ j, S j ≠ ⊤) (j₀ : Fin K) (h₀ : S j₀ ≠ ⊥) :
    ∑ j, V j * Ideal.div (Ideal.exp (S j - top S)) (∑ j, Ideal.exp (S j - top S)) = avg S V := by
  have hM : top S ≠ ⊤ := by
    refine ne_of_lt ?_
    rw [top, Finset.fold_max_lt]
    exact ⟨bot_lt_top, fun j _ => lt_top_iff_ne_top.mpr (htop j)⟩
  have hle : ∀ j, S j ≤ top S := (top_le S (top S)).mp le_rfl
  have hM' : top S ≠ ⊥ := fun h => h₀ (le_bot_iff.mp (h ▸ hle j₀))
  have hw : ∀ j, ∃ w : ℝ, 0 ≤ w ∧ Ideal.exp (S j - top S) = (w : EReal) ∧ (S j ≠ ⊥ → 0 < w) := by
    intro j
    by_cases hj : S j = ⊥
    · exact ⟨0, le_rfl, by rw [hj, exp_bot_sub]; rfl, fun h => absurd hj h⟩
    · refine ⟨Real.exp ((S j).toReal - (top S).toReal), (Real.exp_pos _).le, ?_, fun _ => Real.exp_pos _⟩
      conv_lhs => rw [← EReal.coe_toReal (htop j) hj, ← EReal.coe_toReal hM hM', ← EReal.coe_sub, Ideal.exp_coe]
  choose w hw0 hw hpos using hw
  have hL : 0 < ∑ j, w j := Finset.sum_pos' (fun j _ => hw0 j) ⟨j₀, Finset.mem_univ _, hpos j₀ h₀⟩
  rw [avg]
  simp only [hw, coe_sum]
  rw [Ideal.div_coe hL.ne', one_mul, sum_mul_real _ _ _ (one_div_nonneg.mpr hL.le)]
  refine Finset.sum_congr rfl fun j _ => ?_
  rw [Ideal.div_coe hL.ne', mul_comm ((w j : EReal)) (V j), mul_assoc]

/-- An extended real that is neither infinity. -/
def IsReal (x : EReal) : Prop := ∃ r : ℝ, x = r

/-- Sums of two real numbers are real. -/
theorem IsReal.add {x y : EReal} : IsReal x → IsReal y → IsReal (x + y)
  | ⟨a, ha⟩, ⟨b, hb⟩ => ⟨a + b, by rw [ha, hb, EReal.coe_add]⟩

/-- Products of two real numbers are real. -/
theorem IsReal.mul {x y : EReal} : IsReal x → IsReal y → IsReal (x * y)
  | ⟨a, ha⟩, ⟨b, hb⟩ => ⟨a * b, by rw [ha, hb, EReal.coe_mul]⟩

/-- Finite sums of real numbers are real. -/
theorem IsReal.sum {ι : Type*} (s : Finset ι) (f : ι → EReal) (h : ∀ i, IsReal (f i)) : IsReal (∑ i ∈ s, f i) := by
  choose g hg using h
  exact ⟨∑ i ∈ s, g i, by simp only [hg, coe_sum]⟩

/-- A real number is not `⊤`. -/
theorem IsReal.ne_top {x : EReal} : IsReal x → x ≠ ⊤
  | ⟨_, ha⟩ => ha ▸ EReal.coe_ne_top _

/-- A real number is not `⊥`. -/
theorem IsReal.ne_bot {x : EReal} : IsReal x → x ≠ ⊥
  | ⟨_, ha⟩ => ha ▸ EReal.coe_ne_bot _

/-- An extended real whose magnitude is below `⊤` is real. -/
theorem IsReal.of_abs_lt {x : EReal} (h : max x (-x) < ⊤) : IsReal x := by
  induction x with
  | bot => simp at h
  | top => simp at h
  | coe r => exact ⟨r, rfl⟩

end Cert.Soft

end
-- ==== Proof.Attn.Consts.lean ====
/- The constants of the prompt attention at the ideal instance. -/
module

public import proofs.«01_k».proof.KernelIdeal
public import Idealize.ShloMosaic.PureOps.Ideal
public import Idealize.ShloMosaic.PureOps.Ideal.Laws

@[expose] public section

noncomputable section

namespace Cert.Consts

open Idealize.ShloMosaic

/-- The kernel's score scale is one over the square root of 192. -/
theorem scale : Named.named (F := Ideal) Cert.KernelIdeal.κ "scale" (φ := .f32) 0x3D93CD3A#32 = (((Real.sqrt 192)⁻¹ : ℝ) : EReal) := rfl

/-- The kernel's mask value is `⊥`. -/
theorem mask : Named.named (F := Ideal) Cert.KernelIdeal.κ "mask" (φ := .f32) 0xF149F2CA#32 = ⊥ := rfl

/-- The word of minus infinity is `⊥`. -/
theorem neg_inf : Ideal.ofBits .f32 0xFF800000#32 = ⊥ := by simp [Ideal.ofBits, Ideal.ieee]

/-- The word of infinity is `⊤`. -/
theorem inf : Ideal.ofBits .f32 0x7F800000#32 = ⊤ := by simp [Ideal.ofBits, Ideal.ieee]

/-- The word of 192 is the real 192. -/
theorem c192 : Ideal.ofBits .f32 0x43400000#32 = ((192 : ℝ) : EReal) := by
  simp [Ideal.ofBits, Ideal.ieee, -EReal.coe_mul]; norm_num

end Cert.Consts

end
-- ==== Proof.Attn.Chunks.lean ====
/- One head's block of the prompt attention, chunk of query rows by chunk: each chunk's payload is the softmax average over
   the causal keys. -/
module

public import proofs.«01_k».proof.Proof.Gen.KernelIdeal.Value
public import proofs.«01_k».proof.Proof.Attn.Soft
public import proofs.«01_k».proof.Proof.Attn.Consts
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

/-- The scaled score of key row `j` for query row `r` of one head's blocks. -/
def score (x0 x1 x2 x3 : Vec Ideal S2176x128 .bf16) (r j : Fin 2176) : EReal :=
  (∑ k, x0 (ix2 r k) * x2 (ix2 j k) + ∑ k, x1 (ix2 r k) * x3 (ix2 j k)) * (((Real.sqrt 192)⁻¹ : ℝ) : EReal)

/-- The score where the key is a real row not after the query, `⊥` elsewhere. -/
def masked (x0 x1 x2 x3 : Vec Ideal S2176x128 .bf16) (r j : Fin 2176) : EReal :=
  if 112 ≤ j.val ∧ j.val ≤ r.val then score x0 x1 x2 x3 r j else ⊥

/-- What the kernel leaves at row `r`, lane `d` of one head's block: the softmax average of the values times the gate's silu. -/
def blockOut (x0 x1 x2 x3 x4 : Vec Ideal S2176x128 .bf16) (x5 : Vec Ideal S2176x128 .f32) (r : Fin 2176) (d : Fin 128) : EReal :=
  Cert.Soft.avg (masked x0 x1 x2 x3 r) (fun j => x4 (ix2 j d))
    * (x5 (ix2 r d) * Ideal.div 1 (1 + Ideal.exp (0 - x5 (ix2 r d))))

/-- The kernel's causal comparison of two row numbers, as one of naturals. -/
theorem causal (a b d r : ℕ) (h : a + b < 4096) (h' : d + r < 4096) (x y : EReal) :
    Scalar.select (IntOp.cmpi CmpIPredicate.sle (IntOp.addi (BitVec.ofNat 32 a) (BitVec.ofNat 32 b))
      (IntOp.addi (BitVec.ofNat 32 d) (BitVec.ofNat 32 r))) x y = if a + b ≤ d + r then x else y := by
  have e : ∀ u v : ℕ, u + v < 4096 → (IntOp.addi (BitVec.ofNat 32 u) (BitVec.ofNat 32 v)).toInt = (u + v : ℕ) := by
    intro u v huv
    show (BitVec.ofNat 32 u + BitVec.ofNat 32 v).toInt = _
    rw [← BitVec.ofNat_add, BitVec.toInt_eq_toNat_of_lt] <;> rw [BitVec.toNat_ofNat, Nat.mod_eq_of_lt (by omega)]
    omega
  have hiff : IntOp.cmpi CmpIPredicate.sle (IntOp.addi (BitVec.ofNat 32 a) (BitVec.ofNat 32 b))
      (IntOp.addi (BitVec.ofNat 32 d) (BitVec.ofNat 32 r)) = 1#1 ↔ a + b ≤ d + r := by
    rw [IntOp.cmpi_sle, e _ _ h, e _ _ h']; exact_mod_cast Iff.rfl
  exact if_congr hiff rfl rfl

/-- The first chunk of query rows, 0 to 512, at one row and lane. -/
theorem chunk0 (x0 x1 x2 x3 x4 : Vec Ideal S2176x128 .bf16) (x5 : Vec Ideal S2176x128 .f32) (i : Fin 512) (d : Fin 128) :
    k0_pay4 (k0_pay2 (View.ld x0 (Rect.unit ![0, 0] ![512, 128] inb_S2176x128_S512x128_0_0)) (View.ld x1 (Rect.unit ![0, 0] ![512, 128] inb_S2176x128_S512x128_0_0)) (View.ld x2 (Rect.unit ![112, 0] ![400, 128] inb_S2176x128_S400x128_112_0)) (View.ld x3 (Rect.unit ![112, 0] ![400, 128] inb_S2176x128_S400x128_112_0)) (View.ld x4 (Rect.unit ![112, 0] ![400, 128] inb_S2176x128_S400x128_112_0))) (View.ld x5 (Rect.unit ![0, 0] ![512, 128] inb_S2176x128_S512x128_0_0)) (k0_pay3 (View.ld x5 (Rect.unit ![0, 0] ![512, 128] inb_S2176x128_S512x128_0_0))) (ix2 i d)
      = blockOut x0 x1 x2 x3 x4 x5 ⟨0 + i.val, by omega⟩ d := by
  pointwise [k0_pay4, k0_pay2, k0_pay3]
  simp only [Cert.Consts.scale, Cert.Consts.mask, Cert.Consts.neg_inf]
  unfold blockOut
  refine congrArg₂ (· * ·) (Cert.Soft.one_part (a := 112) (n := 400) (by decide) _ _ _ _ (fun x => ?_) (fun x => rfl) fun j hj => ?_) ?_
  · rw [causal 112 x 0 i (by omega) (by omega)]
    unfold masked score
    refine if_congr (by simp) ?_ rfl
    simp only [Nat.zero_add]
  · exact if_neg fun h => hj (by simp only at h; omega)
  · simp only [Nat.zero_add]

/-- The second chunk of query rows, 512 to 1024, at one row and lane. -/
theorem chunk1 (x0 x1 x2 x3 x4 : Vec Ideal S2176x128 .bf16) (x5 : Vec Ideal S2176x128 .f32) (i : Fin 512) (d : Fin 128) :
    k0_pay9 (k0_pay6 (View.ld x0 (Rect.unit ![512, 0] ![512, 128] inb_S2176x128_S512x128_512_0)) (View.ld x1 (Rect.unit ![512, 0] ![512, 128] inb_S2176x128_S512x128_512_0)) (View.ld x2 (Rect.unit ![512, 0] ![512, 128] inb_S2176x128_S512x128_512_0)) (View.ld x3 (Rect.unit ![512, 0] ![512, 128] inb_S2176x128_S512x128_512_0))) (k0_pay7 (View.ld x0 (Rect.unit ![512, 0] ![512, 128] inb_S2176x128_S512x128_512_0)) (View.ld x1 (Rect.unit ![512, 0] ![512, 128] inb_S2176x128_S512x128_512_0)) (View.ld x2 (Rect.unit ![512, 0] ![512, 128] inb_S2176x128_S512x128_512_0)) (View.ld x3 (Rect.unit ![512, 0] ![512, 128] inb_S2176x128_S512x128_512_0))) (k0_pay8 (View.ld x0 (Rect.unit ![512, 0] ![512, 128] inb_S2176x128_S512x128_512_0)) (View.ld x1 (Rect.unit ![512, 0] ![512, 128] inb_S2176x128_S512x128_512_0)) (View.ld x2 (Rect.unit ![112, 0] ![400, 128] inb_S2176x128_S400x128_112_0)) (View.ld x3 (Rect.unit ![112, 0] ![400, 128] inb_S2176x128_S400x128_112_0))) (View.ld x4 (Rect.unit ![512, 0] ![512, 128] inb_S2176x128_S512x128_512_0)) (View.ld x4 (Rect.unit ![112, 0] ![400, 128] inb_S2176x128_S400x128_112_0)) (View.ld x5 (Rect.unit ![512, 0] ![512, 128] inb_S2176x128_S512x128_512_0)) (ix2 i d)
      = blockOut x0 x1 x2 x3 x4 x5 ⟨512 + i.val, by omega⟩ d := by
  pointwise [k0_pay9, k0_pay6, k0_pay7, k0_pay8, k0_pay5]
  simp only [Cert.Consts.scale, Cert.Consts.mask, Cert.Consts.neg_inf]
  unfold blockOut
  refine congrArg₂ (· * ·) (Cert.Soft.two_part (a := 112) (d := 512) (n := 512) (n' := 400) (by decide) (by decide) _ _ _ _ _ _ (fun x => ?_) (fun x => rfl)
    (fun x => ?_) (fun x => rfl) fun j hj => ?_) rfl
  · rw [causal 512 x 512 i (by omega) (by omega)]
    unfold masked score
    exact if_congr ⟨fun h => ⟨by show 112 ≤ 512 + x.val; omega, h⟩, fun h => h.2⟩ rfl rfl
  · exact (if_pos ⟨by simp, by show 112 + x.val ≤ 512 + i.val; omega⟩).symm
  · exact if_neg fun h => hj (by simp only at h; omega)

/-- The third chunk of query rows, 1024 to 1536, at one row and lane. -/
theorem chunk2 (x0 x1 x2 x3 x4 : Vec Ideal S2176x128 .bf16) (x5 : Vec Ideal S2176x128 .f32) (i : Fin 512) (d : Fin 128) :
    k0_pay18 (k0_pay15 (View.ld x0 (Rect.unit ![1024, 0] ![512, 128] inb_S2176x128_S512x128_1024_0)) (View.ld x1 (Rect.unit ![1024, 0] ![512, 128] inb_S2176x128_S512x128_1024_0)) (View.ld x2 (Rect.unit ![1024, 0] ![512, 128] inb_S2176x128_S512x128_1024_0)) (View.ld x3 (Rect.unit ![1024, 0] ![512, 128] inb_S2176x128_S512x128_1024_0)) (View.ld x2 (Rect.unit ![112, 0] ![912, 128] inb_S2176x128_S912x128_112_0)) (View.ld x3 (Rect.unit ![112, 0] ![912, 128] inb_S2176x128_S912x128_112_0))) (k0_pay16 (View.ld x0 (Rect.unit ![1024, 0] ![512, 128] inb_S2176x128_S512x128_1024_0)) (View.ld x1 (Rect.unit ![1024, 0] ![512, 128] inb_S2176x128_S512x128_1024_0)) (View.ld x2 (Rect.unit ![1024, 0] ![512, 128] inb_S2176x128_S512x128_1024_0)) (View.ld x3 (Rect.unit ![1024, 0] ![512, 128] inb_S2176x128_S512x128_1024_0)) (View.ld x2 (Rect.unit ![112, 0] ![912, 128] inb_S2176x128_S912x128_112_0)) (View.ld x3 (Rect.unit ![112, 0] ![912, 128] inb_S2176x128_S912x128_112_0)) (View.ld x4 (Rect.unit ![1024, 0] ![512, 128] inb_S2176x128_S512x128_1024_0))) (k0_pay17 (View.ld x0 (Rect.unit ![1024, 0] ![512, 128] inb_S2176x128_S512x128_1024_0)) (View.ld x1 (Rect.unit ![1024, 0] ![512, 128] inb_S2176x128_S512x128_1024_0)) (View.ld x2 (Rect.unit ![1024, 0] ![512, 128] inb_S2176x128_S512x128_1024_0)) (View.ld x3 (Rect.unit ![1024, 0] ![512, 128] inb_S2176x128_S512x128_1024_0)) (View.ld x2 (Rect.unit ![112, 0] ![912, 128] inb_S2176x128_S912x128_112_0)) (View.ld x3 (Rect.unit ![112, 0] ![912, 128] inb_S2176x128_S912x128_112_0))) (View.ld x4 (Rect.unit ![112, 0] ![912, 128] inb_S2176x128_S912x128_112_0)) (View.ld x5 (Rect.unit ![1024, 0] ![512, 128] inb_S2176x128_S512x128_1024_0)) (ix2 i d)
      = blockOut x0 x1 x2 x3 x4 x5 ⟨1024 + i.val, by omega⟩ d := by
  pointwise [k0_pay18, k0_pay17, k0_pay16, k0_pay15, k0_pay14, k0_pay13, k0_pay12, k0_pay11, k0_pay10]
  simp only [Cert.Consts.scale, Cert.Consts.mask, Cert.Consts.neg_inf]
  unfold blockOut
  refine congrArg₂ (· * ·) (Cert.Soft.two_part (a := 112) (d := 1024) (n := 512) (n' := 912) (by decide) (by decide) _ _ _ _ _ _ (fun x => ?_) (fun x => rfl)
    (fun x => ?_) (fun x => rfl) fun j hj => ?_) rfl
  · rw [causal 1024 x 1024 i (by omega) (by omega)]
    unfold masked score
    exact if_congr ⟨fun h => ⟨by show 112 ≤ 1024 + x.val; omega, h⟩, fun h => h.2⟩ rfl rfl
  · exact (if_pos ⟨by simp, by show 112 + x.val ≤ 1024 + i.val; omega⟩).symm
  · exact if_neg fun h => hj (by simp only at h; omega)

/-- The last chunk of query rows, 1536 to 2176, at one row and lane. -/
theorem chunk3 (x0 x1 x2 x3 x4 : Vec Ideal S2176x128 .bf16) (x5 : Vec Ideal S2176x128 .f32) (i : Fin 640) (d : Fin 128) :
    k0_pay1 (k0_pay22 (k0_pay19 (View.ld x0 (Rect.unit ![1536, 0] ![640, 128] inb_S2176x128_S640x128_1536_0)) (View.ld x1 (Rect.unit ![1536, 0] ![640, 128] inb_S2176x128_S640x128_1536_0))) (k0_pay20 (View.ld x0 (Rect.unit ![1536, 0] ![640, 128] inb_S2176x128_S640x128_1536_0)) (View.ld x1 (Rect.unit ![1536, 0] ![640, 128] inb_S2176x128_S640x128_1536_0)) (View.ld x2 (Rect.unit ![1536, 0] ![640, 128] inb_S2176x128_S640x128_1536_0)) (View.ld x3 (Rect.unit ![1536, 0] ![640, 128] inb_S2176x128_S640x128_1536_0))) k0_pay21 (iota Kind.tc S640x640 32 [1] iota_S640x640_d1_w32) (1536#32) (View.ld x2 (Rect.unit ![112, 0] ![1424, 128] inb_S2176x128_S1424x128_112_0)) (View.ld x3 (Rect.unit ![112, 0] ![1424, 128] inb_S2176x128_S1424x128_112_0)) (View.ld x4 (Rect.unit ![1536, 0] ![640, 128] inb_S2176x128_S640x128_1536_0)) (View.ld x4 (Rect.unit ![112, 0] ![1424, 128] inb_S2176x128_S1424x128_112_0))) (View.ld x5 (Rect.unit ![1536, 0] ![640, 128] inb_S2176x128_S640x128_1536_0)) (FloatOps.ofBits FTy.f32 0#32) (ix2 i d)
      = blockOut x0 x1 x2 x3 x4 x5 ⟨1536 + i.val, by omega⟩ d := by
  pointwise [k0_pay1, k0_pay22, k0_pay19, k0_pay20, k0_pay21]
  simp only [Cert.Consts.scale, Cert.Consts.mask, Cert.Consts.neg_inf]
  unfold blockOut
  refine congrArg₂ (· * ·) (Cert.Soft.two_part (a := 112) (d := 1536) (n := 640) (n' := 1424) (by decide) (by decide) _ _ _ _ _ _ (fun x => ?_) (fun x => rfl)
    (fun x => ?_) (fun x => rfl) fun j hj => ?_) rfl
  · rw [causal 1536 x 1536 i (by omega) (by omega)]
    unfold masked score
    exact if_congr ⟨fun h => ⟨by show 112 ≤ 1536 + x.val; omega, h⟩, fun h => h.2⟩ rfl rfl
  · exact (if_pos ⟨by simp, by show 112 + x.val ≤ 1536 + i.val; omega⟩).symm
  · exact if_neg fun h => hj (by simp only at h; omega)

end Cert.KernelIdeal.Attn

end
-- ==== Proof.Attn.Final.lean ====
/- The prompt attention's result array after the run: at row `2176 b + r` and lane `128 h + d` it is the block value of batch
   `b` and head `h` at `(r, d)`. -/
module

public import proofs.«01_k».proof.Proof.Attn.Chunks

@[expose] public section

set_option maxRecDepth 16384

noncomputable section

namespace Cert.KernelIdeal.Attn

open Cert.KernelIdeal Cert.KernelIdeal.Gen Idealize.ShloMosaic Idealize.ShloMosaic.TcCoe Idealize.SL.Sem

/-- What the body leaves in the output's staging block, at every row and lane. -/
theorem out_eq (c : Dev nD) (i : grid0.Coords) (arg2 : Memref sig .tc .vmem S2176x128 .bf16) (harg2 : arg2.IsWhole) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .f32) (harg7 : arg7.IsWhole) (arg8 : Memref sig .tc .vmem S2176x128 .bf16) (harg8 : arg8.IsWhole)
    (x0 : Vec Ideal S2176x128 .bf16) (x1 : Vec Ideal S2176x128 .bf16) (x2 : Vec Ideal S2176x128 .bf16) (x3 : Vec Ideal S2176x128 .bf16) (x4 : Vec Ideal S2176x128 .bf16) (x5 : Vec Ideal S2176x128 .f32) (y : S2176x128.Idx) :
    out0_A_6 c i arg2 harg2 arg3 harg3 arg4 harg4 arg5 harg5 arg6 harg6 arg7 harg7 arg8 harg8 x0 x1 x2 x3 x4 x5 y
      = blockOut x0 x1 x2 x3 x4 x5 (y 0) (y 1) := by
  frame_out
  canon_tiles x h using View.cover_of_tiledBy _ ![128, 128] (by sl_kernel_rfl) _
  case piece0 =>
    have e := chunk3 x0 x1 x2 x3 x4 x5 (x 0) (x 1)
    rw [← eq_ix2 x, show (⟨_, _⟩ : Fin 2176) = y 0 from Fin.ext h0.symm, show x 1 = y 1 from Fin.ext h1.symm] at e
    exact e
  case piece1 =>
    have e := chunk2 x0 x1 x2 x3 x4 x5 (x 0) (x 1)
    rw [← eq_ix2 x, show (⟨_, _⟩ : Fin 2176) = y 0 from Fin.ext h0.symm, show x 1 = y 1 from Fin.ext h1.symm] at e
    exact e
  case piece2 =>
    have e := chunk1 x0 x1 x2 x3 x4 x5 (x 0) (x 1)
    rw [← eq_ix2 x, show (⟨_, _⟩ : Fin 2176) = y 0 from Fin.ext h0.symm, show x 1 = y 1 from Fin.ext h1.symm] at e
    exact e
  case piece3 =>
    have e := chunk0 x0 x1 x2 x3 x4 x5 (x 0) (x 1)
    rw [← eq_ix2 x, show (⟨_, _⟩ : Fin 2176) = y 0 from Fin.ext ((Nat.zero_add _).trans h0.symm), show x 1 = y 1 from Fin.ext h1.symm] at e
    exact e

variable (m : (ℓ : Loc nD τ sig) → Buf (Elt Ideal) ℓ) (c : Dev nD)

/-- The block of batch `b` and head `h` of an array of rows. -/
def blk {e : EltTy} (A : S17920x2048.Idx → Elt Ideal e) (b : Fin 8) (h : Fin 16) : Vec Ideal S2176x128 e :=
  fun y => A (ix2 ⟨b.val * 2176 + (y 0).val, by have := b.isLt; have : (y 0).val < 2176 := (y 0).isLt; omega⟩
    ⟨h.val * 128 + (y 1).val, by have := h.isLt; have : (y 1).val < 128 := (y 1).isLt; omega⟩)

/-- The block of batch `b` of the shared rope keys. -/
def blkR {e : EltTy} (A : S17920x128.Idx → Elt Ideal e) (b : Fin 8) : Vec Ideal S2176x128 e :=
  fun y => A (ix2 ⟨b.val * 2176 + (y 0).val, by have := b.isLt; have : (y 0).val < 2176 := (y 0).isLt; omega⟩ (y 1))

/-- The batch of a grid point. -/
abbrev bat (t : Fin grid0.N) : Fin 8 := ⟨t.val / 16, by have := t.isLt; have : grid0.N = 128 := N_0; omega⟩

/-- The head of a grid point. -/
abbrev hd (t : Fin grid0.N) : Fin 16 := ⟨t.val % 16, by omega⟩

/-- The index maps of the seven windows: batch along rows, head along lanes, the shared rope keys at lane block 0. -/
theorem idx : ∀ t : Fin grid0.N, win0_0.index t = ![t.val / 16, t.val % 16] ∧ win0_1.index t = ![t.val / 16, t.val % 16]
    ∧ win0_2.index t = ![t.val / 16, t.val % 16] ∧ win0_3.index t = ![t.val / 16, 0] ∧ win0_4.index t = ![t.val / 16, t.val % 16]
    ∧ win0_5.index t = ![t.val / 16, t.val % 16] ∧ win0_6.index t = ![t.val / 16, t.val % 16] := by decide +kernel

/-- Window 0's staged block is the query array's block of the point's batch and head. -/
theorem read0 (t : Fin cfg0.N) : X0_0 m c t = blk (m ((c : Thread nD τ).loc main_arg0)) (bat t) (hd t) := by
  funext y
  unfold X0_0 Pipeline.Window.fill
  rw [dif_pos (moved0_0 t _)]
  obtain ⟨e0, e1, e2, e3, e4, e5, e6⟩ := idx t
  unfold blk
  blk_ext [iblk, V, e0]

/-- Window 1's staged block is the rope query array's block of the point's batch and head. -/
theorem read1 (t : Fin cfg0.N) : X0_1 m c t = blk (m ((c : Thread nD τ).loc main_arg1)) (bat t) (hd t) := by
  funext y
  unfold X0_1 Pipeline.Window.fill
  rw [dif_pos (moved0_1 t _)]
  obtain ⟨e0, e1, e2, e3, e4, e5, e6⟩ := idx t
  unfold blk
  blk_ext [iblk, V, e1]

/-- Window 2's staged block is the key array's block of the point's batch and head. -/
theorem read2 (t : Fin cfg0.N) : X0_2 m c t = blk (m ((c : Thread nD τ).loc main_arg2)) (bat t) (hd t) := by
  funext y
  unfold X0_2 Pipeline.Window.fill
  rw [dif_pos (moved0_2 t _)]
  obtain ⟨e0, e1, e2, e3, e4, e5, e6⟩ := idx t
  unfold blk
  blk_ext [iblk, V, e2]

/-- Window 3's staged block is the shared rope key array's block of the point's batch. -/
theorem read3 (t : Fin cfg0.N) : X0_3 m c t = blkR (m ((c : Thread nD τ).loc main_arg3)) (bat t) := by
  funext y
  unfold X0_3 Pipeline.Window.fill
  rw [dif_pos (moved0_3 t _)]
  obtain ⟨e0, e1, e2, e3, e4, e5, e6⟩ := idx t
  unfold blkR
  blk_ext [iblk, V, e3]

/-- Window 4's staged block is the value array's block of the point's batch and head. -/
theorem read4 (t : Fin cfg0.N) : X0_4 m c t = blk (m ((c : Thread nD τ).loc main_arg4)) (bat t) (hd t) := by
  funext y
  unfold X0_4 Pipeline.Window.fill
  rw [dif_pos (moved0_4 t _)]
  obtain ⟨e0, e1, e2, e3, e4, e5, e6⟩ := idx t
  unfold blk
  blk_ext [iblk, V, e4]

/-- Window 5's staged block is the gate array's block of the point's batch and head. -/
theorem read5 (t : Fin cfg0.N) : X0_5 m c t = blk (m ((c : Thread nD τ).loc main_arg5)) (bat t) (hd t) := by
  funext y
  unfold X0_5 Pipeline.Window.fill
  rw [dif_pos (moved0_5 t _)]
  obtain ⟨e0, e1, e2, e3, e4, e5, e6⟩ := idx t
  unfold blk
  blk_ext [iblk, V, e5]

/-- The batch, head, row in the batch and lane in the head of a place of the result array. -/
abbrev bI (i : S17408x2048.Idx) : Fin 8 := ⟨(i 0).val / 2176, by have : (i 0).val < 17408 := (i 0).isLt; omega⟩
@[inherit_doc bI] abbrev hI (i : S17408x2048.Idx) : Fin 16 := ⟨(i 1).val / 128, by have : (i 1).val < 2048 := (i 1).isLt; omega⟩
@[inherit_doc bI] abbrev rI (i : S17408x2048.Idx) : Fin 2176 := ⟨(i 0).val % 2176, by omega⟩
@[inherit_doc bI] abbrev dI (i : S17408x2048.Idx) : Fin 128 := ⟨(i 1).val % 128, by omega⟩

/-- The result's value at a place, by the place's batch, head, row and lane. -/
def G (i : S17408x2048.Idx) : EReal :=
  blockOut (blk (m ((c : Thread nD τ).loc main_arg0)) (bI i) (hI i)) (blk (m ((c : Thread nD τ).loc main_arg1)) (bI i) (hI i))
    (blk (m ((c : Thread nD τ).loc main_arg2)) (bI i) (hI i)) (blkR (m ((c : Thread nD τ).loc main_arg3)) (bI i))
    (blk (m ((c : Thread nD τ).loc main_arg4)) (bI i) (hI i)) (blk (m ((c : Thread nD τ).loc main_arg5)) (bI i) (hI i))
    (rI i) (dI i)

/-- The result array after the run. -/
theorem final : (dats m 0 c).arrAt 6 cfg0.N = G m c := by
  refine (dats m 0 c).arrAt_eq_of_covers 6 _ (by decide +kernel) fun t hf y => ?_
  obtain ⟨e0, e1, e2, e3, e4, e5, e6⟩ := idx t
  rw [after0_6]
  unfold outsAt0
  refine (out_eq c _ _ _ _ _ _ _ _ _ _ _ _ _ _ _ _ _ _ _ _ _ _).trans ?_
  rw [read0, read1, read2, read3, read4, read5]
  have y0 : (y 0).val < 2176 := lt_of_lt_of_le (y 0).isLt ((cfg0.win 6).xsize_le (cfg0.grid.coords t) (0 : Fin 2))
  have y1 : (y 1).val < 128 := lt_of_lt_of_le (y 1).isLt ((cfg0.win 6).xsize_le (cfg0.grid.coords t) (1 : Fin 2))
  have E0 : ((((cfg0.win 6).blk t).view.emb y) 0).val = t.val / 16 * 2176 + (y 0).val := by blk_simp [e6]
  have E1 : ((((cfg0.win 6).blk t).view.emb y) 1).val = t.val % 16 * 128 + (y 1).val := by blk_simp [e6]
  unfold G
  rw [show bI (((cfg0.win 6).blk t).view.emb y) = bat t from Fin.ext (by show (_ : ℕ) / 2176 = t.val / 16; rw [E0]; omega),
    show hI (((cfg0.win 6).blk t).view.emb y) = hd t from Fin.ext (by show (_ : ℕ) / 128 = t.val % 16; rw [E1]; omega)]
  refine congrArg₂ (blockOut _ _ _ _ _ _) (Fin.ext ?_) (Fin.ext ?_)
  · show (y 0).val = _ % 2176
    rw [E0]; omega
  · show (y 1).val = _ % 128
    rw [E1]; omega

end Cert.KernelIdeal.Attn

end
-- ==== Proof.Attn.Ref.lean ====
module

public import proofs.«01_k».proof.Proof.Gen.ReferenceIdeal.Run
public import proofs.«01_k».proof.Proof.Attn.Soft
public import proofs.«01_k».proof.Proof.Attn.Consts
public import Idealize.ShloMosaic.Lib.Pointwise

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (c : Dev nD)

/-- The masked scores of every batch, head, query row and key row. -/
def scoreA (a0 a1 a2 : FVec Ideal S17920x2048 .bf16) (a3 : FVec Ideal S17920x128 .bf16) : FVec Ideal S8x16x2176x2176 .f32 :=
  select (broadcastInDim S8x16x2176x2176 ![2, 3] bcast_S2176x2176_S8x16x2176x2176_2_3 (andi (cmpi .sle (broadcastInDim S2176x2176 ![0, 1] bcast_S1x2176_S2176x2176_0_1 (broadcastInDim S1x2176 ![1] bcast_S2176_S1x2176_1 (subi (iotaInDim S2176 32 0) (broadcastInDim S2176 ![] bcast_S_S2176 (constantI S_ 32 112#32))))) (broadcastInDim S2176x2176 ![0, 1] bcast_S2176x1_S2176x2176_0_1 (broadcastInDim S2176x1 ![0] bcast_S2176_S2176x1_0 (subi (iotaInDim S2176 32 0) (broadcastInDim S2176 ![] bcast_S_S2176 (constantI S_ 32 112#32)))))) (broadcastInDim S2176x2176 ![0, 1] bcast_S1x2176_S2176x2176_0_1 (cmpi .sge (broadcastInDim S1x2176 ![1] bcast_S2176_S1x2176_1 (subi (iotaInDim S2176 32 0) (broadcastInDim S2176 ![] bcast_S_S2176 (constantI S_ 32 112#32)))) (broadcastInDim S1x2176 ![] bcast_S_S1x2176 (constantI S_ 32 0#32)))))) (Host.divf (addf (Host.dotGeneral dot_S8x2176x16x128_S8x2176x16x128_S8x16x2176x2176_3_3_1_1_02_02 none (shapeCast S8x2176x16x128 (extractStridedSlice S17408x2048 ![0, 0] (extf .f32 a0 bitsLt_bf16_f32) slices_S17920x2048_S17408x2048_0_0) shapeCasts_S17408x2048_S8x2176x16x128) (shapeCast S8x2176x16x128 (extractStridedSlice S17408x2048 ![0, 0] (extf .f32 a2 bitsLt_bf16_f32) slices_S17920x2048_S17408x2048_0_0) shapeCasts_S17408x2048_S8x2176x16x128)) (transpose S8x16x2176x2176 [0, 3, 2, 1] (Host.dotGeneral dot_S8x2176x128_S8x2176x16x128_S8x2176x2176x16_2_3_1_12_0_0 none (shapeCast S8x2176x128 (extractStridedSlice S17408x128 ![0, 0] (extf .f32 a3 bitsLt_bf16_f32) slices_S17920x128_S17408x128_0_0) shapeCasts_S17408x128_S8x2176x128) (shapeCast S8x2176x16x128 (extractStridedSlice S17408x2048 ![0, 0] (extf .f32 a1 bitsLt_bf16_f32) slices_S17920x2048_S17408x2048_0_0) shapeCasts_S17408x2048_S8x2176x16x128)) transposes_S8x2176x2176x16_S8x16x2176x2176_0_3_2_1)) (broadcastInDim S8x16x2176x2176 ![] bcast_S_S8x16x2176x2176 (Host.sqrt (constant S_ .f32 0x43400000#32)))) (broadcastInDim S8x16x2176x2176 ![] bcast_S_S8x16x2176x2176 (id (constant (F := Ideal) S_ .f32 0xFF800000#32)))

/-- The maximum reduction over the last of four axes, at a place of the other three: the fold over that axis. -/
theorem reduce_max_last {n0 n1 n2 n3 : ℕ} {u : Shape} (x : FVec Ideal ⟨4, ![n0, n1, n2, n3]⟩ .f32) (init : FVec Ideal u .f32)
    (h' : (⟨4, ![n0, n1, n2, n3]⟩ : Shape).ReducesTo [3] ⟨3, ![n0, n1, n2]⟩) (hu : 0 < u.numel) (b : Fin n0) (h : Fin n1) (p : Fin n2) :
    Host.reduce FloatOps.maximumf x init h' hu (ix3 b h p)
      = (Finset.univ : Finset (Fin n3)).fold max (init (Shape.Idx.first hu)) fun k => x (ix4 b h p k) := by
  rw [Host.reduce_eq_fold, Shape.ReducesTo.fold_fiber_r4_a3]
  rfl

/-- Each row's greatest score. -/
def rowMax (s : FVec Ideal S8x16x2176x2176 .f32) : FVec Ideal S8x16x2176 .f32 :=
  Host.reduce FloatOps.maximumf s (constant S_ .f32 0xFF800000#32) reducesTo_S8x16x2176x2176_S8x16x2176_d3 h_S_

/-- A row's greatest score is the fold of the maximum from `⊥`. -/
theorem rowMax_at (s : FVec Ideal S8x16x2176x2176 .f32) (b : Fin 8) (h : Fin 16) (p : Fin 2176) :
    rowMax s (ix3 b h p) = Cert.Soft.top fun k => s (ix4 b h p k) := by
  unfold rowMax
  refine (reduce_max_last s _ _ _ b h p).trans ?_
  unfold Cert.Soft.top
  rw [show constant (F := Ideal) S_ .f32 0xFF800000#32 (Shape.Idx.first h_S_) = ⊥ from Cert.Consts.neg_inf]

/-- The exponentials of the scores over a given row value (or `⊥`s word, the greater). -/
def expB (r : FVec Ideal S8x16x2176 .f32) (s : FVec Ideal S8x16x2176x2176 .f32) : FVec Ideal S8x16x2176x2176 .f32 :=
  Host.exp (subf s (broadcastInDim S8x16x2176x2176 ![0, 1, 2, 3] bcast_S8x16x2176x1_S8x16x2176x2176_0_1_2_3 (broadcastInDim S8x16x2176x1 ![0, 1, 2] bcast_S8x16x2176_S8x16x2176x1_0_1_2 (maximumf (broadcastInDim S8x16x2176 ![] bcast_S_S8x16x2176 (constant S_ .f32 0xFF800000#32)) r))))

/-- The exponentials of the scores over their row's maximum. -/
def expA (s : FVec Ideal S8x16x2176x2176 .f32) : FVec Ideal S8x16x2176x2176 .f32 := expB (rowMax s) s

/-- The result from the exponentials, the values and the gates. -/
def outA (e : FVec Ideal S8x16x2176x2176 .f32) (a4 : FVec Ideal S17920x2048 .bf16) (a5 : FVec Ideal S17920x2048 .f32) : FVec Ideal S17408x2048 .bf16 :=
  shapeCast _ (truncf .bf16 (mulf (shapeCast _ (transpose S8x2176x16x128 [0, 3, 1, 2] (Host.dotGeneral dot_S8x2176x16x128_S8x16x2176x2176_S8x16x128x2176_1_3_3_2_02_01 none (shapeCast _ (extractStridedSlice S17408x2048 ![0, 0] (extf .f32 a4 bitsLt_bf16_f32) slices_S17920x2048_S17408x2048_0_0) shapeCasts_S17408x2048_S8x2176x16x128) (Host.divf e (broadcastInDim S8x16x2176x2176 ![0, 1, 2, 3] bcast_S8x16x2176x1_S8x16x2176x2176_0_1_2_3 (broadcastInDim S8x16x2176x1 ![0, 1, 2] bcast_S8x16x2176_S8x16x2176x1_0_1_2 (Host.reduceAdd e (constant S_ .f32 0x00000000#32) reducesTo_S8x16x2176x2176_S8x16x2176_d3 h_S_))))) transposes_S8x16x128x2176_S8x2176x16x128_0_3_1_2) shapeCasts_S8x2176x16x128_S8x2176x2048) (mulf (shapeCast _ (extractStridedSlice S17408x2048 ![0, 0] a5 slices_S17920x2048_S17408x2048_0_0) shapeCasts_S17408x2048_S8x2176x2048) (Host.divf (broadcastInDim S8x2176x2048 ![] bcast_S_S8x2176x2048 (constant S_ .f32 0x3F800000#32)) (addf (broadcastInDim S8x2176x2048 ![] bcast_S_S8x2176x2048 (constant S_ .f32 0x3F800000#32)) (Host.exp (Host.negf (shapeCast _ (extractStridedSlice S17408x2048 ![0, 0] a5 slices_S17920x2048_S17408x2048_0_0) shapeCasts_S17408x2048_S8x2176x2048))))))) bitsLt_bf16_f32) shapeCasts_S8x2176x2048_S17408x2048

/-- The reference's result in these three steps. -/
theorem result_eq : res_out0 m c = outA (expA (scoreA (m ((c : Thread nD τ).loc main_arg0)) (m ((c : Thread nD τ).loc main_arg1))
    (m ((c : Thread nD τ).loc main_arg2)) (m ((c : Thread nD τ).loc main_arg3)))) (m ((c : Thread nD τ).loc main_arg4)) (m ((c : Thread nD τ).loc main_arg5)) := rfl

/-- The result at a place, from the exponentials. -/
theorem out_at (e : FVec Ideal S8x16x2176x2176 .f32) (a4 : FVec Ideal S17920x2048 .bf16) (a5 : FVec Ideal S17920x2048 .f32) (p : Fin 17408) (q : Fin 2048) :
    outA e a4 a5 (ix2 p q) = (∑ x : Fin 2176, a4 (ix2 (⟨p.val / 2176 * 2176 + x.val, by omega⟩ : Fin 17920) q) *
          Ideal.div (e (ix4 (⟨p.val / 2176, by omega⟩ : Fin 8) (⟨q.val / 128, by omega⟩ : Fin 16) (⟨p.val % 2176, by omega⟩ : Fin 2176) x))
            (∑ y : Fin 2176, e (ix4 (⟨p.val / 2176, by omega⟩ : Fin 8) (⟨q.val / 128, by omega⟩ : Fin 16) (⟨p.val % 2176, by omega⟩ : Fin 2176) y)))
      * (a5 (ix2 (⟨p.val, by omega⟩ : Fin 17920) q) * Ideal.div 1 (1 + Ideal.exp (-a5 (ix2 (⟨p.val, by omega⟩ : Fin 17920) q)))) := by
  unfold outA
  pointwise

/-- An exponential over a given row value at a place. -/
theorem expB_at (r : FVec Ideal S8x16x2176 .f32) (s : FVec Ideal S8x16x2176x2176 .f32) (b : Fin 8) (h : Fin 16) (p q : Fin 2176) :
    expB r s (ix4 b h p q) = Ideal.exp (s (ix4 b h p q) - max (Ideal.ofBits .f32 0xFF800000#32) (r (ix3 b h p))) := by
  unfold expB
  pointwise

/-- An exponential at a place. -/
theorem exp_at (s : FVec Ideal S8x16x2176x2176 .f32) (b : Fin 8) (h : Fin 16) (p q : Fin 2176) :
    expA s (ix4 b h p q) = Ideal.exp (s (ix4 b h p q) - Cert.Soft.top fun k => s (ix4 b h p k)) := by
  unfold expA
  rw [expB_at, rowMax_at, Cert.Consts.neg_inf, max_eq_right bot_le]

/-- The reference's mask of a query row and a key row, as comparisons of naturals. -/
theorem mask_at (p q : Fin 2176) (x y : EReal) (hp : 112 ≤ p.val) :
    Scalar.select (IntOp.andi
        (IntOp.cmpi CmpIPredicate.sle (IntOp.subi (BitVec.ofNat 32 q.val) 112#32) (IntOp.subi (BitVec.ofNat 32 p.val) 112#32))
        (IntOp.cmpi CmpIPredicate.sge (IntOp.subi (BitVec.ofNat 32 q.val) 112#32) 0#32)) x y
      = if 112 ≤ q.val ∧ q.val ≤ p.val then x else y := by
  have hv : ∀ r : Fin 2176, (IntOp.subi (BitVec.ofNat 32 r.val) 112#32).toInt = (r.val : ℤ) - 112 := by
    decide +kernel
  have hiff : (IntOp.andi
        (IntOp.cmpi CmpIPredicate.sle (IntOp.subi (BitVec.ofNat 32 q.val) 112#32) (IntOp.subi (BitVec.ofNat 32 p.val) 112#32))
        (IntOp.cmpi CmpIPredicate.sge (IntOp.subi (BitVec.ofNat 32 q.val) 112#32) 0#32)) = 1#1 ↔ 112 ≤ q.val ∧ q.val ≤ p.val := by
    rw [IntOp.andi_eq_one, IntOp.cmpi_sle, IntOp.cmpi_sge, hv, hv, show (0#32).toInt = 0 from rfl]
    omega
  exact if_congr hiff rfl rfl

/-- A masked score at a place, at a real query row. -/
theorem score_at (a0 a1 a2 : FVec Ideal S17920x2048 .bf16) (a3 : FVec Ideal S17920x128 .bf16) (b : Fin 8) (h : Fin 16) (p q : Fin 2176) (hp : 112 ≤ p.val) :
    scoreA a0 a1 a2 a3 (ix4 b h p q) = if 112 ≤ q.val ∧ q.val ≤ p.val then
      (∑ x : Fin 128, a0 (ix2 (⟨b.val * 2176 + p.val, by omega⟩ : Fin 17920) (⟨h.val * 128 + x.val, by omega⟩ : Fin 2048)) * a2 (ix2 (⟨b.val * 2176 + q.val, by omega⟩ : Fin 17920) (⟨h.val * 128 + x.val, by omega⟩ : Fin 2048)) +
          ∑ x : Fin 128, a1 (ix2 (⟨b.val * 2176 + p.val, by omega⟩ : Fin 17920) (⟨h.val * 128 + x.val, by omega⟩ : Fin 2048)) * a3 (ix2 (⟨b.val * 2176 + q.val, by omega⟩ : Fin 17920) x))
        * (((Real.sqrt 192)⁻¹ : ℝ) : EReal) else ⊥ := by
  have e := mask_at p q
    (Ideal.div
        (∑ x : Fin 128, a0 (ix2 (⟨b.val * 2176 + p.val, by omega⟩ : Fin 17920) (⟨h.val * 128 + x.val, by omega⟩ : Fin 2048)) * a2 (ix2 (⟨b.val * 2176 + q.val, by omega⟩ : Fin 17920) (⟨h.val * 128 + x.val, by omega⟩ : Fin 2048)) +
          ∑ x : Fin 128, a3 (ix2 (⟨b.val * 2176 + q.val, by omega⟩ : Fin 17920) x) * a1 (ix2 (⟨b.val * 2176 + p.val, by omega⟩ : Fin 17920) (⟨h.val * 128 + x.val, by omega⟩ : Fin 2048)))
        (Ideal.sqrt (Ideal.ofBits .f32 0x43400000#32))) (Ideal.ofBits .f32 0xFF800000#32) hp
  refine Eq.trans ?_ (e.trans ?_)
  · unfold scoreA
    pointwise
    rfl
  · rw [Cert.Consts.neg_inf, Cert.Consts.c192, Ideal.sqrt_coe]
    simp only [show ¬ (192 : ℝ) < 0 by norm_num, ↓reduceIte]
    rw [Ideal.div_coe (Real.sqrt_ne_zero'.mpr (by norm_num)), one_div]
    simp only [mul_comm]

end Cert.ReferenceIdeal.Attn

end
-- ==== Proof.Attn.Equal.lean ====
/- The prompt attention's value claim: the kernel's result and the reference's are equal on the real query rows, when the
   queries and keys are finite. -/
module

public import proofs.«01_k».proof.Defs
public import proofs.«01_k».proof.Proof.Attn.Final
public import proofs.«01_k».proof.Proof.Attn.Ref
public import proofs.«01_k».proof.Proof.Gen.Pre_finite_scores
public import proofs.«01_k».proof.Proof.Gen.On_real_rows
public import Idealize.ShloMosaic.Lib.ReduceAll
public import Idealize.ShloMosaic.Adequacy
public import Idealize.ShloMosaic.Init

@[expose] public section

set_option maxRecDepth 16384

noncomputable section

namespace Cert.Attn

open Idealize.ShloMosaic Idealize.ShloMosaic.TcCoe Idealize.SL.Sem Cert.Soft
open Cert.KernelIdeal.Attn (blockOut blk blkR masked score bI hI rI dI)

/-- The comparison `|x| < ∞` answering one makes `x` a real number. -/
theorem real_of_lt (x : EReal) (h : FloatOps.cmpf (F := Ideal) (φ := .f32) CmpFPredicate.olt (max x (-x)) (Ideal.ofBits .f32 0x7F800000#32) = 1#1) : IsReal x := by
  rw [Cert.Consts.inf] at h
  refine IsReal.of_abs_lt ?_
  by_contra hn
  have : FloatOps.cmpf (F := Ideal) (φ := .f32) CmpFPredicate.olt (max x (-x)) ⊤ = 0#1 := by
    show Ideal.cmp .olt _ _ = 0#1
    simp only [Ideal.cmp, hn, decide_false]
    rfl
  rw [this] at h
  exact absurd h (by decide)

/-- The precondition read: every element of the queries and keys is a real number. -/
theorem pre_real (a0 a1 a2 : FVec Ideal Cert.KernelIdeal.S17920x2048 .bf16) (a3 : FVec Ideal Cert.KernelIdeal.S17920x128 .bf16)
    (a4 : FVec Ideal Cert.KernelIdeal.S17920x2048 .bf16) (a5 : FVec Ideal Cert.KernelIdeal.S17920x2048 .f32)
    (h : Cert.Pre_finite_scores.fn (F := Ideal) a0 a1 a2 a3 a4 a5 = fun _ => 1#1) :
    (∀ i, IsReal (a0 i)) ∧ (∀ i, IsReal (a1 i)) ∧ (∀ i, IsReal (a2 i)) ∧ (∀ i, IsReal (a3 i)) := by
  have e := congrFun h ix0
  dsimp only [Cert.Pre_finite_scores.fn, Cert.Pre_finite_scores.fn_part1] at e
  obtain ⟨e, e3⟩ := IntOp.andi_eq_one.1 e
  obtain ⟨e, e2⟩ := IntOp.andi_eq_one.1 e
  obtain ⟨e0, e1⟩ := IntOp.andi_eq_one.1 e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

/-- The mask read: a kept place's row is a real row of its batch. -/
theorem on_row (a0 a1 a2 : FVec Ideal Cert.KernelIdeal.S17920x2048 .bf16) (a3 : FVec Ideal Cert.KernelIdeal.S17920x128 .bf16)
    (a4 : FVec Ideal Cert.KernelIdeal.S17920x2048 .bf16) (a5 : FVec Ideal Cert.KernelIdeal.S17920x2048 .f32) (p : Fin 17408) (q : Fin 2048)
    (h : Cert.On_real_rows.fn (F := Ideal) a0 a1 a2 a3 a4 a5 (ix2 p q) = 1#1) : 112 ≤ p.val % 2176 := by
  have hv : ∀ r : Fin 2176, (BitVec.ofNat 32 r.val).toInt = (r.val : ℤ) := by decide +kernel
  have e : Cert.On_real_rows.fn (F := Ideal) a0 a1 a2 a3 a4 a5 (ix2 p q)
      = IntOp.cmpi .sge (BitVec.ofNat 32 (⟨p.val % 2176, by omega⟩ : Fin 2176).val) 112#32 := by
    dsimp only [Cert.On_real_rows.fn]
    pointwise
  rw [e, IntOp.cmpi_sge, hv, show (112#32).toInt = 112 from rfl] at h
  exact_mod_cast h

/-- A real row's softmax average over the reference's scores is the kernel's block result there. -/
theorem ref_eq (a0 a1 a2 : FVec Ideal Cert.KernelIdeal.S17920x2048 .bf16) (a3 : FVec Ideal Cert.KernelIdeal.S17920x128 .bf16)
    (a4 : FVec Ideal Cert.KernelIdeal.S17920x2048 .bf16) (a5 : FVec Ideal Cert.KernelIdeal.S17920x2048 .f32)
    (h0 : ∀ i, IsReal (a0 i)) (h1 : ∀ i, IsReal (a1 i)) (h2 : ∀ i, IsReal (a2 i)) (h3 : ∀ i, IsReal (a3 i))
    (p : Fin 17408) (q : Fin 2048) (hp : 112 ≤ p.val % 2176) :
    Cert.ReferenceIdeal.Attn.outA (Cert.ReferenceIdeal.Attn.expA (Cert.ReferenceIdeal.Attn.scoreA a0 a1 a2 a3)) a4 a5 (ix2 p q)
      = blockOut (blk a0 (bI (ix2 p q)) (hI (ix2 p q))) (blk a1 (bI (ix2 p q)) (hI (ix2 p q))) (blk a2 (bI (ix2 p q)) (hI (ix2 p q)))
          (blkR a3 (bI (ix2 p q))) (blk a4 (bI (ix2 p q)) (hI (ix2 p q))) (blk a5 (bI (ix2 p q)) (hI (ix2 p q)))
          (rI (ix2 p q)) (dI (ix2 p q)) := by
  have hS : ∀ k : Fin 2176, Cert.ReferenceIdeal.Attn.scoreA a0 a1 a2 a3
      (ix4 (⟨p.val / 2176, by omega⟩ : Fin 8) (⟨q.val / 128, by omega⟩ : Fin 16) (⟨p.val % 2176, by omega⟩ : Fin 2176) k)
      = masked (blk a0 (bI (ix2 p q)) (hI (ix2 p q))) (blk a1 (bI (ix2 p q)) (hI (ix2 p q))) (blk a2 (bI (ix2 p q)) (hI (ix2 p q)))
          (blkR a3 (bI (ix2 p q))) (rI (ix2 p q)) k := fun k =>
    Cert.ReferenceIdeal.Attn.score_at a0 a1 a2 a3 _ _ _ k hp
  rw [Cert.ReferenceIdeal.Attn.out_at]
  simp only [Cert.ReferenceIdeal.Attn.exp_at, hS]
  have hreal : ∀ k, IsReal (score (blk a0 (bI (ix2 p q)) (hI (ix2 p q))) (blk a1 (bI (ix2 p q)) (hI (ix2 p q))) (blk a2 (bI (ix2 p q)) (hI (ix2 p q)))
          (blkR a3 (bI (ix2 p q))) (rI (ix2 p q)) k) := fun k =>
    ((IsReal.sum _ _ fun x => (h0 _).mul (h2 _)).add (IsReal.sum _ _ fun x => (h1 _).mul (h3 _))).mul ⟨_, rfl⟩
  have av := avg_weights (masked (blk a0 (bI (ix2 p q)) (hI (ix2 p q))) (blk a1 (bI (ix2 p q)) (hI (ix2 p q))) (blk a2 (bI (ix2 p q)) (hI (ix2 p q)))
          (blkR a3 (bI (ix2 p q))) (rI (ix2 p q))) (fun j => (blk (e := .bf16) a4 (bI (ix2 p q)) (hI (ix2 p q)) (ix2 j (dI (ix2 p q))) : EReal))
    (fun j => by
      unfold masked
      split
      · exact (hreal j).ne_top
      · exact bot_ne_top)
    (rI (ix2 p q)) (by
      unfold masked
      rw [if_pos ⟨hp, le_refl _⟩]
      exact (hreal _).ne_bot)
  unfold blockOut
  rw [← av, zero_sub]
  have eq : ∀ j : Fin 2176, (ix2 (⟨p.val / 2176 * 2176 + j.val, by omega⟩ : Fin 17920) q : Cert.KernelIdeal.S17920x2048.Idx)
      = ix2 (⟨(bI (ix2 p q)).val * 2176 + j.val, by have := (bI (ix2 p q)).isLt; omega⟩ : Fin 17920) (⟨(hI (ix2 p q)).val * 128 + (dI (ix2 p q)).val, by have := (hI (ix2 p q)).isLt; have := (dI (ix2 p q)).isLt; omega⟩ : Fin 2048) := fun j =>
    congrArg (ix2 _) (Fin.ext (by show q.val = q.val / 128 * 128 + q.val % 128; omega))
  have ep : (ix2 (⟨p.val, by omega⟩ : Fin 17920) q : Cert.KernelIdeal.S17920x2048.Idx)
      = ix2 (⟨p.val / 2176 * 2176 + p.val % 2176, by omega⟩ : Fin 17920) q :=
    congrArg (fun r => ix2 r q) (Fin.ext (by show p.val = p.val / 2176 * 2176 + p.val % 2176; omega))
  rw [ep, eq ⟨p.val % 2176, by omega⟩]
  simp only [eq]
  rfl

/-- The value claim, on the real rows and for finite queries and keys. -/
theorem algebraic : Cert.algebraic_KernelIdeal_ReferenceIdeal_on_real_rows_pre_finite_scores := by
  intro m g m' g' hpre hargs
  refine ⟨fun c => Cert.KernelIdeal.Attn.G m c, (θ_run _ _ _).mono (fun r h c => ?_) (Cert.KernelIdeal.Value.run_blocks m g),
    (θ_run _ _ _).mono (fun r h c => ?_) (Cert.ReferenceIdeal.Value.run m' g')⟩
  · exact ⟨fun i _ => congrFun ((h c).1.trans (Cert.KernelIdeal.Attn.final m c)) i, (h c).2⟩
  · refine ⟨fun i hi => ?_, (h c).2⟩
    obtain ⟨h0, h1, h2, h3⟩ := pre_real _ _ _ _ _ _ (hpre c)
    have hrow := on_row _ _ _ _ _ _ (i 0) (i 1) ((congrArg _ (eq_ix2 i).symm).trans hi)
    obtain ⟨e0, e1, e2, e3, e4, e5⟩ := hargs c
    refine (congrFun ((h c).1.trans (Cert.ReferenceIdeal.Attn.result_eq m' c)) i).trans ?_
    rw [e0, e1, e2, e3, e4, e5]
    have e := ref_eq _ _ _ _ (m ((c : Thread Cert.KernelIdeal.nD Cert.KernelIdeal.τ).loc Cert.KernelIdeal.main_arg4))
      (m ((c : Thread Cert.KernelIdeal.nD Cert.KernelIdeal.τ).loc Cert.KernelIdeal.main_arg5)) h0 h1 h2 h3 (i 0) (i 1) hrow
    rw [← eq_ix2 i] at e
    exact e

/-- The reference's frame, from its run. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Attn

end
-- ==== Proof.Rows.Row.lean ====
/- A row's normalisation and its product with a weight column, over the extended reals. -/
module

public import Idealize.ShloMosaic.PureOps.Ideal
public import Idealize.ShloMosaic.PureOps.Ideal.Laws
public import Idealize.ShloMosaic.Lib.Pointwise

@[expose] public section

noncomputable section

namespace Cert.Rows

open Idealize.ShloMosaic

/-- The reciprocal root mean square of a row: its squares summed, divided by the width whose float pattern is `b`, a small
    constant added. -/
def rinv (b : BitVec 32) {n : ℕ} (x : Fin n → EReal) : EReal :=
  Ideal.rsqrt (Ideal.div (∑ k, x k * x k) (Ideal.ofBits FTy.f32 b) + Ideal.ofBits FTy.f32 0x358637BD#32)

/-- A row normalised and scaled by the weights `g`. -/
def nrm (b : BitVec 32) {n : ℕ} (x g : Fin n → EReal) (k : Fin n) : EReal := x k * rinv b x * g k

/-- A row against a weight column. -/
def lin {n : ℕ} (x w : Fin n → EReal) : EReal := ∑ k, x k * w k

/-- The gate's activation. -/
def silu (x : EReal) : EReal := x * Ideal.div 1 (1 + Ideal.exp (-x))

/-- A choice equals `z` when both its branches do. -/
theorem dite_step {c : Prop} [Decidable c] {a : c → EReal} {b : ¬c → EReal} {z : EReal} (h1 : ∀ h, a h = z) (h2 : ∀ h, b h = z) : dite c a b = z := by
  by_cases h : c
  · rw [dif_pos h]; exact h1 h
  · rw [dif_neg h]; exact h2 h

/-- Entry `k` of row `r` of the padded prompt rows: per batch of 2176 rows, 112 of zeros, the 16 meta tokens, the 2048 of the prompt. -/
def prompt (x : Shape.Idx ⟨3, ![8, 2048, 2048]⟩ → EReal) (t : Shape.Idx ⟨2, ![16, 2048]⟩ → EReal) (r : ℕ) (k : Fin 2048) : EReal :=
  if h : r / 2176 < 8 ∧ 112 ≤ r % 2176 then
    if h' : r % 2176 < 128 then t (ix2 ⟨r % 2176 - 112, by omega⟩ k) else x (ix3 ⟨r / 2176, h.1⟩ ⟨r % 2176 - 128, by omega⟩ k)
  else 0

/-- A row of a batch's front padding is zero. -/
theorem prompt_zero (x : Shape.Idx ⟨3, ![8, 2048, 2048]⟩ → EReal) (t : Shape.Idx ⟨2, ![16, 2048]⟩ → EReal) (r : ℕ) (k : Fin 2048)
    (h : r % 2176 < 112) : prompt x t r k = 0 := by
  unfold prompt
  rw [dif_neg (by omega)]

/-- A row of the meta tokens. -/
theorem prompt_meta (x : Shape.Idx ⟨3, ![8, 2048, 2048]⟩ → EReal) (t : Shape.Idx ⟨2, ![16, 2048]⟩ → EReal) (r : ℕ) (k : Fin 2048)
    (p : Fin 16) (h : r / 2176 < 8) (hp : r % 2176 = 112 + p.val) : prompt x t r k = t (ix2 p k) := by
  unfold prompt
  rw [dif_pos (by omega), dif_pos (by omega)]
  exact congrArg (fun a => t (ix2 a k)) (Fin.ext (by show r % 2176 - 112 = p.val; omega))

/-- A row of the prompt. -/
theorem prompt_tok (x : Shape.Idx ⟨3, ![8, 2048, 2048]⟩ → EReal) (t : Shape.Idx ⟨2, ![16, 2048]⟩ → EReal) (r : ℕ) (k : Fin 2048)
    (b : Fin 8) (p : Fin 2048) (h : r / 2176 = b.val) (hp : r % 2176 = 128 + p.val) : prompt x t r k = x (ix3 b p k) := by
  unfold prompt
  rw [dif_pos (by omega), dif_neg (by omega)]
  exact congrArg₂ (fun a c => x (ix3 a c k)) (Fin.ext h) (Fin.ext (by show r % 2176 - 128 = p.val; omega))

/-- Entry `k` of row `r` of the rows of the layer: the padded prompt rows, then the samples. -/
def input (x : Shape.Idx ⟨3, ![8, 2048, 2048]⟩ → EReal) (s : Shape.Idx ⟨3, ![128, 4, 2048]⟩ → EReal) (t : Shape.Idx ⟨2, ![16, 2048]⟩ → EReal) (r : Fin 17920) (k : Fin 2048) : EReal :=
  if r.val < 17408 then prompt x t r.val k else s (ix3 ⟨(r.val - 17408) / 4, by omega⟩ ⟨(r.val - 17408) % 4, by omega⟩ k)

end Cert.Rows

end
-- ==== Proof.Rows.Padded.lean ====
/- The padded rows of the layer as the host code builds them: twenty-five pieces, read at an entry. -/
module

public import proofs.«01_k».proof.Proof.Gen.Kernel6Ideal.Value
public import proofs.«01_k».proof.Proof.Rows.Row
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel6Ideal.Rows

open Cert.Kernel6Ideal Cert.Kernel6Ideal.Gen Idealize.ShloMosaic Idealize.ShloMosaic.TcCoe Idealize.SL.Sem Cert.Rows

/-- The first sixteen pieces of the padded rows. -/
def front (a0 : FVec Ideal S8x2048x2048 .f32) (a2 : FVec Ideal S16x2048 .f32) : FVec Ideal S10992x2048 .f32 :=
  concatenate S10992x2048 0 [⟨S112x2048, (broadcastInDim S112x2048 ![] bcast_S_S112x2048 (constant S_ .f32 0x00000000#32) : FVec Ideal S112x2048 .f32)⟩, ⟨S16x2048, a2⟩, ⟨S2048x2048, (shapeCast S2048x2048 (extractStridedSlice S1x2048x2048 ![0, 0, 0] a0 slices_S8x2048x2048_S1x2048x2048_0_0_0) shapeCasts_S1x2048x2048_S2048x2048)⟩, ⟨S112x2048, (broadcastInDim S112x2048 ![] bcast_S_S112x2048 (constant S_ .f32 0x00000000#32) : FVec Ideal S112x2048 .f32)⟩, ⟨S16x2048, a2⟩, ⟨S2048x2048, (shapeCast S2048x2048 (extractStridedSlice S1x2048x2048 ![1, 0, 0] a0 slices_S8x2048x2048_S1x2048x2048_1_0_0) shapeCasts_S1x2048x2048_S2048x2048)⟩, ⟨S112x2048, (broadcastInDim S112x2048 ![] bcast_S_S112x2048 (constant S_ .f32 0x00000000#32) : FVec Ideal S112x2048 .f32)⟩, ⟨S16x2048, a2⟩, ⟨S2048x2048, (shapeCast S2048x2048 (extractStridedSlice S1x2048x2048 ![2, 0, 0] a0 slices_S8x2048x2048_S1x2048x2048_2_0_0) shapeCasts_S1x2048x2048_S2048x2048)⟩, ⟨S112x2048, (broadcastInDim S112x2048 ![] bcast_S_S112x2048 (constant S_ .f32 0x00000000#32) : FVec Ideal S112x2048 .f32)⟩, ⟨S16x2048, a2⟩, ⟨S2048x2048, (shapeCast S2048x2048 (extractStridedSlice S1x2048x2048 ![3, 0, 0] a0 slices_S8x2048x2048_S1x2048x2048_3_0_0) shapeCasts_S1x2048x2048_S2048x2048)⟩, ⟨S112x2048, (broadcastInDim S112x2048 ![] bcast_S_S112x2048 (constant S_ .f32 0x00000000#32) : FVec Ideal S112x2048 .f32)⟩, ⟨S16x2048, a2⟩, ⟨S2048x2048, (shapeCast S2048x2048 (extractStridedSlice S1x2048x2048 ![4, 0, 0] a0 slices_S8x2048x2048_S1x2048x2048_4_0_0) shapeCasts_S1x2048x2048_S2048x2048)⟩, ⟨S112x2048, (broadcastInDim S112x2048 ![] bcast_S_S112x2048 (constant S_ .f32 0x00000000#32) : FVec Ideal S112x2048 .f32)⟩] concatenates_S112x2048_S16x2048_S2048x2048_S112x2048_S16x2048_S2048x2048_S112x2048_S16x2048_S2048x2048_S112x2048_S16x2048_S2048x2048_S112x2048_S16x2048_S2048x2048_S112x2048_S10992x2048_d0

/-- The other nine pieces. -/
def back (a0 : FVec Ideal S8x2048x2048 .f32) (a1 : FVec Ideal S128x4x2048 .f32) (a2 : FVec Ideal S16x2048 .f32) : FVec Ideal S6928x2048 .f32 :=
  concatenate S6928x2048 0 [⟨S16x2048, a2⟩, ⟨S2048x2048, (shapeCast S2048x2048 (extractStridedSlice S1x2048x2048 ![5, 0, 0] a0 slices_S8x2048x2048_S1x2048x2048_5_0_0) shapeCasts_S1x2048x2048_S2048x2048)⟩, ⟨S112x2048, (broadcastInDim S112x2048 ![] bcast_S_S112x2048 (constant S_ .f32 0x00000000#32) : FVec Ideal S112x2048 .f32)⟩, ⟨S16x2048, a2⟩, ⟨S2048x2048, (shapeCast S2048x2048 (extractStridedSlice S1x2048x2048 ![6, 0, 0] a0 slices_S8x2048x2048_S1x2048x2048_6_0_0) shapeCasts_S1x2048x2048_S2048x2048)⟩, ⟨S112x2048, (broadcastInDim S112x2048 ![] bcast_S_S112x2048 (constant S_ .f32 0x00000000#32) : FVec Ideal S112x2048 .f32)⟩, ⟨S16x2048, a2⟩, ⟨S2048x2048, (shapeCast S2048x2048 (extractStridedSlice S1x2048x2048 ![7, 0, 0] a0 slices_S8x2048x2048_S1x2048x2048_7_0_0) shapeCasts_S1x2048x2048_S2048x2048)⟩, ⟨S512x2048, shapeCast S512x2048 a1 shapeCasts_S128x4x2048_S512x2048⟩] concatenates_S16x2048_S2048x2048_S112x2048_S16x2048_S2048x2048_S112x2048_S16x2048_S2048x2048_S512x2048_S6928x2048_d0

/-- The padded rows: for each batch zeros, the meta tokens and the prompt; then the samples. -/
def padded (a0 : FVec Ideal S8x2048x2048 .f32) (a1 : FVec Ideal S128x4x2048 .f32) (a2 : FVec Ideal S16x2048 .f32) : FVec Ideal S17920x2048 .f32 :=
  concatenate S17920x2048 0 [⟨S10992x2048, front a0 a2⟩, ⟨S6928x2048, back a0 a1 a2⟩] concatenates_S10992x2048_S6928x2048_S17920x2048_d0

/-- The first sixteen pieces at an entry. -/
theorem front_eq (a0 : FVec Ideal S8x2048x2048 .f32) (a1 : FVec Ideal S128x4x2048 .f32) (a2 : FVec Ideal S16x2048 .f32) (r : Fin 10992) (k : Fin 2048) : (front a0 a2 (ix2 r k) : EReal) = prompt a0 a2 r.val k := by
  unfold front
  pointwise
  refine dite_step (fun h => ?_) (fun h0 => ?_)
  · exact (prompt_zero _ _ r.val _ (by omega)).symm
  refine dite_step (fun h => ?_) (fun h1 => ?_)
  · exact (prompt_meta _ _ r.val _ ⟨_, _⟩ (by omega) (by dsimp only; omega)).symm
  refine dite_step (fun h => ?_) (fun h2 => ?_)
  · exact (prompt_tok _ _ r.val _ 0 ⟨_, _⟩ (show r.val / 2176 = 0 by omega) (by dsimp only; omega)).symm
  refine dite_step (fun h => ?_) (fun h3 => ?_)
  · exact (prompt_zero _ _ r.val _ (by omega)).symm
  refine dite_step (fun h => ?_) (fun h4 => ?_)
  · exact (prompt_meta _ _ r.val _ ⟨_, _⟩ (by omega) (by dsimp only; omega)).symm
  refine dite_step (fun h => ?_) (fun h5 => ?_)
  · exact (prompt_tok _ _ r.val _ 1 ⟨_, _⟩ (show r.val / 2176 = 1 by omega) (by dsimp only; omega)).symm
  refine dite_step (fun h => ?_) (fun h6 => ?_)
  · exact (prompt_zero _ _ r.val _ (by omega)).symm
  refine dite_step (fun h => ?_) (fun h7 => ?_)
  · exact (prompt_meta _ _ r.val _ ⟨_, _⟩ (by omega) (by dsimp only; omega)).symm
  refine dite_step (fun h => ?_) (fun h8 => ?_)
  · exact (prompt_tok _ _ r.val _ 2 ⟨_, _⟩ (show r.val / 2176 = 2 by omega) (by dsimp only; omega)).symm
  refine dite_step (fun h => ?_) (fun h9 => ?_)
  · exact (prompt_zero _ _ r.val _ (by omega)).symm
  refine dite_step (fun h => ?_) (fun h10 => ?_)
  · exact (prompt_meta _ _ r.val _ ⟨_, _⟩ (by omega) (by dsimp only; omega)).symm
  refine dite_step (fun h => ?_) (fun h11 => ?_)
  · exact (prompt_tok _ _ r.val _ 3 ⟨_, _⟩ (show r.val / 2176 = 3 by omega) (by dsimp only; omega)).symm
  refine dite_step (fun h => ?_) (fun h12 => ?_)
  · exact (prompt_zero _ _ r.val _ (by omega)).symm
  refine dite_step (fun h => ?_) (fun h13 => ?_)
  · exact (prompt_meta _ _ r.val _ ⟨_, _⟩ (by omega) (by dsimp only; omega)).symm
  refine dite_step (fun h => ?_) (fun h14 => ?_)
  · exact (prompt_tok _ _ r.val _ 4 ⟨_, _⟩ (show r.val / 2176 = 4 by omega) (by dsimp only; omega)).symm
  exact (prompt_zero _ _ r.val _ (by omega)).symm

/-- The other nine pieces at an entry. -/
theorem back_eq (a0 : FVec Ideal S8x2048x2048 .f32) (a1 : FVec Ideal S128x4x2048 .f32) (a2 : FVec Ideal S16x2048 .f32) (r : Fin 6928) (k : Fin 2048) : (back a0 a1 a2 (ix2 r k) : EReal) = input a0 a1 a2 ⟨10992 + r.val, by omega⟩ k := by
  unfold back
  pointwise
  unfold input
  refine dite_step (fun h => ?_) (fun h0 => ?_)
  · rw [if_pos (show 10992 + r.val < 17408 by omega)]
    exact (prompt_meta _ _ (10992 + r.val) _ ⟨_, _⟩ (by omega) (by dsimp only; omega)).symm
  refine dite_step (fun h => ?_) (fun h1 => ?_)
  · rw [if_pos (show 10992 + r.val < 17408 by omega)]
    exact (prompt_tok _ _ (10992 + r.val) _ 5 ⟨_, _⟩ (show (10992 + r.val) / 2176 = 5 by omega) (by dsimp only; omega)).symm
  refine dite_step (fun h => ?_) (fun h2 => ?_)
  · rw [if_pos (show 10992 + r.val < 17408 by omega)]
    exact (prompt_zero _ _ (10992 + r.val) _ (by omega)).symm
  refine dite_step (fun h => ?_) (fun h3 => ?_)
  · rw [if_pos (show 10992 + r.val < 17408 by omega)]
    exact (prompt_meta _ _ (10992 + r.val) _ ⟨_, _⟩ (by omega) (by dsimp only; omega)).symm
  refine dite_step (fun h => ?_) (fun h4 => ?_)
  · rw [if_pos (show 10992 + r.val < 17408 by omega)]
    exact (prompt_tok _ _ (10992 + r.val) _ 6 ⟨_, _⟩ (show (10992 + r.val) / 2176 = 6 by omega) (by dsimp only; omega)).symm
  refine dite_step (fun h => ?_) (fun h5 => ?_)
  · rw [if_pos (show 10992 + r.val < 17408 by omega)]
    exact (prompt_zero _ _ (10992 + r.val) _ (by omega)).symm
  refine dite_step (fun h => ?_) (fun h6 => ?_)
  · rw [if_pos (show 10992 + r.val < 17408 by omega)]
    exact (prompt_meta _ _ (10992 + r.val) _ ⟨_, _⟩ (by omega) (by dsimp only; omega)).symm
  refine dite_step (fun h => ?_) (fun h7 => ?_)
  · rw [if_pos (show 10992 + r.val < 17408 by omega)]
    exact (prompt_tok _ _ (10992 + r.val) _ 7 ⟨_, _⟩ (show (10992 + r.val) / 2176 = 7 by omega) (by dsimp only; omega)).symm
  rw [if_neg (show ¬ 10992 + r.val < 17408 by omega)]
  exact congrArg₂ (fun a c => a1 (ix3 a c k)) (Fin.ext (by dsimp only; omega)) (Fin.ext (by dsimp only; omega))

/-- The padded rows at an entry. -/
theorem padded_eq (a0 : FVec Ideal S8x2048x2048 .f32) (a1 : FVec Ideal S128x4x2048 .f32) (a2 : FVec Ideal S16x2048 .f32) (r : Fin 17920) (k : Fin 2048) : (padded a0 a1 a2 (ix2 r k) : EReal) = input a0 a1 a2 r k := by
  unfold padded
  pointwise
  refine dite_step (fun h => ?_) (fun h => ?_)
  · refine (front_eq a0 a1 a2 _ k).trans ?_
    unfold input
    rw [if_pos (show r.val < 17408 by omega)]
  · refine (back_eq a0 a1 a2 _ k).trans ?_
    exact congrArg (fun a => input a0 a1 a2 a k) (Fin.ext (by dsimp only; omega))

end Cert.Kernel6Ideal.Rows

end
-- ==== Proof.Rows.Rope.lean ====
/- Rows of 64 rotated pairwise by angles: the sum with a rotated weight column is the rotated sum. -/
module

public import proofs.«01_k».proof.Proof.Attn.Soft
public import proofs.«01_k».proof.Proof.Rows.Row

@[expose] public section

noncomputable section

namespace Cert.Rows

open Idealize.ShloMosaic
open Cert.Soft (IsReal)

/-- A row against a negated weight column, for real entries. -/
theorem lin_neg {n : ℕ} (x w : Fin n → EReal) (hx : ∀ k, IsReal (x k)) (hw : ∀ k, IsReal (w k)) :
    lin x (fun k => -w k) = -lin x w := by
  choose a ha using hx
  choose b hb using hw
  obtain rfl : x = fun k => ((a k : ℝ) : EReal) := funext ha
  obtain rfl : w = fun k => ((b k : ℝ) : EReal) := funext hb
  have e : ∀ s : Finset (Fin n), ∑ k ∈ s, ((a k : ℝ) : EReal) * -((b k : ℝ) : EReal) = -∑ k ∈ s, ((a k : ℝ) : EReal) * ((b k : ℝ) : EReal) := by
    intro s
    induction s using Finset.induction_on with
    | empty => simp
    | insert k s hk ih =>
      rw [Finset.sum_insert hk, Finset.sum_insert hk, ih, EReal.neg_add (.inl (by rw [← EReal.coe_mul]; exact EReal.coe_ne_bot _)) (.inl (by rw [← EReal.coe_mul]; exact EReal.coe_ne_top _)),
        sub_eq_add_neg, mul_comm, EReal.neg_mul, mul_comm]
  exact e Finset.univ

/-- Equal rows against equal weight columns. -/
theorem lin_congr {n : ℕ} {x x' w w' : Fin n → EReal} (hx : ∀ k, x k = x' k) (hw : ∀ k, w k = w' k) : lin x w = lin x' w' := by
  rw [funext hx, funext hw]

/-- Equal products summed. -/
theorem mix_congr {a b c d a' b' c' d' : EReal} (ha : a = a') (hb : b = b') (hc : c = c') (hd : d = d') : a * b + c * d = a' * b' + c' * d' := by
  rw [ha, hb, hc, hd]

/-- A row against a zero weight column. -/
theorem lin_zero {n : ℕ} (x : Fin n → EReal) : lin x (fun _ => 0) = 0 := by
  unfold lin
  simp

/-- A row of 64 entries, the first half turned against the second by the angles whose cosines are `C` and sines `S`; 64 zeros follow. -/
def rot (f : Fin 64 → EReal) (C S : Fin 32 → EReal) (l : Fin 128) : EReal :=
  if h : l.val < 32 then f ⟨l.val, by omega⟩ * C ⟨l.val, h⟩ - f ⟨32 + l.val, by omega⟩ * S ⟨l.val, h⟩
  else if h' : l.val < 64 then f ⟨l.val, h'⟩ * C ⟨l.val - 32, by omega⟩ + f ⟨l.val - 32, by omega⟩ * S ⟨l.val - 32, by omega⟩
  else 0

/-- Equal rows rotated by equal angles. -/
theorem rot_congr {f f' : Fin 64 → EReal} {C C' S S' : Fin 32 → EReal} {l l' : Fin 128} (hf : ∀ j, f j = f' j) (hC : ∀ j, C j = C' j)
    (hS : ∀ j, S j = S' j) (hl : l = l') : rot f C S l = rot f' C' S' l' := by
  rw [funext hf, funext hC, funext hS, hl]

/-- The zeros after a rotated row. -/
theorem rot_zero (f : Fin 64 → EReal) (C S : Fin 32 → EReal) (l : Fin 128) (h : 64 ≤ l.val) : rot f C S l = 0 := by
  unfold rot
  rw [dif_neg (by omega), dif_neg (by omega)]

/-- A row of 64 entries followed by 64 zeros. -/
def wide (f : Fin 64 → EReal) (l : Fin 128) : EReal := if h : l.val < 64 then f ⟨l.val, h⟩ else 0

/-- A row of 64 entries with its second half negated and put first, followed by 64 zeros. -/
def turned (f : Fin 64 → EReal) (l : Fin 128) : EReal :=
  if h : l.val < 32 then -f ⟨32 + l.val, by omega⟩ else if h' : l.val < 64 then f ⟨l.val - 32, by omega⟩ else 0

/-- The turned row, its two halves chosen first. -/
theorem turned_of (f : Fin 64 → EReal) (l : Fin 128) :
    (if h : l.val < 64 then if h' : l.val < 32 then -f ⟨32 + l.val, by omega⟩ else f ⟨l.val - 32, by omega⟩ else 0) = turned f l := by
  unfold turned
  by_cases h : l.val < 32
  · rw [dif_pos (by omega : l.val < 64), dif_pos h, dif_pos h]
  · by_cases h' : l.val < 64
    · rw [dif_pos h', dif_neg h, dif_neg h, dif_pos h']
    · rw [dif_neg h', dif_neg h, dif_neg h']

/-- A row of 32 entries written twice, followed by 64 zeros. -/
def tab (C : Fin 32 → EReal) (l : Fin 128) : EReal :=
  if h : l.val < 32 then C ⟨l.val, h⟩ else if h' : l.val < 64 then C ⟨l.val - 32, by omega⟩ else 0

/-- The two products with the widened and the turned weights, weighted by the tables, are the rotated product. -/
theorem rot_eq {n : ℕ} (x : Fin n → EReal) (w : Fin n → Fin 64 → EReal) (C S : Fin 32 → EReal) (l : Fin 128)
    (hx : ∀ k, IsReal (x k)) (hw : ∀ k j, IsReal (w k j)) :
    lin x (fun k => wide (w k) l) * tab C l + lin x (fun k => turned (w k) l) * tab S l = rot (fun j => lin x (fun k => w k j)) C S l := by
  unfold wide turned tab rot
  by_cases h : l.val < 32
  · have h2 : l.val < 64 := by omega
    simp only [dif_pos h, dif_pos h2]
    rw [lin_neg x _ hx (fun k => hw k _), EReal.neg_mul, ← sub_eq_add_neg]
  · by_cases h2 : l.val < 64
    · simp only [dif_neg h, dif_pos h2]
    · simp only [dif_neg h, dif_neg h2, lin_zero, mul_zero, add_zero]

end Cert.Rows

end
-- ==== Proof.Rows.Tables.lean ====
/- The tables of cosines and sines of the layer's rows. -/
module

public import proofs.«01_k».proof.Proof.Gen.Kernel7Ideal.Value
public import proofs.«01_k».proof.Proof.Rows.Rope
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel7Ideal.Rows

open Cert.Kernel7Ideal Cert.Kernel7Ideal.Gen Idealize.ShloMosaic Idealize.ShloMosaic.TcCoe Idealize.SL.Sem Cert.Rows

/-- The angles of a prompt batch's rows. -/
def angP : FVec Ideal S2176x32 .f32 :=
  mulf (broadcastInDim S2176x32 ![0, 1] bcast_S2176x1_S2176x32_0_1 (broadcastInDim S2176x1 ![0] bcast_S2176_S2176x1_0 (sitofp .f32 (subi (iotaInDim S2176 32 0) (broadcastInDim S2176 ![] bcast_S_S2176 (constantI S_ 32 112#32)))))) (broadcastInDim S2176x32 ![0, 1] bcast_S1x32_S2176x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The angles of a sample's rows. -/
def angS : FVec Ideal S4x32 .f32 :=
  mulf (broadcastInDim S4x32 ![0, 1] bcast_S4x1_S4x32_0_1 (broadcastInDim S4x1 ![0] bcast_S4_S4x1_0 (sitofp .f32 (addi (broadcastInDim S4 ![] bcast_S_S4 (constantI S_ 32 16384#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A batch's table. -/
def row2176 (x : FVec Ideal S2176x32 .f32) : FVec Ideal S2176x128 .f32 :=
  concatenate S2176x128 1 [⟨S2176x32, x⟩, ⟨S2176x32, x⟩, ⟨S2176x64, broadcastInDim S2176x64 ![] bcast_S_S2176x64 (constant S_ .f32 0x00000000#32)⟩] concatenates_S2176x32_S2176x32_S2176x64_S2176x128_d1

/-- A batch's table repeated. -/
def rep2176 (x : FVec Ideal S2176x128 .f32) : FVec Ideal S17408x128 .f32 :=
  shapeCast S17408x128 (broadcastInDim S8x2176x1x128 ![0, 1, 2, 3] bcast_S1x2176x1x128_S8x2176x1x128_0_1_2_3 (shapeCast S1x2176x1x128 x shapeCasts_S2176x128_S1x2176x1x128)) shapeCasts_S8x2176x1x128_S17408x128

/-- A batch's table at an entry. -/
theorem row2176_eq (x : FVec Ideal S2176x32 .f32) (p : Fin 2176) (l : Fin 128) : (row2176 x (ix2 p l) : EReal) = tab (fun j => x (ix2 p j)) l := by
  unfold row2176
  pointwise
  refine dite_step (fun h => ?_) (fun h => dite_step (fun h' => ?_) (fun h' => ?_))
  · unfold tab
    rw [dif_pos h]
  · unfold tab
    rw [dif_neg h, dif_pos (by omega)]
  · unfold tab
    rw [dif_neg h, dif_neg (by omega)]

/-- The repeated table at an entry. -/
theorem rep2176_eq (x : FVec Ideal S2176x128 .f32) (p : Fin 17408) (l : Fin 128) : (rep2176 x (ix2 p l) : EReal) = x (ix2 ⟨p.val % 2176, by omega⟩ l) := by
  unfold rep2176
  pointwise

/-- A sample's table. -/
def row4 (x : FVec Ideal S4x32 .f32) : FVec Ideal S4x128 .f32 :=
  concatenate S4x128 1 [⟨S4x32, x⟩, ⟨S4x32, x⟩, ⟨S4x64, broadcastInDim S4x64 ![] bcast_S_S4x64 (constant S_ .f32 0x00000000#32)⟩] concatenates_S4x32_S4x32_S4x64_S4x128_d1

/-- A sample's table repeated. -/
def rep4 (x : FVec Ideal S4x128 .f32) : FVec Ideal S512x128 .f32 :=
  shapeCast S512x128 (broadcastInDim S128x4x1x128 ![0, 1, 2, 3] bcast_S1x4x1x128_S128x4x1x128_0_1_2_3 (shapeCast S1x4x1x128 x shapeCasts_S4x128_S1x4x1x128)) shapeCasts_S128x4x1x128_S512x128

/-- A sample's table at an entry. -/
theorem row4_eq (x : FVec Ideal S4x32 .f32) (p : Fin 4) (l : Fin 128) : (row4 x (ix2 p l) : EReal) = tab (fun j => x (ix2 p j)) l := by
  unfold row4
  pointwise
  refine dite_step (fun h => ?_) (fun h => dite_step (fun h' => ?_) (fun h' => ?_))
  · unfold tab
    rw [dif_pos h]
  · unfold tab
    rw [dif_neg h, dif_pos (by omega)]
  · unfold tab
    rw [dif_neg h, dif_neg (by omega)]

/-- The repeated table at an entry. -/
theorem rep4_eq (x : FVec Ideal S4x128 .f32) (p : Fin 512) (l : Fin 128) : (rep4 x (ix2 p l) : EReal) = x (ix2 ⟨p.val % 4, by omega⟩ l) := by
  unfold rep4
  pointwise

/-- The table over all rows: the batches' rows, then the samples'. -/
def tabA (x : FVec Ideal S2176x32 .f32) (y : FVec Ideal S4x32 .f32) : FVec Ideal S17920x128 .f32 :=
  concatenate S17920x128 0 [⟨S17408x128, rep2176 (row2176 x)⟩, ⟨S512x128, rep4 (row4 y)⟩] concatenates_S17408x128_S512x128_S17920x128_d0

/-- Two tables under one another, at an entry. -/
theorem under_eq (x : FVec Ideal S17408x128 .f32) (y : FVec Ideal S512x128 .f32) (r : Fin 17920) (l : Fin 128) :
    (concatenate S17920x128 0 [⟨S17408x128, x⟩, ⟨S512x128, y⟩] concatenates_S17408x128_S512x128_S17920x128_d0 (ix2 r l) : EReal)
      = if h : r.val < 17408 then x (ix2 ⟨r.val, h⟩ l) else y (ix2 ⟨r.val - 17408, by omega⟩ l) := by
  pointwise

/-- The entries of the row among the batches' or among the samples'. -/
def side (x : FVec Ideal S2176x32 .f32) (y : FVec Ideal S4x32 .f32) (r : Fin 17920) (j : Fin 32) : EReal :=
  if r.val < 17408 then x (ix2 ⟨r.val % 2176, by omega⟩ j) else y (ix2 ⟨(r.val - 17408) % 4, by omega⟩ j)

/-- The table at an entry. -/
theorem tabA_eq (x : FVec Ideal S2176x32 .f32) (y : FVec Ideal S4x32 .f32) (r : Fin 17920) (l : Fin 128) :
    (tabA x y (ix2 r l) : EReal) = tab (side x y r) l := by
  unfold tabA
  rw [under_eq]
  by_cases h : r.val < 17408
  · rw [dif_pos h, rep2176_eq, row2176_eq]
    exact congrArg (fun C => tab C l) (funext fun j => (if_pos h).symm)
  · rw [dif_neg h, rep4_eq, row4_eq]
    exact congrArg (fun C => tab C l) (funext fun j => (if_neg h).symm)

end Cert.Kernel7Ideal.Rows

end
-- ==== Proof.Rows.Ker2.lean ====
/- The first layer's input projection: latent rows, rotated keys and gate from the layer's rows. -/
module

public import proofs.«01_k».proof.Proof.Gen.Kernel2Ideal.Value
public import proofs.«01_k».proof.Proof.Rows.Padded
public import proofs.«01_k».proof.Proof.Rows.Tables
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel2Ideal.Rows

open Cert.Kernel2Ideal Cert.Kernel2Ideal.Gen Idealize.ShloMosaic Idealize.ShloMosaic.TcCoe Idealize.SL.Sem Cert.Rows

open Cert.Soft (IsReal)
open Cert.Kernel6Ideal.Rows (padded padded_eq)
open Cert.Kernel7Ideal.Rows (tabA tabA_eq side angP angS)

/-- Rows normalised alike. -/
theorem nrm_congr {b : BitVec 32} {n : ℕ} {x x' g g' : Fin n → EReal} (hx : ∀ k, x k = x' k) (hg : ∀ k, g k = g' k) (k : Fin n) : nrm b x g k = nrm b x' g' k := by
  rw [funext hx, funext hg]

/-- A row of zeros normalised is zero. -/
theorem nrm_zero {b : BitVec 32} {n : ℕ} {x : Fin n → EReal} (g : Fin n → EReal) (hx : ∀ k, x k = 0) (k : Fin n) : nrm b x g k = 0 := by
  unfold nrm
  rw [hx k, zero_mul, zero_mul]

/-- The small constant is a positive real number. -/
theorem eps_eq : Ideal.ofBits .f32 0x358637BD#32 = ((8796093 / 8796093022208 : ℝ) : EReal) := by
  simp [Ideal.ofBits, Ideal.ieee, -EReal.coe_mul]; norm_num

/-- The rows' width. -/
theorem width_eq : Ideal.ofBits .f32 0x45000000#32 = ((2048 : ℝ) : EReal) := by
  simp [Ideal.ofBits, Ideal.ieee, -EReal.coe_mul]; norm_num

/-- The reciprocal root mean square of a real row is real. -/
theorem rinv_real {n : ℕ} (x : Fin n → EReal) (hx : ∀ k, IsReal (x k)) : IsReal (rinv 0x45000000#32 x) := by
  obtain ⟨s, hs⟩ := IsReal.sum Finset.univ (fun k => x k * x k) (fun k => (hx k).mul (hx k))
  have h0 : (0 : EReal) ≤ ∑ k, x k * x k := Finset.sum_nonneg fun k _ => by
    obtain ⟨a, ha⟩ := hx k
    rw [ha, ← EReal.coe_mul]
    exact_mod_cast mul_self_nonneg a
  rw [hs] at h0
  have hs0 : 0 ≤ s := by exact_mod_cast h0
  unfold rinv
  rw [hs, width_eq, eps_eq, Ideal.div_coe (by norm_num), ← EReal.coe_mul, ← EReal.coe_add, Ideal.rsqrt_coe]
  have hp : (0 : ℝ) < s * (1 / 2048) + 8796093 / 8796093022208 := by positivity
  rw [if_neg (not_lt.2 hp.le), if_neg hp.ne']
  exact ⟨_, rfl⟩

/-- A real row normalised by real weights is real. -/
theorem nrm_real {n : ℕ} (x g : Fin n → EReal) (hx : ∀ k, IsReal (x k)) (hg : ∀ k, IsReal (g k)) (k : Fin n) : IsReal (nrm 0x45000000#32 x g k) :=
  ((hx k).mul (rinv_real x hx)).mul (hg k)

/-- Row `p` of the normalised block. -/
theorem norm_eq (x0 : Vec Ideal S512x2048 .f32) (x1 : Vec Ideal S1x2048 .f32) (p : Fin 512) (q : Fin 2048) :
    (k0_pay4 (View.ld x0 r0_0) (View.ld x1 r0_1) (ix2 p q) : EReal)
      = nrm 0x45000000#32 (fun k => x0 (ix2 p k)) (fun k => x1 (ix2 0 k)) q := by
  pointwise [k0_pay4]
  rfl

/-- The normalised row `p` against weight column `j`. -/
def vl (x0 : Shape.Idx ⟨2, ![512, 2048]⟩ → EReal) (x1 : Shape.Idx ⟨2, ![1, 2048]⟩ → EReal) (x2 : Shape.Idx ⟨2, ![2048, 3328]⟩ → EReal) (p : Fin 512) (j : Fin 3328) : EReal :=
  lin (nrm 0x45000000#32 (fun k => x0 (ix2 p k)) (fun k => x1 (ix2 0 k))) (fun k => x2 (ix2 k j))

/-- An entry of the latent query rows. -/
def v7 (x0 : Shape.Idx ⟨2, ![512, 2048]⟩ → EReal) (x1 : Shape.Idx ⟨2, ![1, 2048]⟩ → EReal) (x2 : Shape.Idx ⟨2, ![2048, 3328]⟩ → EReal) (x3 : Shape.Idx ⟨2, ![1, 512]⟩ → EReal) (p q : Fin 512) : EReal :=
  nrm 0x44000000#32 (fun k : Fin 512 => vl x0 x1 x2 p ⟨k.val, by omega⟩) (fun k => x3 (ix2 0 k)) q

/-- An entry of the latent key and value rows. -/
def v8 (x0 : Shape.Idx ⟨2, ![512, 2048]⟩ → EReal) (x1 : Shape.Idx ⟨2, ![1, 2048]⟩ → EReal) (x2 : Shape.Idx ⟨2, ![2048, 3328]⟩ → EReal) (x4 : Shape.Idx ⟨2, ![1, 512]⟩ → EReal) (p q : Fin 512) : EReal :=
  nrm 0x44000000#32 (fun k : Fin 512 => vl x0 x1 x2 p ⟨512 + k.val, by omega⟩) (fun k => x4 (ix2 0 k)) q

/-- An entry of the rotated keys. -/
def vr (x0 : Shape.Idx ⟨2, ![512, 2048]⟩ → EReal) (x1 : Shape.Idx ⟨2, ![1, 2048]⟩ → EReal) (x2 : Shape.Idx ⟨2, ![2048, 3328]⟩ → EReal) (x5 x6 : Shape.Idx ⟨2, ![512, 128]⟩ → EReal) (p : Fin 512) (l : Fin 128) : EReal :=
  vl x0 x1 x2 p ⟨3072 + l.val, by omega⟩ * x5 (ix2 p l) + vl x0 x1 x2 p ⟨3072 + (128 + l.val), by omega⟩ * x6 (ix2 p l)

/-- An entry of the gate. -/
def vg (x0 : Shape.Idx ⟨2, ![512, 2048]⟩ → EReal) (x1 : Shape.Idx ⟨2, ![1, 2048]⟩ → EReal) (x2 : Shape.Idx ⟨2, ![2048, 3328]⟩ → EReal) (p : Fin 512) (q : Fin 2048) : EReal :=
  vl x0 x1 x2 p ⟨1024 + q.val, by omega⟩

/-- The latent query block. -/
theorem cq_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (p : Fin 512) (q : Fin 512) :
    (k0_pay5 (View.ld x0 r0_0) (View.ld x1 r0_1) (View.ld x2 r0_2) (View.ld x3 r0_3) (ix2 p q) : EReal) = v7 x0 x1 x2 x3 p q := by
  pointwise [k0_pay5]
  simp only [norm_eq]
  rfl

/-- The latent key block. -/
theorem ck_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (p : Fin 512) (q : Fin 512) :
    (k0_pay7 (k0_pay13 x0 x1 x2 x3 x4 x5 x6) (k0_pay6 (View.ld x2 r0_5)) (constant S512x512 .f32 0x00000000#32) (View.ld x4 r0_3) (ix2 p q) : EReal) = v8 x0 x1 x2 x4 p q := by
  pointwise [k0_pay7, k0_pay6, k0_pay13]
  simp only [norm_eq]
  rfl

/-- The gate block's left half. -/
theorem g0_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (p : Fin 512) (q : Fin 1024) :
    (k0_pay8 (k0_pay13 x0 x1 x2 x3 x4 x5 x6) (View.ld x2 r0_6) (ix2 p q) : EReal) = vg x0 x1 x2 p ⟨q.val, by omega⟩ := by
  pointwise [k0_pay8, k0_pay13]
  simp only [norm_eq]
  rfl

/-- The gate block's right half. -/
theorem g1_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (p : Fin 512) (q : Fin 1024) :
    (k0_pay9 (k0_pay13 x0 x1 x2 x3 x4 x5 x6) (View.ld x2 r0_8) (ix2 p q) : EReal) = vl x0 x1 x2 p ⟨2048 + q.val, by omega⟩ := by
  pointwise [k0_pay9, k0_pay13]
  simp only [norm_eq]
  rfl

/-- The rotated key block. -/
theorem r0_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (p : Fin 512) (q : Fin 128) :
    (k0_pay1 (k0_pay14 x0 x1 x2 x3 x4 x5 x6) (k0_pay15 x0 x1 x2 x3 x4 x5 x6) (View.ld x6 r0_11) (ix2 p q) : EReal) = vr x0 x1 x2 x5 x6 p q := by
  pointwise [k0_pay1, k0_pay14, k0_pay15, k0_pay13, k0_pay12, k0_pay11, k0_pay10]
  simp only [norm_eq]
  rfl

/-- The rotated key block's first 64 columns. -/
theorem r1_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (p : Fin 512) (q : Fin 64) : (k0_pay2 (k0_pay14 x0 x1 x2 x3 x4 x5 x6) (k0_pay15 x0 x1 x2 x3 x4 x5 x6) (View.ld x6 r0_11) (ix2 p q) : EReal) = vr x0 x1 x2 x5 x6 p ⟨q.val, by omega⟩ := by
  refine Eq.trans ?_ (r0_eq x0 x1 x2 x3 x4 x5 x6 p ⟨q.val, by omega⟩)
  generalize k0_pay14 x0 x1 x2 x3 x4 x5 x6 = a
  generalize k0_pay15 x0 x1 x2 x3 x4 x5 x6 = b
  unfold k0_pay2
  pointwise

/-- The rotated key block stored narrower. -/
theorem r2_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (p : Fin 512) (q : Fin 128) : (k0_pay3 (k0_pay14 x0 x1 x2 x3 x4 x5 x6) (k0_pay15 x0 x1 x2 x3 x4 x5 x6) (View.ld x6 r0_11) (ix2 p q) : EReal) = vr x0 x1 x2 x5 x6 p q :=
  r0_eq x0 x1 x2 x3 x4 x5 x6 p q

/-- What the body leaves in the window of the latent queries. -/
theorem out7_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (y : S512x512.Idx) : (out0_7 x0 x1 x2 x3 x4 x5 x6 y : EReal) = v7 x0 x1 x2 x3 (y 0) (y 1) := by
  unfold out0_7
  canon_tiles x h using View.cover_of_tiledBy _ ![512, 512] (by sl_kernel_rfl) _
  have e := cq_eq x0 x1 x2 x3 x4 x5 x6 (x 0) (x 1)
  rw [← eq_ix2 x] at e
  exact e.trans (congrArg₂ (v7 x0 x1 x2 x3) (Fin.ext h0.symm) (Fin.ext h1.symm))

/-- What the body leaves in the window of the latent keys. -/
theorem out8_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (y : S512x512.Idx) : (out0_8 x0 x1 x2 x3 x4 x5 x6 y : EReal) = v8 x0 x1 x2 x4 (y 0) (y 1) := by
  unfold out0_8
  canon_tiles x h using View.cover_of_tiledBy _ ![512, 512] (by sl_kernel_rfl) _
  have e := ck_eq x0 x1 x2 x3 x4 x5 x6 (x 0) (x 1)
  rw [← eq_ix2 x] at e
  exact e.trans (congrArg₂ (v8 x0 x1 x2 x4) (Fin.ext h0.symm) (Fin.ext h1.symm))

/-- What the body leaves in the window of the rotated keys. -/
theorem out10_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (y : S512x128.Idx) : (out0_10 x0 x1 x2 x3 x4 x5 x6 y : EReal) = vr x0 x1 x2 x5 x6 (y 0) (y 1) := by
  unfold out0_10
  canon_tiles x h using View.cover_of_tiledBy _ ![512, 128] (by sl_kernel_rfl) _
  have e := r2_eq x0 x1 x2 x3 x4 x5 x6 (x 0) (x 1)
  rw [← eq_ix2 x] at e
  exact e.trans (congrArg₂ (vr x0 x1 x2 x5 x6) (Fin.ext h0.symm) (Fin.ext h1.symm))

/-- What the body leaves in the window of the first 64 columns of the rotated keys. -/
theorem out9_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (y : S512x64.Idx) : (out0_9 x0 x1 x2 x3 x4 x5 x6 y : EReal) = vr x0 x1 x2 x5 x6 (y 0) ⟨(y 1).val, by have : (y 1).val < 64 := (y 1).isLt; omega⟩ := by
  unfold out0_9
  canon_tiles x h using View.cover_of_tiledBy _ ![512, 64] (by sl_kernel_rfl) _
  have e := r1_eq x0 x1 x2 x3 x4 x5 x6 (x 0) (x 1)
  rw [← eq_ix2 x] at e
  exact e.trans (congrArg₂ (vr x0 x1 x2 x5 x6) (Fin.ext h0.symm) (Fin.ext h1.symm))

/-- What the body leaves in the gate window. -/
theorem out11_eq (x0 : Vec Ideal S512x2048 .f32) (x1 : Vec Ideal S1x2048 .f32) (x2 : Vec Ideal S2048x3328 .bf16) (x3 : Vec Ideal S1x512 .f32) (x4 : Vec Ideal S1x512 .f32) (x5 : Vec Ideal S512x128 .f32) (x6 : Vec Ideal S512x128 .f32) (y : S512x2048.Idx) : (out0_11 x0 x1 x2 x3 x4 x5 x6 y : EReal) = vg x0 x1 x2 (y 0) (y 1) := by
  unfold out0_11
  canon_tiles x h using View.cover_of_tiledBy _ ![512, 1024] (by sl_kernel_rfl) _
  case piece0 =>
    have e := g1_eq x0 x1 x2 x3 x4 x5 x6 (x 0) (x 1)
    rw [← eq_ix2 x] at e
    refine e.trans (congrArg₂ (vl x0 x1 x2) (Fin.ext h0.symm) (Fin.ext (by show 2048 + _ = 1024 + _; omega)))
  case piece1 =>
    have e := g0_eq x0 x1 x2 x3 x4 x5 x6 (x 0) (x 1)
    rw [← eq_ix2 x] at e
    exact e.trans (congrArg₂ (vg x0 x1 x2) (Fin.ext h0.symm) (Fin.ext h1.symm))

/-- The first 1024 weight columns. -/
def wA (a : FVec Ideal S1x2048x3136 .f32) : FVec Ideal S2048x1024 .f32 :=
  extractStridedSlice S2048x1024 ![0, 0] (shapeCast S2048x3136 a shapeCasts_S1x2048x3136_S2048x3136) slices_S2048x3136_S2048x1024_0_0

/-- The gate's weight columns. -/
def wB (a : FVec Ideal S1x2048x3136 .f32) : FVec Ideal S2048x2048 .f32 :=
  extractStridedSlice S2048x2048 ![0, 1088] (shapeCast S2048x3136 a shapeCasts_S1x2048x3136_S2048x3136) slices_S2048x3136_S2048x2048_0_1088

/-- The rotated keys' weight columns, widened. -/
def wC (a : FVec Ideal S1x2048x3136 .f32) : FVec Ideal S2048x128 .f32 :=
  concatenate S2048x128 1 [⟨S2048x64, (extractStridedSlice S2048x64 ![0, 1024] (shapeCast S2048x3136 a shapeCasts_S1x2048x3136_S2048x3136) slices_S2048x3136_S2048x64_0_1024)⟩, ⟨S2048x64, (broadcastInDim S2048x64 ![] bcast_S_S2048x64 (constant S_ .f32 0x00000000#32))⟩] concatenates_S2048x64_S2048x64_S2048x128_d1

/-- The rotated keys' weight columns, turned. -/
def wD (a : FVec Ideal S1x2048x3136 .f32) : FVec Ideal S2048x128 .f32 :=
  concatenate S2048x128 1 [⟨S2048x64, (concatenate S2048x64 1 [⟨S2048x32, Host.negf (extractStridedSlice S2048x32 ![0, 32] (extractStridedSlice S2048x64 ![0, 1024] (shapeCast S2048x3136 a shapeCasts_S1x2048x3136_S2048x3136) slices_S2048x3136_S2048x64_0_1024) slices_S2048x64_S2048x32_0_32)⟩, ⟨S2048x32, extractStridedSlice S2048x32 ![0, 0] (extractStridedSlice S2048x64 ![0, 1024] (shapeCast S2048x3136 a shapeCasts_S1x2048x3136_S2048x3136) slices_S2048x3136_S2048x64_0_1024) slices_S2048x64_S2048x32_0_0⟩] concatenates_S2048x32_S2048x32_S2048x64_d1)⟩, ⟨S2048x64, (broadcastInDim S2048x64 ![] bcast_S_S2048x64 (constant S_ .f32 0x00000000#32))⟩] concatenates_S2048x64_S2048x64_S2048x128_d1

/-- Four weight arrays side by side. -/
def wE (A : FVec Ideal S2048x1024 .f32) (B : FVec Ideal S2048x2048 .f32) (C D : FVec Ideal S2048x128 .f32) : FVec Ideal S2048x3328 .bf16 :=
  truncf .bf16 (concatenate S2048x3328 1 [⟨S2048x1024, A⟩, ⟨S2048x2048, B⟩, ⟨S2048x128, C⟩, ⟨S2048x128, D⟩] concatenates_S2048x1024_S2048x2048_S2048x128_S2048x128_S2048x3328_d1) bitsLt_bf16_f32

/-- The first weight columns at an entry. -/
theorem wA_eq (a : FVec Ideal S1x2048x3136 .f32) (k : Fin 2048) (j : Fin 1024) : (wA a (ix2 k j) : EReal) = a (ix3 0 k ⟨j.val, by omega⟩) := by
  unfold wA
  pointwise

/-- The gate's weight columns at an entry. -/
theorem wB_eq (a : FVec Ideal S1x2048x3136 .f32) (k : Fin 2048) (j : Fin 2048) : (wB a (ix2 k j) : EReal) = a (ix3 0 k ⟨1088 + j.val, by omega⟩) := by
  unfold wB
  pointwise

/-- The widened weight columns at an entry. -/
theorem wC_eq (a : FVec Ideal S1x2048x3136 .f32) (k : Fin 2048) (l : Fin 128) : (wC a (ix2 k l) : EReal) = wide (fun j => a (ix3 0 k ⟨1024 + j.val, by omega⟩)) l := by
  unfold wC
  pointwise
  rfl

/-- The turned weight columns at an entry. -/
theorem wD_eq (a : FVec Ideal S1x2048x3136 .f32) (k : Fin 2048) (l : Fin 128) : (wD a (ix2 k l) : EReal) = turned (fun j => a (ix3 0 k ⟨1024 + j.val, by omega⟩)) l := by
  unfold wD
  pointwise
  exact turned_of (fun j : Fin 64 => a (ix3 0 k ⟨1024 + j.val, by omega⟩)) l

section
variable (A : FVec Ideal S2048x1024 .f32) (B : FVec Ideal S2048x2048 .f32) (C D : FVec Ideal S2048x128 .f32)

/-- Four arrays side by side at an entry. -/
theorem wE_eq (k : Fin 2048) (j : Fin 3328) : (wE A B C D (ix2 k j) : EReal) =
    if h : j.val < 1024 then A (ix2 k ⟨j.val, h⟩) else if h : j.val - 1024 < 2048 then B (ix2 k ⟨j.val - 1024, h⟩)
      else if h : j.val - 1024 - 2048 < 128 then C (ix2 k ⟨j.val - 1024 - 2048, h⟩) else D (ix2 k ⟨j.val - 1024 - 2048 - 128, by omega⟩) := by
  unfold wE
  pointwise

/-- The first array's columns. -/
theorem wE_A (k : Fin 2048) (j : Fin 1024) : (wE A B C D (ix2 k ⟨j.val, by omega⟩) : EReal) = A (ix2 k j) := by
  rw [wE_eq, dif_pos (show (⟨j.val, by omega⟩ : Fin 3328).val < 1024 from j.isLt)]

/-- The second array's columns. -/
theorem wE_B (k : Fin 2048) (j : Fin 2048) : (wE A B C D (ix2 k ⟨1024 + j.val, by omega⟩) : EReal) = B (ix2 k j) := by
  rw [wE_eq, dif_neg (show ¬ (1024 + j.val) < 1024 by omega), dif_pos (show (1024 + j.val) - 1024 < 2048 by omega)]
  exact congrArg (fun l => B (ix2 k l)) (Fin.ext (by show 1024 + j.val - 1024 = j.val; omega))

/-- The third array's columns. -/
theorem wE_C (k : Fin 2048) (j : Fin 128) : (wE A B C D (ix2 k ⟨3072 + j.val, by omega⟩) : EReal) = C (ix2 k j) := by
  rw [wE_eq, dif_neg (show ¬ (3072 + j.val) < 1024 by omega), dif_neg (show ¬ (3072 + j.val) - 1024 < 2048 by omega), dif_pos (show (3072 + j.val) - 1024 - 2048 < 128 by omega)]
  exact congrArg (fun l => C (ix2 k l)) (Fin.ext (by show 3072 + j.val - 1024 - 2048 = j.val; omega))

/-- The fourth array's columns. -/
theorem wE_D (k : Fin 2048) (j : Fin 128) : (wE A B C D (ix2 k ⟨3072 + (128 + j.val), by omega⟩) : EReal) = D (ix2 k j) := by
  rw [wE_eq, dif_neg (show ¬ (3072 + (128 + j.val)) < 1024 by omega), dif_neg (show ¬ (3072 + (128 + j.val)) - 1024 < 2048 by omega), dif_neg (show ¬ (3072 + (128 + j.val)) - 1024 - 2048 < 128 by omega)]
  exact congrArg (fun l => D (ix2 k l)) (Fin.ext (by show 3072 + (128 + j.val) - 1024 - 2048 - 128 = j.val; omega))

end

variable (m : (ℓ : Loc nD τ sig) → Buf (Elt Ideal) ℓ) (c : Dev nD)

/-- The index maps: the row windows move with the point, the weights stay. -/
theorem idx : ∀ t : Fin grid0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0] := by decide +kernel

/-- The padded rows, as the region finds it. -/
theorem V_rows (r : Fin 17920) (k : Fin 2048) : (V m c main_v20 (ix2 r k) : EReal) = input (m ((c : Thread nD τ).loc main_arg0)) (m ((c : Thread nD τ).loc main_arg1)) (m ((c : Thread nD τ).loc main_arg2)) r k := by
  have e : V m c main_v20 = padded (m ((c : Thread nD τ).loc main_arg0)) (m ((c : Thread nD τ).loc main_arg1)) (m ((c : Thread nD τ).loc main_arg2)) := by
    show StableHlo.after hostOps0 _ (Proc.devRef .tc main_v20) = _
    after_results
    rfl
  exact (congrFun e _).trans (padded_eq _ _ _ r k)

/-- The table of cosines, as the region finds it. -/
theorem V_cs (r : Fin 17920) (l : Fin 128) : (V m c main_v71 (ix2 r l) : EReal) = tab (side (Host.cos angP) (Host.cos angS) r) l := by
  have e : V m c main_v71 = tabA (Host.cos angP) (Host.cos angS) := by
    show StableHlo.after hostOps0 _ (Proc.devRef .tc main_v71) = _
    after_results
    rfl
  exact (congrFun e _).trans (tabA_eq _ _ r l)

/-- The table of sines, as the region finds it. -/
theorem V_sn (r : Fin 17920) (l : Fin 128) : (V m c main_v72 (ix2 r l) : EReal) = tab (side (Host.sin angP) (Host.sin angS) r) l := by
  have e : V m c main_v72 = tabA (Host.sin angP) (Host.sin angS) := by
    show StableHlo.after hostOps0 _ (Proc.devRef .tc main_v72) = _
    after_results
    rfl
  exact (congrFun e _).trans (tabA_eq _ _ r l)

/-- The four weight arrays side by side, as the region finds it. -/
theorem V_w (k : Fin 2048) (j : Fin 3328) : (V m c main_v86 (ix2 k j) : EReal) = wE (wA (m ((c : Thread nD τ).loc main_arg4))) (wB (m ((c : Thread nD τ).loc main_arg4))) (wC (m ((c : Thread nD τ).loc main_arg4))) (wD (m ((c : Thread nD τ).loc main_arg4))) (ix2 k j) := by
  have e : V m c main_v86 = wE (wA (m ((c : Thread nD τ).loc main_arg4))) (wB (m ((c : Thread nD τ).loc main_arg4))) (wC (m ((c : Thread nD τ).loc main_arg4))) (wD (m ((c : Thread nD τ).loc main_arg4))) := by
    show StableHlo.after hostOps0 _ (Proc.devRef .tc main_v86) = _
    after_results
    rfl
  exact (congrFun e _).trans (rfl)

/-- The rows' normalisation weights flattened and given back their unit axis, at an entry. -/
theorem g_read (a : FVec Ideal S1x2048 .f32) (p : Fin 1) (q : Fin 2048) :
    (shapeCast S1x2048 (shapeCast S2048 a shapeCasts_S1x2048_S2048) shapeCasts_S2048_S1x2048 (ix2 p q) : EReal) = a (ix2 0 q) := by
  obtain rfl : p = 0 := Subsingleton.elim _ _
  pointwise

/-- The rows' normalisation weights, as the region finds it. -/
theorem V_g (p : Fin 1) (q : Fin 2048) : (V m c main_v88 (ix2 p q) : EReal) = (m ((c : Thread nD τ).loc main_arg3)) (ix2 0 q) := by
  have e : V m c main_v88 = (shapeCast S1x2048 (shapeCast S2048 (m ((c : Thread nD τ).loc main_arg3)) shapeCasts_S1x2048_S2048 : FVec Ideal _ .f32) shapeCasts_S2048_S1x2048 : FVec Ideal _ .f32) := by
    show StableHlo.after hostOps0 _ (Proc.devRef .tc main_v88) = _
    after_results
    rfl
  exact (congrFun e _).trans (g_read _ p q)

/-- The latent queries' normalisation weights flattened and given back their unit axis, at an entry. -/
theorem gq_read (a : FVec Ideal S1x512 .f32) (p : Fin 1) (q : Fin 512) :
    (shapeCast S1x512 (shapeCast S512 a shapeCasts_S1x512_S512) shapeCasts_S512_S1x512 (ix2 p q) : EReal) = a (ix2 0 q) := by
  obtain rfl : p = 0 := Subsingleton.elim _ _
  pointwise

/-- The latent queries' normalisation weights, as the region finds it. -/
theorem V_gq (p : Fin 1) (q : Fin 512) : (V m c main_v90 (ix2 p q) : EReal) = (m ((c : Thread nD τ).loc main_arg5)) (ix2 0 q) := by
  have e : V m c main_v90 = (shapeCast S1x512 (shapeCast S512 (m ((c : Thread nD τ).loc main_arg5)) shapeCasts_S1x512_S512 : FVec Ideal _ .f32) shapeCasts_S512_S1x512 : FVec Ideal _ .f32) := by
    show StableHlo.after hostOps0 _ (Proc.devRef .tc main_v90) = _
    after_results
    rfl
  exact (congrFun e _).trans (gq_read _ p q)

/-- The latent keys' normalisation weights flattened and given back their unit axis, at an entry. -/
theorem gk_read (a : FVec Ideal S1x512 .f32) (p : Fin 1) (q : Fin 512) :
    (shapeCast S1x512 (shapeCast S512 a shapeCasts_S1x512_S512) shapeCasts_S512_S1x512 (ix2 p q) : EReal) = a (ix2 0 q) := by
  obtain rfl : p = 0 := Subsingleton.elim _ _
  pointwise

/-- The latent keys' normalisation weights, as the region finds it. -/
theorem V_gk (p : Fin 1) (q : Fin 512) : (V m c main_v92 (ix2 p q) : EReal) = (m ((c : Thread nD τ).loc main_arg6)) (ix2 0 q) := by
  have e : V m c main_v92 = (shapeCast S1x512 (shapeCast S512 (m ((c : Thread nD τ).loc main_arg6)) shapeCasts_S1x512_S512 : FVec Ideal _ .f32) shapeCasts_S512_S1x512 : FVec Ideal _ .f32) := by
    show StableHlo.after hostOps0 _ (Proc.devRef .tc main_v92) = _
    after_results
    rfl
  exact (congrFun e _).trans (gk_read _ p q)

/-- Window 0's block is the point's rows. -/
theorem read0 (t : Fin cfg0.N) (p : Fin 512) (k : Fin 2048) : (iblk m c 0 t (ix2 p k) : EReal) = input (m ((c : Thread nD τ).loc main_arg0)) (m ((c : Thread nD τ).loc main_arg1)) (m ((c : Thread nD τ).loc main_arg2)) ⟨t.val * 512 + p.val, by have := t.isLt; have : cfg0.N = 35 := N_0; omega⟩ k := by
  obtain ⟨e0, e1, e2, e3, e4, e5, e6, e7, e8, e9, e10, e11⟩ := idx t
  rw [← V_rows m c _ k]
  blk_ext [iblk, e0]

/-- Window 1's block is the rows' normalisation weights. -/
theorem read1 (t : Fin cfg0.N) (k : Fin 2048) : (iblk m c 1 t (ix2 0 k) : EReal) = (m ((c : Thread nD τ).loc main_arg3)) (ix2 0 k) := by
  obtain ⟨e0, e1, e2, e3, e4, e5, e6, e7, e8, e9, e10, e11⟩ := idx t
  rw [← V_g m c 0 k]
  blk_ext [iblk, e1]

/-- Window 2's block is the weights. -/
theorem read2 (t : Fin cfg0.N) (k : Fin 2048) (j : Fin 3328) : (iblk m c 2 t (ix2 k j) : EReal) = wE (wA (m ((c : Thread nD τ).loc main_arg4))) (wB (m ((c : Thread nD τ).loc main_arg4))) (wC (m ((c : Thread nD τ).loc main_arg4))) (wD (m ((c : Thread nD τ).loc main_arg4))) (ix2 k j) := by
  obtain ⟨e0, e1, e2, e3, e4, e5, e6, e7, e8, e9, e10, e11⟩ := idx t
  rw [← V_w m c k j]
  blk_ext [iblk, e2]

/-- Window 3's block is the latent queries' normalisation weights. -/
theorem read3 (t : Fin cfg0.N) (k : Fin 512) : (iblk m c 3 t (ix2 0 k) : EReal) = (m ((c : Thread nD τ).loc main_arg5)) (ix2 0 k) := by
  obtain ⟨e0, e1, e2, e3, e4, e5, e6, e7, e8, e9, e10, e11⟩ := idx t
  rw [← V_gq m c 0 k]
  blk_ext [iblk, e3]

/-- Window 4's block is the latent keys' normalisation weights. -/
theorem read4 (t : Fin cfg0.N) (k : Fin 512) : (iblk m c 4 t (ix2 0 k) : EReal) = (m ((c : Thread nD τ).loc main_arg6)) (ix2 0 k) := by
  obtain ⟨e0, e1, e2, e3, e4, e5, e6, e7, e8, e9, e10, e11⟩ := idx t
  rw [← V_gk m c 0 k]
  blk_ext [iblk, e4]

/-- Window 5's block is the point's rows of the table. -/
theorem read5 (t : Fin cfg0.N) (p : Fin 512) (l : Fin 128) : (iblk m c 5 t (ix2 p l) : EReal) = tab (side (Host.cos angP) (Host.cos angS) ⟨t.val * 512 + p.val, by have := t.isLt; have : cfg0.N = 35 := N_0; omega⟩) l := by
  obtain ⟨e0, e1, e2, e3, e4, e5, e6, e7, e8, e9, e10, e11⟩ := idx t
  rw [← V_cs m c _ l]
  blk_ext [iblk, e5]

/-- Window 6's block is the point's rows of the table. -/
theorem read6 (t : Fin cfg0.N) (p : Fin 512) (l : Fin 128) : (iblk m c 6 t (ix2 p l) : EReal) = tab (side (Host.sin angP) (Host.sin angS) ⟨t.val * 512 + p.val, by have := t.isLt; have : cfg0.N = 35 := N_0; omega⟩) l := by
  obtain ⟨e0, e1, e2, e3, e4, e5, e6, e7, e8, e9, e10, e11⟩ := idx t
  rw [← V_sn m c _ l]
  blk_ext [iblk, e6]

/-- The normalised row `r` of the layer's rows. -/
def act (a0 : S8x2048x2048.Idx → EReal) (a1 : S128x4x2048.Idx → EReal) (a2 : S16x2048.Idx → EReal) (a3 : S1x2048.Idx → EReal) (r : Fin 17920) : Fin 2048 → EReal :=
  nrm 0x45000000#32 (fun k => input a0 a1 a2 r k) (fun k => a3 (ix2 0 k))

/-- Row `r` projected on column `j`. -/
def proj (a0 : S8x2048x2048.Idx → EReal) (a1 : S128x4x2048.Idx → EReal) (a2 : S16x2048.Idx → EReal) (a3 : S1x2048.Idx → EReal) (a4 : S1x2048x3136.Idx → EReal) (r : Fin 17920) (j : Fin 3136) : EReal :=
  lin (act a0 a1 a2 a3 r) (fun k => a4 (ix3 0 k j))

/-- The latent queries of a projected row. -/
def Gq (u : Fin 3136 → EReal) (g : S1x512.Idx → EReal) (q : Fin 512) : EReal :=
  nrm 0x44000000#32 (fun k : Fin 512 => u ⟨k.val, by omega⟩) (fun k => g (ix2 0 k)) q

/-- The latent keys and values of a projected row. -/
def Gc (u : Fin 3136 → EReal) (g : S1x512.Idx → EReal) (q : Fin 512) : EReal :=
  nrm 0x44000000#32 (fun k : Fin 512 => u ⟨512 + k.val, by omega⟩) (fun k => g (ix2 0 k)) q

/-- The rotated keys of row `r`, projected. -/
def Gr (u : Fin 3136 → EReal) (r : Fin 17920) (l : Fin 128) : EReal :=
  rot (fun j => u ⟨1024 + j.val, by omega⟩) (side (Host.cos angP) (Host.cos angS) r) (side (Host.sin angP) (Host.sin angS) r) l

/-- The gate of a projected row. -/
def Gg (u : Fin 3136 → EReal) (q : Fin 2048) : EReal := u ⟨1088 + q.val, by omega⟩

/-- A block's projection on the weights, by the arguments. -/
theorem vl_A (t : Fin cfg0.N) (p : Fin 512) (j : Fin 1024) : vl (iblk m c 0 t) (iblk m c 1 t) (iblk m c 2 t) p ⟨j.val, by omega⟩ = proj (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + p.val, by have := t.isLt; have : cfg0.N = 35 := N_0; omega⟩ ⟨j.val, by omega⟩ :=
  lin_congr (fun k => nrm_congr (fun k => read0 m c t p k) (fun k => read1 m c t k) k) (fun k => (read2 m c t k _).trans ((wE_A _ _ _ _ k j).trans (wA_eq _ k j)))

/-- A block's projection on the weights, by the arguments. -/
theorem vl_B (t : Fin cfg0.N) (p : Fin 512) (j : Fin 2048) : vl (iblk m c 0 t) (iblk m c 1 t) (iblk m c 2 t) p ⟨1024 + j.val, by omega⟩ = proj (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + p.val, by have := t.isLt; have : cfg0.N = 35 := N_0; omega⟩ ⟨1088 + j.val, by omega⟩ :=
  lin_congr (fun k => nrm_congr (fun k => read0 m c t p k) (fun k => read1 m c t k) k) (fun k => (read2 m c t k _).trans ((wE_B _ _ _ _ k j).trans (wB_eq _ k j)))

/-- A block's projection on the weights, by the arguments. -/
theorem vl_C (t : Fin cfg0.N) (p : Fin 512) (j : Fin 128) : vl (iblk m c 0 t) (iblk m c 1 t) (iblk m c 2 t) p ⟨3072 + j.val, by omega⟩ = lin (act (m ((c : Thread nD τ).loc main_arg0)) (m ((c : Thread nD τ).loc main_arg1)) (m ((c : Thread nD τ).loc main_arg2)) (m ((c : Thread nD τ).loc main_arg3)) ⟨t.val * 512 + p.val, by have := t.isLt; have : cfg0.N = 35 := N_0; omega⟩) (fun k => wide (fun i => (m ((c : Thread nD τ).loc main_arg4)) (ix3 0 k ⟨1024 + i.val, by omega⟩)) j) :=
  lin_congr (fun k => nrm_congr (fun k => read0 m c t p k) (fun k => read1 m c t k) k) (fun k => (read2 m c t k _).trans ((wE_C _ _ _ _ k j).trans (wC_eq _ k j)))

/-- A block's projection on the weights, by the arguments. -/
theorem vl_D (t : Fin cfg0.N) (p : Fin 512) (j : Fin 128) : vl (iblk m c 0 t) (iblk m c 1 t) (iblk m c 2 t) p ⟨3072 + (128 + j.val), by omega⟩ = lin (act (m ((c : Thread nD τ).loc main_arg0)) (m ((c : Thread nD τ).loc main_arg1)) (m ((c : Thread nD τ).loc main_arg2)) (m ((c : Thread nD τ).loc main_arg3)) ⟨t.val * 512 + p.val, by have := t.isLt; have : cfg0.N = 35 := N_0; omega⟩) (fun k => turned (fun i => (m ((c : Thread nD τ).loc main_arg4)) (ix3 0 k ⟨1024 + i.val, by omega⟩)) j) :=
  lin_congr (fun k => nrm_congr (fun k => read0 m c t p k) (fun k => read1 m c t k) k) (fun k => (read2 m c t k _).trans ((wE_D _ _ _ _ k j).trans (wD_eq _ k j)))

/-- The latent queries' entry of a block, by the arguments. -/
theorem val7 (t : Fin cfg0.N) (p q : Fin 512) : v7 (iblk m c 0 t) (iblk m c 1 t) (iblk m c 2 t) (iblk m c 3 t) p q = Gq (proj (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + p.val, by have := t.isLt; have : cfg0.N = 35 := N_0; omega⟩) (m ((c : Thread nD τ).loc main_arg5)) q :=
  nrm_congr (fun k => vl_A m c t p ⟨k.val, by omega⟩) (fun k => read3 m c t k) q

/-- The latent keys' entry of a block, by the arguments. -/
theorem val8 (t : Fin cfg0.N) (p q : Fin 512) : v8 (iblk m c 0 t) (iblk m c 1 t) (iblk m c 2 t) (iblk m c 4 t) p q = Gc (proj (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + p.val, by have := t.isLt; have : cfg0.N = 35 := N_0; omega⟩) (m ((c : Thread nD τ).loc main_arg6)) q :=
  nrm_congr (fun k => vl_A m c t p ⟨512 + k.val, by omega⟩) (fun k => read4 m c t k) q

/-- The gate's entry of a block, by the arguments. -/
theorem val11 (t : Fin cfg0.N) (p : Fin 512) (q : Fin 2048) : vg (iblk m c 0 t) (iblk m c 1 t) (iblk m c 2 t) p q = Gg (proj (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + p.val, by have := t.isLt; have : cfg0.N = 35 := N_0; omega⟩) q :=
  vl_B m c t p q

/-- The rotated keys' entry of a block, by the arguments, for real rows and weights. -/
theorem valr (hr : ∀ r k, IsReal (input (m ((c : Thread nD τ).loc main_arg0)) (m ((c : Thread nD τ).loc main_arg1)) (m ((c : Thread nD τ).loc main_arg2)) r k)) (hg : ∀ i, IsReal ((m ((c : Thread nD τ).loc main_arg3)) i)) (hw : ∀ i, IsReal ((m ((c : Thread nD τ).loc main_arg4)) i)) (t : Fin cfg0.N) (p : Fin 512) (l : Fin 128) : vr (iblk m c 0 t) (iblk m c 1 t) (iblk m c 2 t) (iblk m c 5 t) (iblk m c 6 t) p l = Gr (proj (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + p.val, by have := t.isLt; have : cfg0.N = 35 := N_0; omega⟩) ⟨t.val * 512 + p.val, by have := t.isLt; have : cfg0.N = 35 := N_0; omega⟩ l := by
  refine Eq.trans ?_ (rot_eq (act (m ((c : Thread nD τ).loc main_arg0)) (m ((c : Thread nD τ).loc main_arg1)) (m ((c : Thread nD τ).loc main_arg2)) (m ((c : Thread nD τ).loc main_arg3)) ⟨t.val * 512 + p.val, by have := t.isLt; have : cfg0.N = 35 := N_0; omega⟩) (fun k i => (m ((c : Thread nD τ).loc main_arg4)) (ix3 0 k ⟨1024 + i.val, by omega⟩)) _ _ _ (fun k => nrm_real _ _ (fun k => hr _ k) (fun k => hg _) k) (fun k j => hw _))
  exact mix_congr (vl_C m c t p l) (read5 m c t p l) (vl_D m c t p l) (read6 m c t p l)

/-- The latent queries after the run. -/
theorem final7 : (dats m 0 c).arrAt 7 cfg0.N = fun i : S17920x512.Idx => Gq (proj (m ((c : Thread nD τ).loc main_arg0)) (m ((c : Thread nD τ).loc main_arg1)) (m ((c : Thread nD τ).loc main_arg2)) (m ((c : Thread nD τ).loc main_arg3)) (m ((c : Thread nD τ).loc main_arg4)) (i 0)) (m ((c : Thread nD τ).loc main_arg5)) (i 1) := by
  refine (dats m 0 c).arrAt_eq_of_covers 7 _ (by decide +kernel) fun t hf y => ?_
  obtain ⟨e0, e1, e2, e3, e4, e5, e6, e7, e8, e9, e10, e11⟩ := idx t
  rw [after0_7]
  have E0 : ((((cfg0.win 7).blk t).view.emb y) 0).val = t.val * 512 + (y 0).val := by blk_simp [e7]
  have E1 : ((((cfg0.win 7).blk t).view.emb y) 1).val = (y 1).val := by blk_simp [e7]
  refine (cast_eq _ _).trans ?_
  refine (out7_eq (iblk m c 0 t) (iblk m c 1 t) (iblk m c 2 t) (iblk m c 3 t) (iblk m c 4 t) (iblk m c 5 t) (iblk m c 6 t) ((cfg0.win 7).xinj (cfg0.grid.coords t) y)).trans ?_
  refine (val7 m c t _ _).trans ?_
  exact congrArg₂ (fun (a : Fin 17920) (b : Fin 512) => Gq (proj (m ((c : Thread nD τ).loc main_arg0)) (m ((c : Thread nD τ).loc main_arg1)) (m ((c : Thread nD τ).loc main_arg2)) (m ((c : Thread nD τ).loc main_arg3)) (m ((c : Thread nD τ).loc main_arg4)) a) (m ((c : Thread nD τ).loc main_arg5)) b) (Fin.ext E0.symm) (Fin.ext E1.symm)

/-- The latent keys after the run. -/
theorem final8 : (dats m 0 c).arrAt 8 cfg0.N = fun i : S17920x512.Idx => Gc (proj (m ((c : Thread nD τ).loc main_arg0)) (m ((c : Thread nD τ).loc main_arg1)) (m ((c : Thread nD τ).loc main_arg2)) (m ((c : Thread nD τ).loc main_arg3)) (m ((c : Thread nD τ).loc main_arg4)) (i 0)) (m ((c : Thread nD τ).loc main_arg6)) (i 1) := by
  refine (dats m 0 c).arrAt_eq_of_covers 8 _ (by decide +kernel) fun t hf y => ?_
  obtain ⟨e0, e1, e2, e3, e4, e5, e6, e7, e8, e9, e10, e11⟩ := idx t
  rw [after0_8]
  have E0 : ((((cfg0.win 8).blk t).view.emb y) 0).val = t.val * 512 + (y 0).val := by blk_simp [e8]
  have E1 : ((((cfg0.win 8).blk t).view.emb y) 1).val = (y 1).val := by blk_simp [e8]
  refine (cast_eq _ _).trans ?_
  refine (out8_eq (iblk m c 0 t) (iblk m c 1 t) (iblk m c 2 t) (iblk m c 3 t) (iblk m c 4 t) (iblk m c 5 t) (iblk m c 6 t) ((cfg0.win 8).xinj (cfg0.grid.coords t) y)).trans ?_
  refine (val8 m c t _ _).trans ?_
  exact congrArg₂ (fun (a : Fin 17920) (b : Fin 512) => Gc (proj (m ((c : Thread nD τ).loc main_arg0)) (m ((c : Thread nD τ).loc main_arg1)) (m ((c : Thread nD τ).loc main_arg2)) (m ((c : Thread nD τ).loc main_arg3)) (m ((c : Thread nD τ).loc main_arg4)) a) (m ((c : Thread nD τ).loc main_arg6)) b) (Fin.ext E0.symm) (Fin.ext E1.symm)

/-- The rotated keys after the run. -/
theorem final9 (hr : ∀ r k, IsReal (input (m ((c : Thread nD τ).loc main_arg0)) (m ((c : Thread nD τ).loc main_arg1)) (m ((c : Thread nD τ).loc main_arg2)) r k)) (hg : ∀ i, IsReal ((m ((c : Thread nD τ).loc main_arg3)) i)) (hw : ∀ i, IsReal ((m ((c : Thread nD τ).loc main_arg4)) i)) : (dats m 0 c).arrAt 9 cfg0.N = fun i : S17920x64.Idx => Gr (proj (m ((c : Thread nD τ).loc main_arg0)) (m ((c : Thread nD τ).loc main_arg1)) (m ((c : Thread nD τ).loc main_arg2)) (m ((c : Thread nD τ).loc main_arg3)) (m ((c : Thread nD τ).loc main_arg4)) (i 0)) (i 0) ⟨(i 1).val, by have : (i 1).val < 64 := (i 1).isLt; omega⟩ := by
  refine (dats m 0 c).arrAt_eq_of_covers 9 _ (by decide +kernel) fun t hf y => ?_
  obtain ⟨e0, e1, e2, e3, e4, e5, e6, e7, e8, e9, e10, e11⟩ := idx t
  rw [after0_9]
  have E0 : ((((cfg0.win 9).blk t).view.emb y) 0).val = t.val * 512 + (y 0).val := by blk_simp [e9]
  have E1 : ((((cfg0.win 9).blk t).view.emb y) 1).val = (y 1).val := by blk_simp [e9]
  refine (cast_eq _ _).trans ?_
  refine (out9_eq (iblk m c 0 t) (iblk m c 1 t) (iblk m c 2 t) (iblk m c 3 t) (iblk m c 4 t) (iblk m c 5 t) (iblk m c 6 t) ((cfg0.win 9).xinj (cfg0.grid.coords t) y)).trans ?_
  refine (valr m c hr hg hw t _ _).trans ?_
  exact congrArg₂ (fun (a : Fin 17920) (b : Fin 64) => Gr (proj (m ((c : Thread nD τ).loc main_arg0)) (m ((c : Thread nD τ).loc main_arg1)) (m ((c : Thread nD τ).loc main_arg2)) (m ((c : Thread nD τ).loc main_arg3)) (m ((c : Thread nD τ).loc main_arg4)) a) a ⟨b.val, by omega⟩) (Fin.ext E0.symm) (Fin.ext E1.symm)

/-- The rotated keys, with zeros after them, after the run. -/
theorem final10 (hr : ∀ r k, IsReal (input (m ((c : Thread nD τ).loc main_arg0)) (m ((c : Thread nD τ).loc main_arg1)) (m ((c : Thread nD τ).loc main_arg2)) r k)) (hg : ∀ i, IsReal ((m ((c : Thread nD τ).loc main_arg3)) i)) (hw : ∀ i, IsReal ((m ((c : Thread nD τ).loc main_arg4)) i)) : (dats m 0 c).arrAt 10 cfg0.N = fun i : S17920x128.Idx => Gr (proj (m ((c : Thread nD τ).loc main_arg0)) (m ((c : Thread nD τ).loc main_arg1)) (m ((c : Thread nD τ).loc main_arg2)) (m ((c : Thread nD τ).loc main_arg3)) (m ((c : Thread nD τ).loc main_arg4)) (i 0)) (i 0) (i 1) := by
  refine (dats m 0 c).arrAt_eq_of_covers 10 _ (by decide +kernel) fun t hf y => ?_
  obtain ⟨e0, e1, e2, e3, e4, e5, e6, e7, e8, e9, e10, e11⟩ := idx t
  rw [after0_10]
  have E0 : ((((cfg0.win 10).blk t).view.emb y) 0).val = t.val * 512 + (y 0).val := by blk_simp [e10]
  have E1 : ((((cfg0.win 10).blk t).view.emb y) 1).val = (y 1).val := by blk_simp [e10]
  refine (cast_eq _ _).trans ?_
  refine (out10_eq (iblk m c 0 t) (iblk m c 1 t) (iblk m c 2 t) (iblk m c 3 t) (iblk m c 4 t) (iblk m c 5 t) (iblk m c 6 t) ((cfg0.win 10).xinj (cfg0.grid.coords t) y)).trans ?_
  refine (valr m c hr hg hw t _ _).trans ?_
  exact congrArg₂ (fun (a : Fin 17920) (b : Fin 128) => Gr (proj (m ((c : Thread nD τ).loc main_arg0)) (m ((c : Thread nD τ).loc main_arg1)) (m ((c : Thread nD τ).loc main_arg2)) (m ((c : Thread nD τ).loc main_arg3)) (m ((c : Thread nD τ).loc main_arg4)) a) a b) (Fin.ext E0.symm) (Fin.ext E1.symm)

/-- The gate after the run. -/
theorem final11 : (dats m 0 c).arrAt 11 cfg0.N = fun i : S17920x2048.Idx => Gg (proj (m ((c : Thread nD τ).loc main_arg0)) (m ((c : Thread nD τ).loc main_arg1)) (m ((c : Thread nD τ).loc main_arg2)) (m ((c : Thread nD τ).loc main_arg3)) (m ((c : Thread nD τ).loc main_arg4)) (i 0)) (i 1) := by
  refine (dats m 0 c).arrAt_eq_of_covers 11 _ (by decide +kernel) fun t hf y => ?_
  obtain ⟨e0, e1, e2, e3, e4, e5, e6, e7, e8, e9, e10, e11⟩ := idx t
  rw [after0_11]
  have E0 : ((((cfg0.win 11).blk t).view.emb y) 0).val = t.val * 512 + (y 0).val := by blk_simp [e11]
  have E1 : ((((cfg0.win 11).blk t).view.emb y) 1).val = (y 1).val := by blk_simp [e11]
  refine (cast_eq _ _).trans ?_
  refine (out11_eq (iblk m c 0 t) (iblk m c 1 t) (iblk m c 2 t) (iblk m c 3 t) (iblk m c 4 t) (iblk m c 5 t) (iblk m c 6 t) ((cfg0.win 11).xinj (cfg0.grid.coords t) y)).trans ?_
  refine (val11 m c t _ _).trans ?_
  exact congrArg₂ (fun (a : Fin 17920) (b : Fin 2048) => Gg (proj (m ((c : Thread nD τ).loc main_arg0)) (m ((c : Thread nD τ).loc main_arg1)) (m ((c : Thread nD τ).loc main_arg2)) (m ((c : Thread nD τ).loc main_arg3)) (m ((c : Thread nD τ).loc main_arg4)) a) b) (Fin.ext E0.symm) (Fin.ext E1.symm)

end Cert.Kernel2Ideal.Rows

end
-- ==== Proof.Rows.Ref2.lean ====
/- The first layer's input projection as the reference computes it. -/
module

public import proofs.«01_k».proof.Defs
public import proofs.«01_k».proof.Proof.Gen.Reference2Ideal.Run
public import proofs.«01_k».proof.Proof.Gen.Pre_finite_inputs
public import proofs.«01_k».proof.Proof.Attn.Equal
public import proofs.«01_k».proof.Proof.Rows.Ker2
public import Idealize.ShloMosaic.Lib.Pointwise
public import Idealize.ShloMosaic.Adequacy
public import Idealize.ShloMosaic.Init

@[expose] public section

set_option maxRecDepth 16384

noncomputable section

namespace Cert.Reference2Ideal.Rows

open Cert.Reference2Ideal Cert.Reference2Ideal.Gen Idealize.ShloMosaic Idealize.ShloMosaic.TcCoe Idealize.SL.Sem Cert.Rows

open Cert.Kernel2Ideal.Rows (act proj Gq Gc Gr Gg nrm_congr nrm_zero)
open Cert.Kernel7Ideal.Rows (side angP angS)
open Cert.Soft (IsReal)
open Cert.Attn (real_of_lt)

/-- The prompt rows after their meta tokens. -/
def hP (a0 : FVec Ideal S8x2048x2048 .f32) (a2 : FVec Ideal S16x2048 .f32) : FVec Ideal S8x2064x2048 .f32 :=
  concatenate S8x2064x2048 1 [⟨S8x16x2048, (broadcastInDim S8x16x2048 ![0, 1, 2] bcast_S1x16x2048_S8x16x2048_0_1_2 (broadcastInDim S1x16x2048 ![1, 2] bcast_S16x2048_S1x16x2048_1_2 a2))⟩, ⟨S8x2048x2048, a0⟩] concatenates_S8x16x2048_S8x2048x2048_S8x2064x2048_d1

/-- The prompt rows after their meta tokens at an entry: the padded rows past their padding. -/
theorem hP_eq (a0 : FVec Ideal S8x2048x2048 .f32) (a2 : FVec Ideal S16x2048 .f32) (b : Fin 8) (p : Fin 2064) (k : Fin 2048) :
    (hP a0 a2 (ix3 b p k) : EReal) = prompt a0 a2 (b.val * 2176 + 112 + p.val) k := by
  unfold hP
  pointwise
  refine dite_step (fun h => ?_) (fun h => ?_)
  · exact (prompt_meta a0 a2 _ k ⟨p.val, h⟩ (by omega) (by show _ = 112 + p.val; omega)).symm
  · exact (prompt_tok a0 a2 _ k b ⟨p.val - 16, by omega⟩ (by omega) (by show _ = 128 + (p.val - 16); omega)).symm

/-- The prompt rows normalised and projected. -/
def uP (h : FVec Ideal S8x2064x2048 .f32) (g : FVec Ideal S1x2048 .f32) (w : FVec Ideal S1x2048x3136 .f32) : FVec Ideal S8x2064x3136 .f32 :=
  Host.dotGeneral dot_S8x2064x2048_S2048x3136_S8x2064x3136_2_0_01_1_n_n none (mulf (mulf h (broadcastInDim S8x2064x2048 ![0, 1, 2] bcast_S8x2064x1_S8x2064x2048_0_1_2 (Host.rsqrt (addf (Host.divf (broadcastInDim S8x2064x1 ![0, 1] bcast_S8x2064_S8x2064x1_0_1 (Host.reduceAdd (mulf h h) (constant S_ .f32 0x00000000#32) reducesTo_S8x2064x2048_S8x2064_d2 h_S_)) (broadcastInDim S8x2064x1 ![] bcast_S_S8x2064x1 (constant S_ .f32 0x45000000#32))) (broadcastInDim S8x2064x1 ![] bcast_S_S8x2064x1 (constant S_ .f32 0x358637BD#32)))))) (broadcastInDim S8x2064x2048 ![0, 1, 2] bcast_S1x1x2048_S8x2064x2048_0_1_2 (broadcastInDim S1x1x2048 ![2] bcast_S2048_S1x1x2048_2 (shapeCast S2048 g shapeCasts_S1x2048_S2048)))) (shapeCast S2048x3136 w shapeCasts_S1x2048x3136_S2048x3136)

/-- The prompt rows' projection at an entry. -/
theorem uP_eq (h : FVec Ideal S8x2064x2048 .f32) (g : FVec Ideal S1x2048 .f32) (w : FVec Ideal S1x2048x3136 .f32) (b : Fin 8) (p : Fin 2064) (j : Fin 3136) :
    (uP h g w (ix3 b p j) : EReal) = lin (nrm 0x45000000#32 (fun k => h (ix3 b p k)) (fun k => g (ix2 0 k))) (fun k => w (ix3 0 k j)) := by
  unfold uP
  pointwise
  rfl

/-- The sample rows normalised and projected. -/
def uS (h : FVec Ideal S128x4x2048 .f32) (g : FVec Ideal S1x2048 .f32) (w : FVec Ideal S1x2048x3136 .f32) : FVec Ideal S128x4x3136 .f32 :=
  Host.dotGeneral dot_S128x4x2048_S2048x3136_S128x4x3136_2_0_01_1_n_n none (mulf (mulf h (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf h h) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 (shapeCast S2048 g shapeCasts_S1x2048_S2048)))) (shapeCast S2048x3136 w shapeCasts_S1x2048x3136_S2048x3136)

/-- The sample rows' projection at an entry. -/
theorem uS_eq (h : FVec Ideal S128x4x2048 .f32) (g : FVec Ideal S1x2048 .f32) (w : FVec Ideal S1x2048x3136 .f32) (b : Fin 128) (p : Fin 4) (j : Fin 3136) :
    (uS h g w (ix3 b p j) : EReal) = lin (nrm 0x45000000#32 (fun k => h (ix3 b p k)) (fun k => g (ix2 0 k))) (fun k => w (ix3 0 k j)) := by
  unfold uS
  pointwise
  rfl

/-- The prompt rows' latents normalised. -/
def nmP (u : FVec Ideal S8x2064x512 .f32) (g : FVec Ideal S1x512 .f32) : FVec Ideal S8x2064x512 .f32 :=
  mulf (mulf u (broadcastInDim S8x2064x512 ![0, 1, 2] bcast_S8x2064x1_S8x2064x512_0_1_2 (Host.rsqrt (addf (Host.divf (broadcastInDim S8x2064x1 ![0, 1] bcast_S8x2064_S8x2064x1_0_1 (Host.reduceAdd (mulf u u) (constant S_ .f32 0x00000000#32) reducesTo_S8x2064x512_S8x2064_d2 h_S_)) (broadcastInDim S8x2064x1 ![] bcast_S_S8x2064x1 (constant S_ .f32 0x44000000#32))) (broadcastInDim S8x2064x1 ![] bcast_S_S8x2064x1 (constant S_ .f32 0x358637BD#32)))))) (broadcastInDim S8x2064x512 ![0, 1, 2] bcast_S1x1x512_S8x2064x512_0_1_2 (broadcastInDim S1x1x512 ![2] bcast_S512_S1x1x512_2 (shapeCast S512 g shapeCasts_S1x512_S512)))

/-- The prompt rows' normalised latents at an entry. -/
theorem nmP_eq (u : FVec Ideal S8x2064x512 .f32) (g : FVec Ideal S1x512 .f32) (b : Fin 8) (p : Fin 2064) (q : Fin 512) :
    (nmP u g (ix3 b p q) : EReal) = nrm 0x44000000#32 (fun k => u (ix3 b p k)) (fun k => g (ix2 0 k)) q := by
  unfold nmP
  pointwise
  rfl

/-- The prompt rows' keys rotated. -/
def rotP (x : FVec Ideal S8x2064x64 .f32) (c s : FVec Ideal S2064x32 .f32) : FVec Ideal S8x2064x64 .f32 :=
  concatenate S8x2064x64 2 [⟨S8x2064x32, (subf (mulf (extractStridedSlice S8x2064x32 ![0, 0, 0] x slices_S8x2064x64_S8x2064x32_0_0_0) (broadcastInDim S8x2064x32 ![0, 1, 2] bcast_S1x2064x32_S8x2064x32_0_1_2 (shapeCast S1x2064x32 c shapeCasts_S2064x32_S1x2064x32))) (mulf (extractStridedSlice S8x2064x32 ![0, 0, 32] x slices_S8x2064x64_S8x2064x32_0_0_32) (broadcastInDim S8x2064x32 ![0, 1, 2] bcast_S1x2064x32_S8x2064x32_0_1_2 (shapeCast S1x2064x32 s shapeCasts_S2064x32_S1x2064x32))))⟩, ⟨S8x2064x32, (addf (mulf (extractStridedSlice S8x2064x32 ![0, 0, 32] x slices_S8x2064x64_S8x2064x32_0_0_32) (broadcastInDim S8x2064x32 ![0, 1, 2] bcast_S1x2064x32_S8x2064x32_0_1_2 (shapeCast S1x2064x32 c shapeCasts_S2064x32_S1x2064x32))) (mulf (extractStridedSlice S8x2064x32 ![0, 0, 0] x slices_S8x2064x64_S8x2064x32_0_0_0) (broadcastInDim S8x2064x32 ![0, 1, 2] bcast_S1x2064x32_S8x2064x32_0_1_2 (shapeCast S1x2064x32 s shapeCasts_S2064x32_S1x2064x32))))⟩] concatenates_S8x2064x32_S8x2064x32_S8x2064x64_d2

/-- The prompt rows' rotated keys at an entry. -/
theorem rotP_eq (x : FVec Ideal S8x2064x64 .f32) (c s : FVec Ideal S2064x32 .f32) (b : Fin 8) (p : Fin 2064) (j : Fin 64) :
    (rotP x c s (ix3 b p j) : EReal) = rot (fun i => x (ix3 b p i)) (fun i => c (ix2 p i)) (fun i => s (ix2 p i)) ⟨j.val, by omega⟩ := by
  unfold rotP
  pointwise
  unfold rot
  refine dite_step (fun h => ?_) (fun h => ?_)
  · rw [dif_pos h]
  · rw [dif_neg h, dif_pos (by exact j.isLt)]
    have e : (⟨32 + (j.val - 32), by omega⟩ : Fin 64) = ⟨j.val, j.isLt⟩ := Fin.ext (by show 32 + (j.val - 32) = j.val; omega)
    rw [e]

/-- The columns of the prompt rows' latent queries. -/
def qP (u : FVec Ideal S8x2064x3136 .f32) : FVec Ideal S8x2064x512 .f32 :=
  extractStridedSlice S8x2064x512 ![0, 0, 0] u slices_S8x2064x3136_S8x2064x512_0_0_0

/-- The columns of the prompt rows' latent queries at an entry. -/
theorem qP_eq (u : FVec Ideal S8x2064x3136 .f32) (b : Fin 8) (p : Fin 2064) (j : Fin 512) : (qP u (ix3 b p j) : EReal) = u (ix3 b p ⟨j.val, by omega⟩) := by
  unfold qP
  pointwise

/-- The columns of the prompt rows' latent keys. -/
def cP (u : FVec Ideal S8x2064x3136 .f32) : FVec Ideal S8x2064x512 .f32 :=
  extractStridedSlice S8x2064x512 ![0, 0, 512] u slices_S8x2064x3136_S8x2064x512_0_0_512

/-- The columns of the prompt rows' latent keys at an entry. -/
theorem cP_eq (u : FVec Ideal S8x2064x3136 .f32) (b : Fin 8) (p : Fin 2064) (j : Fin 512) : (cP u (ix3 b p j) : EReal) = u (ix3 b p ⟨512 + j.val, by omega⟩) := by
  unfold cP
  pointwise

/-- The columns of the prompt rows' rotated keys. -/
def kP (u : FVec Ideal S8x2064x3136 .f32) : FVec Ideal S8x2064x64 .f32 :=
  extractStridedSlice S8x2064x64 ![0, 0, 1024] u slices_S8x2064x3136_S8x2064x64_0_0_1024

/-- The columns of the prompt rows' rotated keys at an entry. -/
theorem kP_eq (u : FVec Ideal S8x2064x3136 .f32) (b : Fin 8) (p : Fin 2064) (j : Fin 64) : (kP u (ix3 b p j) : EReal) = u (ix3 b p ⟨1024 + j.val, by omega⟩) := by
  unfold kP
  pointwise

/-- The columns of the prompt rows' gate. -/
def gP (u : FVec Ideal S8x2064x3136 .f32) : FVec Ideal S8x2064x2048 .f32 :=
  extractStridedSlice S8x2064x2048 ![0, 0, 1088] u slices_S8x2064x3136_S8x2064x2048_0_0_1088

/-- The columns of the prompt rows' gate at an entry. -/
theorem gP_eq (u : FVec Ideal S8x2064x3136 .f32) (b : Fin 8) (p : Fin 2064) (j : Fin 2048) : (gP u (ix3 b p j) : EReal) = u (ix3 b p ⟨1088 + j.val, by omega⟩) := by
  unfold gP
  pointwise

/-- The sample rows' latents normalised. -/
def nmS (u : FVec Ideal S128x4x512 .f32) (g : FVec Ideal S1x512 .f32) : FVec Ideal S128x4x512 .f32 :=
  mulf (mulf u (broadcastInDim S128x4x512 ![0, 1, 2] bcast_S128x4x1_S128x4x512_0_1_2 (Host.rsqrt (addf (Host.divf (broadcastInDim S128x4x1 ![0, 1] bcast_S128x4_S128x4x1_0_1 (Host.reduceAdd (mulf u u) (constant S_ .f32 0x00000000#32) reducesTo_S128x4x512_S128x4_d2 h_S_)) (broadcastInDim S128x4x1 ![] bcast_S_S128x4x1 (constant S_ .f32 0x44000000#32))) (broadcastInDim S128x4x1 ![] bcast_S_S128x4x1 (constant S_ .f32 0x358637BD#32)))))) (broadcastInDim S128x4x512 ![0, 1, 2] bcast_S1x1x512_S128x4x512_0_1_2 (broadcastInDim S1x1x512 ![2] bcast_S512_S1x1x512_2 (shapeCast S512 g shapeCasts_S1x512_S512)))

/-- The sample rows' normalised latents at an entry. -/
theorem nmS_eq (u : FVec Ideal S128x4x512 .f32) (g : FVec Ideal S1x512 .f32) (b : Fin 128) (p : Fin 4) (q : Fin 512) :
    (nmS u g (ix3 b p q) : EReal) = nrm 0x44000000#32 (fun k => u (ix3 b p k)) (fun k => g (ix2 0 k)) q := by
  unfold nmS
  pointwise
  rfl

/-- The sample rows' keys rotated. -/
def rotS (x : FVec Ideal S128x4x64 .f32) (c s : FVec Ideal S4x32 .f32) : FVec Ideal S128x4x64 .f32 :=
  concatenate S128x4x64 2 [⟨S128x4x32, (subf (mulf (extractStridedSlice S128x4x32 ![0, 0, 0] x slices_S128x4x64_S128x4x32_0_0_0) (broadcastInDim S128x4x32 ![0, 1, 2] bcast_S1x4x32_S128x4x32_0_1_2 (shapeCast S1x4x32 c shapeCasts_S4x32_S1x4x32))) (mulf (extractStridedSlice S128x4x32 ![0, 0, 32] x slices_S128x4x64_S128x4x32_0_0_32) (broadcastInDim S128x4x32 ![0, 1, 2] bcast_S1x4x32_S128x4x32_0_1_2 (shapeCast S1x4x32 s shapeCasts_S4x32_S1x4x32))))⟩, ⟨S128x4x32, (addf (mulf (extractStridedSlice S128x4x32 ![0, 0, 32] x slices_S128x4x64_S128x4x32_0_0_32) (broadcastInDim S128x4x32 ![0, 1, 2] bcast_S1x4x32_S128x4x32_0_1_2 (shapeCast S1x4x32 c shapeCasts_S4x32_S1x4x32))) (mulf (extractStridedSlice S128x4x32 ![0, 0, 0] x slices_S128x4x64_S128x4x32_0_0_0) (broadcastInDim S128x4x32 ![0, 1, 2] bcast_S1x4x32_S128x4x32_0_1_2 (shapeCast S1x4x32 s shapeCasts_S4x32_S1x4x32))))⟩] concatenates_S128x4x32_S128x4x32_S128x4x64_d2

/-- The sample rows' rotated keys at an entry. -/
theorem rotS_eq (x : FVec Ideal S128x4x64 .f32) (c s : FVec Ideal S4x32 .f32) (b : Fin 128) (p : Fin 4) (j : Fin 64) :
    (rotS x c s (ix3 b p j) : EReal) = rot (fun i => x (ix3 b p i)) (fun i => c (ix2 p i)) (fun i => s (ix2 p i)) ⟨j.val, by omega⟩ := by
  unfold rotS
  pointwise
  unfold rot
  refine dite_step (fun h => ?_) (fun h => ?_)
  · rw [dif_pos h]
  · rw [dif_neg h, dif_pos (by exact j.isLt)]
    have e : (⟨32 + (j.val - 32), by omega⟩ : Fin 64) = ⟨j.val, j.isLt⟩ := Fin.ext (by show 32 + (j.val - 32) = j.val; omega)
    rw [e]

/-- The columns of the sample rows' latent queries. -/
def qS (u : FVec Ideal S128x4x3136 .f32) : FVec Ideal S128x4x512 .f32 :=
  extractStridedSlice S128x4x512 ![0, 0, 0] u slices_S128x4x3136_S128x4x512_0_0_0

/-- The columns of the sample rows' latent queries at an entry. -/
theorem qS_eq (u : FVec Ideal S128x4x3136 .f32) (b : Fin 128) (p : Fin 4) (j : Fin 512) : (qS u (ix3 b p j) : EReal) = u (ix3 b p ⟨j.val, by omega⟩) := by
  unfold qS
  pointwise

/-- The columns of the sample rows' latent keys. -/
def cS (u : FVec Ideal S128x4x3136 .f32) : FVec Ideal S128x4x512 .f32 :=
  extractStridedSlice S128x4x512 ![0, 0, 512] u slices_S128x4x3136_S128x4x512_0_0_512

/-- The columns of the sample rows' latent keys at an entry. -/
theorem cS_eq (u : FVec Ideal S128x4x3136 .f32) (b : Fin 128) (p : Fin 4) (j : Fin 512) : (cS u (ix3 b p j) : EReal) = u (ix3 b p ⟨512 + j.val, by omega⟩) := by
  unfold cS
  pointwise

/-- The columns of the sample rows' rotated keys. -/
def kS (u : FVec Ideal S128x4x3136 .f32) : FVec Ideal S128x4x64 .f32 :=
  extractStridedSlice S128x4x64 ![0, 0, 1024] u slices_S128x4x3136_S128x4x64_0_0_1024

/-- The columns of the sample rows' rotated keys at an entry. -/
theorem kS_eq (u : FVec Ideal S128x4x3136 .f32) (b : Fin 128) (p : Fin 4) (j : Fin 64) : (kS u (ix3 b p j) : EReal) = u (ix3 b p ⟨1024 + j.val, by omega⟩) := by
  unfold kS
  pointwise

/-- The columns of the sample rows' gate. -/
def gS (u : FVec Ideal S128x4x3136 .f32) : FVec Ideal S128x4x2048 .f32 :=
  extractStridedSlice S128x4x2048 ![0, 0, 1088] u slices_S128x4x3136_S128x4x2048_0_0_1088

/-- The columns of the sample rows' gate at an entry. -/
theorem gS_eq (u : FVec Ideal S128x4x3136 .f32) (b : Fin 128) (p : Fin 4) (j : Fin 2048) : (gS u (ix3 b p j) : EReal) = u (ix3 b p ⟨1088 + j.val, by omega⟩) := by
  unfold gS
  pointwise

/-- Prompt rows after their padding and sample rows under one another, 512 columns. -/
def join512 (X : FVec Ideal S8x2064x512 .f32) (Y : FVec Ideal S128x4x512 .f32) : FVec Ideal S17920x512 .f32 :=
  concatenate S17920x512 0 [⟨S17408x512, (shapeCast S17408x512 (pad S8x2176x512 ![0, 112, 0] ![0, 0, 0] ![0, 0, 0] X (sitofp .f32 (constantI S_ 32 0#32)) pads_S8x2064x512_S8x2176x512_000_11200_000 h_S_) shapeCasts_S8x2176x512_S17408x512)⟩, ⟨S512x512, (shapeCast S512x512 Y shapeCasts_S128x4x512_S512x512)⟩] concatenates_S17408x512_S512x512_S17920x512_d0

/-- The rows under one another at an entry. -/
theorem join512_eq (X : FVec Ideal S8x2064x512 .f32) (Y : FVec Ideal S128x4x512 .f32) (r : Fin 17920) (q : Fin 512) : (join512 X Y (ix2 r q) : EReal) =
    if h : r.val < 17408 then if h' : 112 ≤ r.val % 2176 then X (ix3 ⟨r.val / 2176, by omega⟩ ⟨r.val % 2176 - 112, by omega⟩ q) else 0
      else Y (ix3 ⟨(r.val - 17408) / 4, by omega⟩ ⟨(r.val - 17408) % 4, by omega⟩ q) := by
  unfold join512
  pointwise
  refine dite_step (fun h => ?_) (fun h => ?_)
  · simp only [h, ↓reduceDIte]
    refine dite_step (fun h' => ?_) (fun h' => ?_)
    · have h2 : 112 ≤ r.val % 2176 := by omega
      simp only [h2, ↓reduceDIte]
    · have h2 : ¬ 112 ≤ r.val % 2176 := by omega
      simp only [h2, ↓reduceDIte]
      simp [FloatOps.sitofp]
  · simp only [h, ↓reduceDIte]

/-- Prompt rows after their padding and sample rows under one another, 64 columns. -/
def join64 (X : FVec Ideal S8x2064x64 .f32) (Y : FVec Ideal S128x4x64 .f32) : FVec Ideal S17920x64 .f32 :=
  concatenate S17920x64 0 [⟨S17408x64, (shapeCast S17408x64 (pad S8x2176x64 ![0, 112, 0] ![0, 0, 0] ![0, 0, 0] X (sitofp .f32 (constantI S_ 32 0#32)) pads_S8x2064x64_S8x2176x64_000_11200_000 h_S_) shapeCasts_S8x2176x64_S17408x64)⟩, ⟨S512x64, (shapeCast S512x64 Y shapeCasts_S128x4x64_S512x64)⟩] concatenates_S17408x64_S512x64_S17920x64_d0

/-- The rows under one another at an entry. -/
theorem join64_eq (X : FVec Ideal S8x2064x64 .f32) (Y : FVec Ideal S128x4x64 .f32) (r : Fin 17920) (q : Fin 64) : (join64 X Y (ix2 r q) : EReal) =
    if h : r.val < 17408 then if h' : 112 ≤ r.val % 2176 then X (ix3 ⟨r.val / 2176, by omega⟩ ⟨r.val % 2176 - 112, by omega⟩ q) else 0
      else Y (ix3 ⟨(r.val - 17408) / 4, by omega⟩ ⟨(r.val - 17408) % 4, by omega⟩ q) := by
  unfold join64
  pointwise
  refine dite_step (fun h => ?_) (fun h => ?_)
  · simp only [h, ↓reduceDIte]
    refine dite_step (fun h' => ?_) (fun h' => ?_)
    · have h2 : 112 ≤ r.val % 2176 := by omega
      simp only [h2, ↓reduceDIte]
    · have h2 : ¬ 112 ≤ r.val % 2176 := by omega
      simp only [h2, ↓reduceDIte]
      simp [FloatOps.sitofp]
  · simp only [h, ↓reduceDIte]

/-- Prompt rows after their padding and sample rows under one another, 2048 columns. -/
def join2048 (X : FVec Ideal S8x2064x2048 .f32) (Y : FVec Ideal S128x4x2048 .f32) : FVec Ideal S17920x2048 .f32 :=
  concatenate S17920x2048 0 [⟨S17408x2048, (shapeCast S17408x2048 (pad S8x2176x2048 ![0, 112, 0] ![0, 0, 0] ![0, 0, 0] X (sitofp .f32 (constantI S_ 32 0#32)) pads_S8x2064x2048_S8x2176x2048_000_11200_000 h_S_) shapeCasts_S8x2176x2048_S17408x2048)⟩, ⟨S512x2048, (shapeCast S512x2048 Y shapeCasts_S128x4x2048_S512x2048)⟩] concatenates_S17408x2048_S512x2048_S17920x2048_d0

/-- The rows under one another at an entry. -/
theorem join2048_eq (X : FVec Ideal S8x2064x2048 .f32) (Y : FVec Ideal S128x4x2048 .f32) (r : Fin 17920) (q : Fin 2048) : (join2048 X Y (ix2 r q) : EReal) =
    if h : r.val < 17408 then if h' : 112 ≤ r.val % 2176 then X (ix3 ⟨r.val / 2176, by omega⟩ ⟨r.val % 2176 - 112, by omega⟩ q) else 0
      else Y (ix3 ⟨(r.val - 17408) / 4, by omega⟩ ⟨(r.val - 17408) % 4, by omega⟩ q) := by
  unfold join2048
  pointwise
  refine dite_step (fun h => ?_) (fun h => ?_)
  · simp only [h, ↓reduceDIte]
    refine dite_step (fun h' => ?_) (fun h' => ?_)
    · have h2 : 112 ≤ r.val % 2176 := by omega
      simp only [h2, ↓reduceDIte]
    · have h2 : ¬ 112 ≤ r.val % 2176 := by omega
      simp only [h2, ↓reduceDIte]
      simp [FloatOps.sitofp]
  · simp only [h, ↓reduceDIte]

/-- Rows of 64 columns with 64 zeros after them. -/
def pad128 (j : FVec Ideal S17920x64 .f32) : FVec Ideal S17920x128 .bf16 :=
  truncf .bf16 (pad S17920x128 ![0, 0] ![0, 64] ![0, 0] j (sitofp .f32 (constantI S_ 32 0#32)) pads_S17920x64_S17920x128_000_0640 h_S_) bitsLt_bf16_f32

/-- The widened rows at an entry. -/
theorem pad128_eq (j : FVec Ideal S17920x64 .f32) (r : Fin 17920) (l : Fin 128) : (pad128 j (ix2 r l) : EReal) = if h : l.val < 64 then j (ix2 r ⟨l.val, h⟩) else 0 := by
  unfold pad128
  pointwise
  refine dite_step (fun h => ?_) (fun h => ?_)
  · have h2 : l.val < 64 := by omega
    simp only [h2, ↓reduceDIte]
  · have h2 : ¬ l.val < 64 := by omega
    simp only [h2, ↓reduceDIte]
    simp [FloatOps.sitofp]

/-- The angles of a prompt's rows. -/
def angR : FVec Ideal S2064x32 .f32 :=
  mulf (broadcastInDim S2064x32 ![0, 1] bcast_S2064x1_S2064x32_0_1 (broadcastInDim S2064x1 ![0] bcast_S2064_S2064x1_0 (sitofp .f32 (iotaInDim S2064 32 0)))) (broadcastInDim S2064x32 ![0, 1] bcast_S1x32_S2064x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The angles of a prompt's rows are those of the padded batch past its padding. -/
theorem angR_eq (p : Fin 2064) (j : Fin 32) : (angR (ix2 p j) : EReal) = angP (ix2 ⟨112 + p.val, by omega⟩ j) := by
  unfold angR angP
  pointwise
  have e : IntOp.subi (BitVec.ofNat 32 (112 + p.val)) 112#32 = BitVec.ofNat 32 p.val := by
    show BitVec.ofNat 32 (112 + p.val) - 112#32 = _
    apply BitVec.eq_of_toNat_eq
    simp only [BitVec.toNat_sub, BitVec.toNat_ofNat]
    omega
  rw [e]

/-- A prompt row's projection is that of the layer's row. -/
theorem row_P (a0 : FVec Ideal S8x2048x2048 .f32) (a1 : FVec Ideal S128x4x2048 .f32) (a2 : FVec Ideal S16x2048 .f32) (a3 : FVec Ideal S1x2048 .f32) (a4 : FVec Ideal S1x2048x3136 .f32) (r : Fin 17920) (h : r.val < 17408) (h' : 112 ≤ r.val % 2176) (j : Fin 3136) :
    ((uP (hP a0 a2) a3 a4) (ix3 (⟨r.val / 2176, by omega⟩ : Fin 8) (⟨r.val % 2176 - 112, by omega⟩ : Fin 2064) j) : EReal) = proj a0 a1 a2 a3 a4 r j := by
  rw [uP_eq]
  refine lin_congr (fun k => nrm_congr (fun k => ?_) (fun _ => rfl) k) (fun _ => rfl)
  rw [hP_eq]
  have e : r.val / 2176 * 2176 + 112 + (r.val % 2176 - 112) = r.val := by omega
  refine (congrArg (fun s => prompt a0 a2 s k) e).trans ?_
  unfold input
  rw [if_pos h]

/-- A sample row's projection is that of the layer's row. -/
theorem row_S (a0 : FVec Ideal S8x2048x2048 .f32) (a1 : FVec Ideal S128x4x2048 .f32) (a2 : FVec Ideal S16x2048 .f32) (a3 : FVec Ideal S1x2048 .f32) (a4 : FVec Ideal S1x2048x3136 .f32) (r : Fin 17920) (h : ¬ r.val < 17408) (j : Fin 3136) :
    ((uS a1 a3 a4) (ix3 (⟨(r.val - 17408) / 4, by omega⟩ : Fin 128) (⟨(r.val - 17408) % 4, by omega⟩ : Fin 4) j) : EReal) = proj a0 a1 a2 a3 a4 r j := by
  rw [uS_eq]
  refine lin_congr (fun k => nrm_congr (fun k => ?_) (fun _ => rfl) k) (fun _ => rfl)
  unfold input
  rw [if_neg h]

/-- A row of the padding projects to zero. -/
theorem row_0 (a0 : FVec Ideal S8x2048x2048 .f32) (a1 : FVec Ideal S128x4x2048 .f32) (a2 : FVec Ideal S16x2048 .f32) (a3 : FVec Ideal S1x2048 .f32) (a4 : FVec Ideal S1x2048x3136 .f32) (r : Fin 17920) (h : r.val < 17408) (h' : ¬ 112 ≤ r.val % 2176) (j : Fin 3136) : proj a0 a1 a2 a3 a4 r j = 0 := by
  have z : ∀ k, act a0 a1 a2 a3 r k = 0 := fun k => nrm_zero _ (fun k => by
    unfold input
    rw [if_pos h]
    exact prompt_zero a0 a2 _ k (by omega)) k
  unfold proj lin
  exact Finset.sum_eq_zero fun k _ => by rw [z k, zero_mul]

/-- A row of zeros rotated is zero. -/
theorem rot_zeros (f : Fin 64 → EReal) (C S : Fin 32 → EReal) (l : Fin 128) (hf : ∀ j, f j = 0) : rot f C S l = 0 := by
  unfold rot
  simp only [hf, zero_mul, add_zero, sub_zero, dite_eq_ite, ite_self]

/-- The reference's latent queries. -/
theorem q_all (a0 : FVec Ideal S8x2048x2048 .f32) (a1 : FVec Ideal S128x4x2048 .f32) (a2 : FVec Ideal S16x2048 .f32) (a3 : FVec Ideal S1x2048 .f32) (a4 : FVec Ideal S1x2048x3136 .f32) (g : FVec Ideal S1x512 .f32) (r : Fin 17920) (q : Fin 512) :
    (join512 (nmP (qP (uP (hP a0 a2) a3 a4)) g) (nmS (qS (uS a1 a3 a4)) g) (ix2 r q) : EReal) = Gq (proj a0 a1 a2 a3 a4 r) g q := by
  rw [join512_eq]
  refine dite_step (fun h => dite_step (fun h' => ?_) (fun h' => ?_)) (fun h => ?_)
  · rw [nmP_eq]
    exact nrm_congr (fun k => (qP_eq _ _ _ k).trans (row_P a0 a1 a2 a3 a4 r h h' _)) (fun _ => rfl) q
  · exact (nrm_zero _ (fun k => row_0 a0 a1 a2 a3 a4 r h h' _) q).symm
  · rw [nmS_eq]
    exact nrm_congr (fun k => (qS_eq _ _ _ k).trans (row_S a0 a1 a2 a3 a4 r h _)) (fun _ => rfl) q

/-- The reference's latent keys. -/
theorem c_all (a0 : FVec Ideal S8x2048x2048 .f32) (a1 : FVec Ideal S128x4x2048 .f32) (a2 : FVec Ideal S16x2048 .f32) (a3 : FVec Ideal S1x2048 .f32) (a4 : FVec Ideal S1x2048x3136 .f32) (g : FVec Ideal S1x512 .f32) (r : Fin 17920) (q : Fin 512) :
    (join512 (nmP (cP (uP (hP a0 a2) a3 a4)) g) (nmS (cS (uS a1 a3 a4)) g) (ix2 r q) : EReal) = Gc (proj a0 a1 a2 a3 a4 r) g q := by
  rw [join512_eq]
  refine dite_step (fun h => dite_step (fun h' => ?_) (fun h' => ?_)) (fun h => ?_)
  · rw [nmP_eq]
    exact nrm_congr (fun k => (cP_eq _ _ _ k).trans (row_P a0 a1 a2 a3 a4 r h h' _)) (fun _ => rfl) q
  · exact (nrm_zero _ (fun k => row_0 a0 a1 a2 a3 a4 r h h' _) q).symm
  · rw [nmS_eq]
    exact nrm_congr (fun k => (cS_eq _ _ _ k).trans (row_S a0 a1 a2 a3 a4 r h _)) (fun _ => rfl) q

/-- The cosines and sines of a prompt's row. -/
theorem cs_P (r : Fin 17920) (h : r.val < 17408) (h' : 112 ≤ r.val % 2176) (j : Fin 32) :
    (Host.cos angR (ix2 (⟨r.val % 2176 - 112, by omega⟩ : Fin 2064) j) : EReal) = side (Host.cos angP) (Host.cos angS) r j
      ∧ (Host.sin angR (ix2 (⟨r.val % 2176 - 112, by omega⟩ : Fin 2064) j) : EReal) = side (Host.sin angP) (Host.sin angS) r j := by
  have e := angR_eq ⟨r.val % 2176 - 112, by omega⟩ j
  have e2 : (⟨112 + (r.val % 2176 - 112), by omega⟩ : Fin 2176) = ⟨r.val % 2176, by omega⟩ := Fin.ext (by show 112 + (r.val % 2176 - 112) = r.val % 2176; omega)
  rw [e2] at e
  unfold side
  rw [if_pos h, if_pos h]
  exact ⟨congrArg (FloatOps.hostUnary (F := Ideal) (φ := .f32) .cos) e, congrArg (FloatOps.hostUnary (F := Ideal) (φ := .f32) .sin) e⟩

/-- The reference's rotated keys. -/
theorem k_all (a0 : FVec Ideal S8x2048x2048 .f32) (a1 : FVec Ideal S128x4x2048 .f32) (a2 : FVec Ideal S16x2048 .f32) (a3 : FVec Ideal S1x2048 .f32) (a4 : FVec Ideal S1x2048x3136 .f32) (r : Fin 17920) (q : Fin 64) :
    ((join64 (rotP (kP (uP (hP a0 a2) a3 a4)) (Host.cos angR) (Host.sin angR)) (rotS (kS (uS a1 a3 a4)) (Host.cos angS) (Host.sin angS))) (ix2 r q) : EReal) = Gr (proj a0 a1 a2 a3 a4 r) r ⟨q.val, by omega⟩ := by
  rw [join64_eq]
  refine dite_step (fun h => dite_step (fun h' => ?_) (fun h' => ?_)) (fun h => ?_)
  · rw [rotP_eq]
    exact rot_congr (fun j => (kP_eq _ _ _ j).trans (row_P a0 a1 a2 a3 a4 r h h' _)) (fun j => (cs_P r h h' j).1) (fun j => (cs_P r h h' j).2) rfl
  · exact (rot_zeros _ _ _ _ (fun j => row_0 a0 a1 a2 a3 a4 r h h' _)).symm
  · rw [rotS_eq]
    exact rot_congr (fun j => (kS_eq _ _ _ j).trans (row_S a0 a1 a2 a3 a4 r h _)) (fun j => (if_neg h).symm) (fun j => (if_neg h).symm) rfl

/-- The reference's rotated keys with zeros after them. -/
theorem p_all (a0 : FVec Ideal S8x2048x2048 .f32) (a1 : FVec Ideal S128x4x2048 .f32) (a2 : FVec Ideal S16x2048 .f32) (a3 : FVec Ideal S1x2048 .f32) (a4 : FVec Ideal S1x2048x3136 .f32) (r : Fin 17920) (l : Fin 128) :
    (pad128 (join64 (rotP (kP (uP (hP a0 a2) a3 a4)) (Host.cos angR) (Host.sin angR)) (rotS (kS (uS a1 a3 a4)) (Host.cos angS) (Host.sin angS))) (ix2 r l) : EReal) = Gr (proj a0 a1 a2 a3 a4 r) r l := by
  rw [pad128_eq]
  refine dite_step (fun h => ?_) (fun h => ?_)
  · exact k_all a0 a1 a2 a3 a4 r ⟨l.val, h⟩
  · exact (rot_zero _ _ _ _ (by omega)).symm

/-- The reference's gate. -/
theorem g_all (a0 : FVec Ideal S8x2048x2048 .f32) (a1 : FVec Ideal S128x4x2048 .f32) (a2 : FVec Ideal S16x2048 .f32) (a3 : FVec Ideal S1x2048 .f32) (a4 : FVec Ideal S1x2048x3136 .f32) (r : Fin 17920) (q : Fin 2048) :
    (join2048 (gP (uP (hP a0 a2) a3 a4)) (gS (uS a1 a3 a4)) (ix2 r q) : EReal) = Gg (proj a0 a1 a2 a3 a4 r) q := by
  rw [join2048_eq]
  refine dite_step (fun h => dite_step (fun h' => ?_) (fun h' => ?_)) (fun h => ?_)
  · exact (gP_eq _ _ _ q).trans (row_P a0 a1 a2 a3 a4 r h h' _)
  · exact (row_0 a0 a1 a2 a3 a4 r h h' _).symm
  · exact (gS_eq _ _ _ q).trans (row_S a0 a1 a2 a3 a4 r h _)

/-- The precondition read: the rows, their normalisation weights and the projection's weights are real numbers. -/
theorem pre_real (a0 : FVec Ideal S8x2048x2048 .f32) (a1 : FVec Ideal S128x4x2048 .f32) (a2 : FVec Ideal S16x2048 .f32) (a3 : FVec Ideal S1x2048 .f32) (a4 : FVec Ideal S1x2048x3136 .f32) (a5 a6 : FVec Ideal S1x512 .f32) (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ ∀ i, IsReal (a4 i) := by
  have e := congrFun h ix0
  dsimp only [Cert.Pre_finite_inputs.fn, Cert.Pre_finite_inputs.fn_part1] at e
  obtain ⟨e', e4⟩ := IntOp.andi_eq_one.1 e
  obtain ⟨e', e3⟩ := IntOp.andi_eq_one.1 e'
  obtain ⟨e', e2⟩ := IntOp.andi_eq_one.1 e'
  obtain ⟨e0, e1⟩ := IntOp.andi_eq_one.1 e'
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

/-- The layer's rows are real when their parts are. -/
theorem input_real (a0 : FVec Ideal S8x2048x2048 .f32) (a1 : FVec Ideal S128x4x2048 .f32) (a2 : FVec Ideal S16x2048 .f32)
    (h0 : ∀ i, IsReal (a0 i)) (h1 : ∀ i, IsReal (a1 i)) (h2 : ∀ i, IsReal (a2 i)) (r : Fin 17920) (k : Fin 2048) : IsReal (input a0 a1 a2 r k) := by
  unfold input prompt
  by_cases c : r.val < 17408
  · rw [if_pos c]
    by_cases d : r.val / 2176 < 8 ∧ 112 ≤ r.val % 2176
    · rw [dif_pos d]
      by_cases d' : r.val % 2176 < 128
      · rw [dif_pos d']
        exact h2 _
      · rw [dif_neg d']
        exact h0 _
    · rw [dif_neg d]
      exact ⟨0, rfl⟩
  · rw [if_neg c]
    exact h1 _

/-- The reference's latent queries as a whole array. -/
theorem q_fun (a0 : FVec Ideal S8x2048x2048 .f32) (a1 : FVec Ideal S128x4x2048 .f32) (a2 : FVec Ideal S16x2048 .f32) (a3 : FVec Ideal S1x2048 .f32) (a4 : FVec Ideal S1x2048x3136 .f32) (g : FVec Ideal S1x512 .f32) : (join512 (nmP (qP (uP (hP a0 a2) a3 a4)) g) (nmS (qS (uS a1 a3 a4)) g) : FVec Ideal S17920x512 .f32) = fun i : S17920x512.Idx => Gq (proj a0 a1 a2 a3 a4 (i 0)) g (i 1) := by
  funext i
  rw [eq_ix2 i]
  exact q_all a0 a1 a2 a3 a4 g (i 0) (i 1)

/-- The reference's latent keys as a whole array. -/
theorem c_fun (a0 : FVec Ideal S8x2048x2048 .f32) (a1 : FVec Ideal S128x4x2048 .f32) (a2 : FVec Ideal S16x2048 .f32) (a3 : FVec Ideal S1x2048 .f32) (a4 : FVec Ideal S1x2048x3136 .f32) (g : FVec Ideal S1x512 .f32) : (join512 (nmP (cP (uP (hP a0 a2) a3 a4)) g) (nmS (cS (uS a1 a3 a4)) g) : FVec Ideal S17920x512 .f32) = fun i : S17920x512.Idx => Gc (proj a0 a1 a2 a3 a4 (i 0)) g (i 1) := by
  funext i
  rw [eq_ix2 i]
  exact c_all a0 a1 a2 a3 a4 g (i 0) (i 1)

/-- The reference's rotated keys as a whole array. -/
theorem k_fun (a0 : FVec Ideal S8x2048x2048 .f32) (a1 : FVec Ideal S128x4x2048 .f32) (a2 : FVec Ideal S16x2048 .f32) (a3 : FVec Ideal S1x2048 .f32) (a4 : FVec Ideal S1x2048x3136 .f32) : (join64 (rotP (kP (uP (hP a0 a2) a3 a4)) (Host.cos angR) (Host.sin angR)) (rotS (kS (uS a1 a3 a4)) (Host.cos angS) (Host.sin angS))) = fun i : S17920x64.Idx => Gr (proj a0 a1 a2 a3 a4 (i 0)) (i 0) ⟨(i 1).val, by have : (i 1).val < 64 := (i 1).isLt; omega⟩ := by
  funext i
  rw [eq_ix2 i]
  exact k_all a0 a1 a2 a3 a4 (i 0) (i 1)

/-- The reference's widened rotated keys as a whole array. -/
theorem p_fun (a0 : FVec Ideal S8x2048x2048 .f32) (a1 : FVec Ideal S128x4x2048 .f32) (a2 : FVec Ideal S16x2048 .f32) (a3 : FVec Ideal S1x2048 .f32) (a4 : FVec Ideal S1x2048x3136 .f32) : pad128 (join64 (rotP (kP (uP (hP a0 a2) a3 a4)) (Host.cos angR) (Host.sin angR)) (rotS (kS (uS a1 a3 a4)) (Host.cos angS) (Host.sin angS))) = fun i : S17920x128.Idx => Gr (proj a0 a1 a2 a3 a4 (i 0)) (i 0) (i 1) := by
  funext i
  rw [eq_ix2 i]
  exact p_all a0 a1 a2 a3 a4 (i 0) (i 1)

/-- The reference's gate as a whole array. -/
theorem g_fun (a0 : FVec Ideal S8x2048x2048 .f32) (a1 : FVec Ideal S128x4x2048 .f32) (a2 : FVec Ideal S16x2048 .f32) (a3 : FVec Ideal S1x2048 .f32) (a4 : FVec Ideal S1x2048x3136 .f32) : join2048 (gP (uP (hP a0 a2) a3 a4)) (gS (uS a1 a3 a4)) = fun i : S17920x2048.Idx => Gg (proj a0 a1 a2 a3 a4 (i 0)) (i 1) := by
  funext i
  rw [eq_ix2 i]
  exact g_all a0 a1 a2 a3 a4 (i 0) (i 1)

set_option maxHeartbeats 1600000 in
/-- Kernel and reference end with the same five arrays, for real rows and weights. -/
theorem algebraic : Cert.algebraic_Kernel2Ideal_Reference2Ideal_pre_finite_inputs := by
  intro m g m' g' hpre hargs
  refine ⟨fun c => fun i : Cert.Kernel2Ideal.S17920x512.Idx => Gq (proj (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (i 0)) (m ((c : Thread Cert.Kernel2Ideal.nD Cert.Kernel2Ideal.τ).loc Cert.Kernel2Ideal.main_arg5)) (i 1), fun c => fun i : Cert.Kernel2Ideal.S17920x512.Idx => Gc (proj (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (i 0)) (m ((c : Thread Cert.Kernel2Ideal.nD Cert.Kernel2Ideal.τ).loc Cert.Kernel2Ideal.main_arg6)) (i 1), fun c => fun i : Cert.Kernel2Ideal.S17920x64.Idx => Gr (proj (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (i 0)) (i 0) ⟨(i 1).val, by have : (i 1).val < 64 := (i 1).isLt; omega⟩, fun c => fun i : Cert.Kernel2Ideal.S17920x128.Idx => Gr (proj (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (i 0)) (i 0) (i 1), fun c => fun i : Cert.Kernel2Ideal.S17920x2048.Idx => Gg (proj (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (i 0)) (i 1),
    (θ_run _ _ _).mono (fun r h c => ?_) (Cert.Kernel2Ideal.Value.run_blocks m g),
    (θ_run _ _ _).mono (fun r h c => ?_) (Cert.Reference2Ideal.Value.run m' g')⟩
  · obtain ⟨h7, h8, h9, h10, h11, hk⟩ := h c
    obtain ⟨r0, r1, r2, hg, hw⟩ := pre_real _ _ _ _ _ _ _ (hpre c)
    have hr := input_real _ _ _ r0 r1 r2
    exact ⟨h7.trans (Cert.Kernel2Ideal.Rows.final7 m c), h8.trans (Cert.Kernel2Ideal.Rows.final8 m c), h9.trans (Cert.Kernel2Ideal.Rows.final9 m c hr hg hw),
      h10.trans (Cert.Kernel2Ideal.Rows.final10 m c hr hg hw), h11.trans (Cert.Kernel2Ideal.Rows.final11 m c), hk⟩
  · obtain ⟨h7, h8, h9, h10, h11, hk⟩ := h c
    obtain ⟨e0, e1, e2, e3, e4, e5, e6⟩ := hargs c
    refine ⟨h7.trans ((q_fun (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5))).trans ?_), h8.trans ((c_fun (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg6))).trans ?_), h9.trans ((k_fun (m' ((c : Thread nD τ).loc main_arg0)) (m' ((c : Thread nD τ).loc main_arg1)) (m' ((c : Thread nD τ).loc main_arg2)) (m' ((c : Thread nD τ).loc main_arg3)) (m' ((c : Thread nD τ).loc main_arg4))).trans ?_), h10.trans ((p_fun (m' ((c : Thread nD τ).loc main_arg0)) (m' ((c : Thread nD τ).loc main_arg1)) (m' ((c : Thread nD τ).loc main_arg2)) (m' ((c : Thread nD τ).loc main_arg3)) (m' ((c : Thread nD τ).loc main_arg4))).trans ?_), h11.trans ((g_fun (m' ((c : Thread nD τ).loc main_arg0)) (m' ((c : Thread nD τ).loc main_arg1)) (m' ((c : Thread nD τ).loc main_arg2)) (m' ((c : Thread nD τ).loc main_arg3)) (m' ((c : Thread nD τ).loc main_arg4))).trans ?_), hk⟩
    · rw [e0, e1, e2, e3, e4, e5]
    · rw [e0, e1, e2, e3, e4, e6]
    · rw [e0, e1, e2, e3, e4]
    · rw [e0, e1, e2, e3, e4]
    · rw [e0, e1, e2, e3, e4]

/-- The reference's frame, from its run. -/
theorem frame : Cert.quiescent_Reference2Ideal := fun m g _ =>
  (θ_run Cert.Reference2Ideal.defs _ _).mono (fun r h => ⟨fun c => (h c).2.2.2.2.2, sem_eq_zero_of_no_sems (by decide) r.2⟩)
    (Cert.Reference2Ideal.Value.run (F := Ideal) m g)

end Cert.Reference2Ideal.Rows

end
-- ==== Proof.Rows.In3.lean ====
/- The stick-breaking layer's input projection: each result row is the normalised row times a column block of the weights. -/
module

public import proofs.«01_k».proof.Proof.Gen.Kernel3Ideal.Value
public import proofs.«01_k».proof.Proof.Rows.Row
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel3Ideal.Rows

open Cert.Kernel3Ideal Cert.Kernel3Ideal.Gen Idealize.ShloMosaic Idealize.ShloMosaic.TcCoe Idealize.SL.Sem Cert.Rows

/-- Row `p` of the normalised block. -/
theorem norm_eq (x0 : Vec Ideal S512x2048 .f32) (x1 : Vec Ideal S1x2048 .f32) (p : Fin 512) (q : Fin 2048) :
    (k0_pay4 (View.ld x0 r0_0) (View.ld x1 r0_1) (ix2 p q) : EReal)
      = nrm 0x45000000#32 (fun k => x0 (ix2 p k)) (fun k => x1 (ix2 0 k)) q := by
  pointwise [k0_pay4]
  rfl

/-- One entry of a result block: the normalised row `p` against weight column `j`. -/
def val (x0 : Vec Ideal S512x2048 .f32) (x1 : Vec Ideal S1x2048 .f32) (x2 : Vec Ideal S2048x4608 .bf16) (p : Fin 512) (j : Fin 4608) : EReal :=
  lin (nrm 0x45000000#32 (fun k => x0 (ix2 p k)) (fun k => x1 (ix2 0 k))) (fun k => x2 (ix2 k j))

/-- The query block's left half. -/
theorem q0_eq (x0 : Vec Ideal S512x2048 .f32) (x1 : Vec Ideal S1x2048 .f32) (x2 : Vec Ideal S2048x4608 .bf16) (p : Fin 512) (q : Fin 1024) :
    (k0_pay5 (View.ld x0 r0_0) (View.ld x1 r0_1) (View.ld x2 r0_2) (ix2 p q) : EReal) = val x0 x1 x2 p ⟨q.val, by omega⟩ := by
  pointwise [k0_pay5]
  simp only [norm_eq]
  rfl

/-- The query block's right half. -/
theorem q1_eq (x0 : Vec Ideal S512x2048 .f32) (x1 : Vec Ideal S1x2048 .f32) (x2 : Vec Ideal S2048x4608 .bf16) (p : Fin 512) (q : Fin 1024) :
    (k0_pay6 (View.ld x0 r0_0) (View.ld x1 r0_1) (View.ld x2 r0_4) (ix2 p q) : EReal) = val x0 x1 x2 p ⟨1024 + q.val, by omega⟩ := by
  pointwise [k0_pay6]
  simp only [norm_eq]
  rfl

/-- The key block. -/
theorem k_eq (x0 : Vec Ideal S512x2048 .f32) (x1 : Vec Ideal S1x2048 .f32) (x2 : Vec Ideal S2048x4608 .bf16) (p : Fin 512) (q : Fin 256) :
    (k0_pay7 (View.ld x0 r0_0) (View.ld x1 r0_1) (View.ld x2 r0_6) (ix2 p q) : EReal) = val x0 x1 x2 p ⟨2048 + q.val, by omega⟩ := by
  pointwise [k0_pay7]
  simp only [norm_eq]
  rfl

/-- The value block. -/
theorem v_eq (x0 : Vec Ideal S512x2048 .f32) (x1 : Vec Ideal S1x2048 .f32) (x2 : Vec Ideal S2048x4608 .bf16) (p : Fin 512) (q : Fin 256) :
    (k0_pay1 (k0_pay9 x0 x1 x2) (k0_pay8 (View.ld x2 r0_8)) (ix2 p q) : EReal) = val x0 x1 x2 p ⟨2304 + q.val, by omega⟩ := by
  pointwise [k0_pay1, k0_pay8, k0_pay9]
  simp only [norm_eq]
  rfl

/-- The gate block's left half. -/
theorem g0_eq (x0 : Vec Ideal S512x2048 .f32) (x1 : Vec Ideal S1x2048 .f32) (x2 : Vec Ideal S2048x4608 .bf16) (p : Fin 512) (q : Fin 1024) :
    (k0_pay2 (k0_pay9 x0 x1 x2) (View.ld x2 r0_9) (ix2 p q) : EReal) = val x0 x1 x2 p ⟨2560 + q.val, by omega⟩ := by
  pointwise [k0_pay2, k0_pay9]
  simp only [norm_eq]
  rfl

/-- The gate block's right half. -/
theorem g1_eq (x0 : Vec Ideal S512x2048 .f32) (x1 : Vec Ideal S1x2048 .f32) (x2 : Vec Ideal S2048x4608 .bf16) (p : Fin 512) (q : Fin 1024) :
    (k0_pay3 (k0_pay9 x0 x1 x2) (View.ld x2 r0_10) (ix2 p q) : EReal) = val x0 x1 x2 p ⟨3584 + q.val, by omega⟩ := by
  pointwise [k0_pay3, k0_pay9]
  simp only [norm_eq]
  rfl

/-- What the body leaves in the query window. -/
theorem out3_eq (x0 : Vec Ideal S512x2048 .f32) (x1 : Vec Ideal S1x2048 .f32) (x2 : Vec Ideal S2048x4608 .bf16) (y : S512x2048.Idx) :
    (out0_3 x0 x1 x2 y : EReal) = val x0 x1 x2 (y 0) ⟨(y 1).val, by have : (y 1).val < 2048 := (y 1).isLt; omega⟩ := by
  unfold out0_3
  canon_tiles x h using View.cover_of_tiledBy _ ![512, 1024] (by sl_kernel_rfl) _
  case piece0 =>
    have e := q1_eq x0 x1 x2 (x 0) (x 1)
    rw [← eq_ix2 x] at e
    refine e.trans (congrArg₂ (val x0 x1 x2) (Fin.ext h0.symm) (Fin.ext h1.symm))
  case piece1 =>
    have e := q0_eq x0 x1 x2 (x 0) (x 1)
    rw [← eq_ix2 x] at e
    refine e.trans (congrArg₂ (val x0 x1 x2) (Fin.ext h0.symm) (Fin.ext h1.symm))

/-- What the body leaves in the key window. -/
theorem out4_eq (x0 : Vec Ideal S512x2048 .f32) (x1 : Vec Ideal S1x2048 .f32) (x2 : Vec Ideal S2048x4608 .bf16) (y : S512x256.Idx) :
    (out0_4 x0 x1 x2 y : EReal) = val x0 x1 x2 (y 0) ⟨2048 + (y 1).val, by have : (y 1).val < 256 := (y 1).isLt; omega⟩ := by
  unfold out0_4
  canon_tiles x h using View.cover_of_tiledBy _ ![512, 256] (by sl_kernel_rfl) _
  have e := k_eq x0 x1 x2 (x 0) (x 1)
  rw [← eq_ix2 x] at e
  refine e.trans (congrArg₂ (val x0 x1 x2) (Fin.ext h0.symm) (Fin.ext (congrArg (2048 + ·) h1.symm)))

/-- What the body leaves in the value window. -/
theorem out5_eq (x0 : Vec Ideal S512x2048 .f32) (x1 : Vec Ideal S1x2048 .f32) (x2 : Vec Ideal S2048x4608 .bf16) (y : S512x256.Idx) :
    (out0_5 x0 x1 x2 y : EReal) = val x0 x1 x2 (y 0) ⟨2304 + (y 1).val, by have : (y 1).val < 256 := (y 1).isLt; omega⟩ := by
  unfold out0_5
  canon_tiles x h using View.cover_of_tiledBy _ ![512, 256] (by sl_kernel_rfl) _
  have e := v_eq x0 x1 x2 (x 0) (x 1)
  rw [← eq_ix2 x] at e
  refine e.trans (congrArg₂ (val x0 x1 x2) (Fin.ext h0.symm) (Fin.ext (congrArg (2304 + ·) h1.symm)))

/-- What the body leaves in the gate window. -/
theorem out6_eq (x0 : Vec Ideal S512x2048 .f32) (x1 : Vec Ideal S1x2048 .f32) (x2 : Vec Ideal S2048x4608 .bf16) (y : S512x2048.Idx) :
    (out0_6 x0 x1 x2 y : EReal) = val x0 x1 x2 (y 0) ⟨2560 + (y 1).val, by have : (y 1).val < 2048 := (y 1).isLt; omega⟩ := by
  unfold out0_6
  canon_tiles x h using View.cover_of_tiledBy _ ![512, 1024] (by sl_kernel_rfl) _
  case piece0 =>
    have e := g1_eq x0 x1 x2 (x 0) (x 1)
    rw [← eq_ix2 x] at e
    refine e.trans (congrArg₂ (val x0 x1 x2) (Fin.ext h0.symm) (Fin.ext (by show 3584 + _ = 2560 + _; omega)))
  case piece1 =>
    have e := g0_eq x0 x1 x2 (x 0) (x 1)
    rw [← eq_ix2 x] at e
    refine e.trans (congrArg₂ (val x0 x1 x2) (Fin.ext h0.symm) (Fin.ext (by show 2560 + _ = 2560 + _; omega)))

variable (m : (ℓ : Loc nD τ sig) → Buf (Elt Ideal) ℓ) (c : Dev nD)

/-- The index maps: the row windows move with the point, the weights stay. -/
theorem idx : ∀ t : Fin grid0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] := by decide +kernel

/-- The weights argument with its leading unit axis dropped, at an entry. -/
theorem w_read (a : FVec Ideal S1x2048x4608 .f32) (p : Fin 2048) (q : Fin 4608) :
    (truncf .bf16 (shapeCast S2048x4608 a shapeCasts_S1x2048x4608_S2048x4608) bitsLt_bf16_f32 (ix2 p q) : EReal) = a (ix3 0 p q) := by
  pointwise

/-- The weights as the region finds them. -/
theorem V_w (p : Fin 2048) (q : Fin 4608) : (V m c main_v1 (ix2 p q) : EReal) = m ((c : Thread nD τ).loc main_arg2) (ix3 0 p q) := by
  have e : V m c main_v1 = truncf .bf16 (shapeCast S2048x4608 (m ((c : Thread nD τ).loc main_arg2)) shapeCasts_S1x2048x4608_S2048x4608 : FVec Ideal _ .f32) bitsLt_bf16_f32 := by
    show StableHlo.after hostOps0 _ (Proc.devRef .tc main_v1) = _
    after_results
    rfl
  exact (congrFun e _).trans (w_read _ p q)

/-- The normalisation weights flattened and given back their unit axis, at an entry. -/
theorem g_read (a : FVec Ideal S1x2048 .f32) (p : Fin 1) (q : Fin 2048) :
    (shapeCast S1x2048 (shapeCast S2048 a shapeCasts_S1x2048_S2048) shapeCasts_S2048_S1x2048 (ix2 p q) : EReal) = a (ix2 0 q) := by
  obtain rfl : p = 0 := Subsingleton.elim _ _
  pointwise

/-- The normalisation weights as the region finds them. -/
theorem V_g (p : Fin 1) (q : Fin 2048) : (V m c main_v3 (ix2 p q) : EReal) = m ((c : Thread nD τ).loc main_arg1) (ix2 0 q) := by
  have e : V m c main_v3 = (shapeCast S1x2048 (shapeCast S2048 (m ((c : Thread nD τ).loc main_arg1)) shapeCasts_S1x2048_S2048 : FVec Ideal _ .f32) shapeCasts_S2048_S1x2048 : FVec Ideal _ .f32) := by
    show StableHlo.after hostOps0 _ (Proc.devRef .tc main_v3) = _
    after_results
    rfl
  exact (congrFun e _).trans (g_read _ p q)

/-- Window 0's block is the point's 512 rows. -/
theorem read0 (t : Fin cfg0.N) (p : Fin 512) (k : Fin 2048) : (iblk m c 0 t (ix2 p k) : EReal)
    = m ((c : Thread nD τ).loc main_arg0) (ix2 ⟨t.val * 512 + p.val, by have := t.isLt; have : cfg0.N = 35 := N_0; omega⟩ k) := by
  obtain ⟨e0, e1, e2, e3, e4, e5, e6⟩ := idx t
  blk_ext [iblk, V, e0]

/-- Window 1's block is the normalisation weights. -/
theorem read1 (t : Fin cfg0.N) (k : Fin 2048) : (iblk m c 1 t (ix2 0 k) : EReal) = m ((c : Thread nD τ).loc main_arg1) (ix2 0 k) := by
  obtain ⟨e0, e1, e2, e3, e4, e5, e6⟩ := idx t
  rw [← V_g m c 0 k]
  blk_ext [iblk, e1]

/-- Window 2's block is the weights. -/
theorem read2 (t : Fin cfg0.N) (p : Fin 2048) (k : Fin 4608) : (iblk m c 2 t (ix2 p k) : EReal) = m ((c : Thread nD τ).loc main_arg2) (ix3 0 p k) := by
  obtain ⟨e0, e1, e2, e3, e4, e5, e6⟩ := idx t
  rw [← V_w m c p k]
  blk_ext [iblk, e2]

/-- Entry `(r, j)` of the projection: row `r` normalised, against weight column `j`. -/
def proj (a0 : S17920x2048.Idx → EReal) (a1 : S1x2048.Idx → EReal) (a2 : S1x2048x4608.Idx → EReal) (r : Fin 17920) (j : Fin 4608) : EReal :=
  lin (nrm 0x45000000#32 (fun k => a0 (ix2 r k)) (fun k => a1 (ix2 0 k))) (fun k => a2 (ix3 0 k j))

/-- The entry of a block is the projection's at the point's rows. -/
theorem val_eq (t : Fin cfg0.N) (p : Fin 512) (j : Fin 4608) : val (iblk m c 0 t) (iblk m c 1 t) (iblk m c 2 t) p j
    = proj (m ((c : Thread nD τ).loc main_arg0)) (m ((c : Thread nD τ).loc main_arg1)) (m ((c : Thread nD τ).loc main_arg2))
        ⟨t.val * 512 + p.val, by have := t.isLt; have : cfg0.N = 35 := N_0; omega⟩ j := by
  unfold val proj
  simp only [read0, read1, read2]

/-- The query array: the projection's query columns. -/
def Q (a0 : S17920x2048.Idx → EReal) (a1 : S1x2048.Idx → EReal) (a2 : S1x2048x4608.Idx → EReal) (i : S17920x2048.Idx) : EReal :=
  proj a0 a1 a2 (i 0) ⟨(i 1).val, by have : (i 1).val < 2048 := (i 1).isLt; omega⟩

/-- The key array: the projection's key columns. -/
def K (a0 : S17920x2048.Idx → EReal) (a1 : S1x2048.Idx → EReal) (a2 : S1x2048x4608.Idx → EReal) (i : S17920x256.Idx) : EReal :=
  proj a0 a1 a2 (i 0) ⟨2048 + (i 1).val, by have : (i 1).val < 256 := (i 1).isLt; omega⟩

/-- The value array: the projection's value columns. -/
def Vv (a0 : S17920x2048.Idx → EReal) (a1 : S1x2048.Idx → EReal) (a2 : S1x2048x4608.Idx → EReal) (i : S17920x256.Idx) : EReal :=
  proj a0 a1 a2 (i 0) ⟨2304 + (i 1).val, by have : (i 1).val < 256 := (i 1).isLt; omega⟩

/-- The gate array: the projection's gate columns. -/
def Gt (a0 : S17920x2048.Idx → EReal) (a1 : S1x2048.Idx → EReal) (a2 : S1x2048x4608.Idx → EReal) (i : S17920x2048.Idx) : EReal :=
  proj a0 a1 a2 (i 0) ⟨2560 + (i 1).val, by have : (i 1).val < 2048 := (i 1).isLt; omega⟩

/-- The query array after the run. -/
theorem final3 : (dats m 0 c).arrAt 3 cfg0.N = Q (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3, e4, e5, e6⟩ := idx t
  rw [after0_3]
  have E0 : ((((cfg0.win 3).blk t).view.emb y) 0).val = t.val * 512 + (y 0).val := by blk_simp [e3]
  have E1 : ((((cfg0.win 3).blk t).view.emb y) 1).val = (y 1).val := by blk_simp [e3]
  refine (cast_eq _ _).trans ?_
  refine (out3_eq (iblk m c 0 t) (iblk m c 1 t) (iblk m c 2 t) ((cfg0.win 3).xinj (cfg0.grid.coords t) y)).trans ?_
  refine (val_eq m c t _ _).trans ?_
  unfold Q
  refine congrArg₂ (proj _ _ _) (Fin.ext E0.symm) (Fin.ext E1.symm)

/-- The key array after the run. -/
theorem final4 : (dats m 0 c).arrAt 4 cfg0.N = K (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4, e5, e6⟩ := idx t
  rw [after0_4]
  have E0 : ((((cfg0.win 4).blk t).view.emb y) 0).val = t.val * 512 + (y 0).val := by blk_simp [e4]
  have E1 : ((((cfg0.win 4).blk t).view.emb y) 1).val = (y 1).val := by blk_simp [e4]
  refine (cast_eq _ _).trans ?_
  refine (out4_eq (iblk m c 0 t) (iblk m c 1 t) (iblk m c 2 t) ((cfg0.win 4).xinj (cfg0.grid.coords t) y)).trans ?_
  refine (val_eq m c t _ _).trans ?_
  unfold K
  refine congrArg₂ (proj _ _ _) (Fin.ext E0.symm) (Fin.ext (congrArg (2048 + ·) E1.symm))

/-- The value array after the run. -/
theorem final5 : (dats m 0 c).arrAt 5 cfg0.N = Vv (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := idx t
  rw [after0_5]
  have E0 : ((((cfg0.win 5).blk t).view.emb y) 0).val = t.val * 512 + (y 0).val := by blk_simp [e5]
  have E1 : ((((cfg0.win 5).blk t).view.emb y) 1).val = (y 1).val := by blk_simp [e5]
  refine (cast_eq _ _).trans ?_
  refine (out5_eq (iblk m c 0 t) (iblk m c 1 t) (iblk m c 2 t) ((cfg0.win 5).xinj (cfg0.grid.coords t) y)).trans ?_
  refine (val_eq m c t _ _).trans ?_
  unfold Vv
  refine congrArg₂ (proj _ _ _) (Fin.ext E0.symm) (Fin.ext (congrArg (2304 + ·) E1.symm))

/-- The gate array after the run. -/
theorem final6 : (dats m 0 c).arrAt 6 cfg0.N = Gt (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨e0, e1, e2, e3, e4, e5, e6⟩ := idx t
  rw [after0_6]
  have E0 : ((((cfg0.win 6).blk t).view.emb y) 0).val = t.val * 512 + (y 0).val := by blk_simp [e6]
  have E1 : ((((cfg0.win 6).blk t).view.emb y) 1).val = (y 1).val := by blk_simp [e6]
  refine (cast_eq _ _).trans ?_
  refine (out6_eq (iblk m c 0 t) (iblk m c 1 t) (iblk m c 2 t) ((cfg0.win 6).xinj (cfg0.grid.coords t) y)).trans ?_
  refine (val_eq m c t _ _).trans ?_
  unfold Gt
  refine congrArg₂ (proj _ _ _) (Fin.ext E0.symm) (Fin.ext (congrArg (2560 + ·) E1.symm))

end Cert.Kernel3Ideal.Rows

end
-- ==== Proof.Rows.Ref3.lean ====
/- The stick-breaking layer's input projection as the reference computes it: the same rows and columns. -/
module

public import proofs.«01_k».proof.Defs
public import proofs.«01_k».proof.Proof.Gen.Reference3Ideal.Run
public import proofs.«01_k».proof.Proof.Rows.In3
public import Idealize.ShloMosaic.Lib.Pointwise
public import Idealize.ShloMosaic.Adequacy
public import Idealize.ShloMosaic.Init

@[expose] public section

set_option maxRecDepth 16384

noncomputable section

namespace Cert.Reference3Ideal.Rows

open Cert.Reference3Ideal Cert.Reference3Ideal.Gen Idealize.ShloMosaic Idealize.ShloMosaic.TcCoe Idealize.SL.Sem Cert.Rows
open Cert.Kernel3Ideal.Rows (proj Q K Vv Gt)

/-- The normalised rows. -/
def normA (a0 : FVec Ideal S17920x2048 .f32) (a1 : FVec Ideal S1x2048 .f32) : FVec Ideal S17920x2048 .f32 :=
  mulf (mulf a0 (broadcastInDim S17920x2048 ![0, 1] bcast_S17920x1_S17920x2048_0_1 (Host.rsqrt (addf (Host.divf (broadcastInDim S17920x1 ![0] bcast_S17920_S17920x1_0 (Host.reduceAdd (mulf a0 a0) (constant S_ .f32 0x00000000#32) reducesTo_S17920x2048_S17920_d1 h_S_)) (broadcastInDim S17920x1 ![] bcast_S_S17920x1 (constant S_ .f32 0x45000000#32))) (broadcastInDim S17920x1 ![] bcast_S_S17920x1 (constant S_ .f32 0x358637BD#32)))))) (broadcastInDim S17920x2048 ![0, 1] bcast_S1x2048_S17920x2048_0_1 (broadcastInDim S1x2048 ![1] bcast_S2048_S1x2048_1 (shapeCast S2048 a1 shapeCasts_S1x2048_S2048)))

/-- The projection of rows `n`. -/
def projA (n : FVec Ideal S17920x2048 .f32) (a2 : FVec Ideal S1x2048x4608 .f32) : FVec Ideal S17920x4608 .f32 :=
  Host.dotGeneral dot_S17920x2048_S2048x4608_S17920x4608_1_0_0_1_n_n none n (shapeCast S2048x4608 a2 shapeCasts_S1x2048x4608_S2048x4608)

/-- The normalised rows at an entry. -/
theorem normA_eq (x0 : FVec Ideal S17920x2048 .f32) (x1 : FVec Ideal S1x2048 .f32) (p : Fin 17920) (q : Fin 2048) :
    (normA x0 x1 (ix2 p q) : EReal) = nrm 0x45000000#32 (fun k => x0 (ix2 p k)) (fun k => x1 (ix2 0 k)) q := by
  unfold normA
  pointwise
  rfl

/-- The projection at an entry. -/
theorem projA_eq (x0 : FVec Ideal S17920x2048 .f32) (x1 : FVec Ideal S1x2048 .f32) (x2 : FVec Ideal S1x2048x4608 .f32) (p : Fin 17920) (q : Fin 4608) :
    (projA (normA x0 x1) x2 (ix2 p q) : EReal) = proj x0 x1 x2 p q := by
  unfold projA
  pointwise
  simp only [normA_eq]
  rfl

/-- The query columns. -/
theorem q_eq (n : FVec Ideal S17920x4608 .f32) (p : Fin 17920) (q : Fin 2048) :
    (truncf .bf16 (extractStridedSlice S17920x2048 ![0, 0] n slices_S17920x4608_S17920x2048_0_0) bitsLt_bf16_f32 (ix2 p q) : EReal) = n (ix2 p ⟨q.val, by omega⟩) := by
  pointwise

/-- The key columns. -/
theorem k_eq (n : FVec Ideal S17920x4608 .f32) (p : Fin 17920) (q : Fin 256) :
    (extractStridedSlice S17920x256 ![0, 2048] n slices_S17920x4608_S17920x256_0_2048 (ix2 p q) : EReal) = n (ix2 p ⟨2048 + q.val, by omega⟩) := by
  pointwise

/-- The value columns. -/
theorem v_eq (n : FVec Ideal S17920x4608 .f32) (p : Fin 17920) (q : Fin 256) :
    (extractStridedSlice S17920x256 ![0, 2304] n slices_S17920x4608_S17920x256_0_2304 (ix2 p q) : EReal) = n (ix2 p ⟨2304 + q.val, by omega⟩) := by
  pointwise

/-- The gate columns. -/
theorem g_eq (n : FVec Ideal S17920x4608 .f32) (p : Fin 17920) (q : Fin 2048) :
    (extractStridedSlice S17920x2048 ![0, 2560] n slices_S17920x4608_S17920x2048_0_2560 (ix2 p q) : EReal) = n (ix2 p ⟨2560 + q.val, by omega⟩) := by
  pointwise

/-- The reference's query array. -/
theorem q_all (a0 : FVec Ideal S17920x2048 .f32) (a1 : FVec Ideal S1x2048 .f32) (a2 : FVec Ideal S1x2048x4608 .f32) :
    truncf .bf16 (extractStridedSlice S17920x2048 ![0, 0] (projA (normA a0 a1) a2) slices_S17920x4608_S17920x2048_0_0) bitsLt_bf16_f32 = Q a0 a1 a2 := by
  funext i; rw [eq_ix2 i]
  exact (q_eq (projA (normA a0 a1) a2) _ _).trans (projA_eq _ _ _ _ _)

/-- The reference's key array. -/
theorem k_all (a0 : FVec Ideal S17920x2048 .f32) (a1 : FVec Ideal S1x2048 .f32) (a2 : FVec Ideal S1x2048x4608 .f32) :
    extractStridedSlice S17920x256 ![0, 2048] (projA (normA a0 a1) a2) slices_S17920x4608_S17920x256_0_2048 = K a0 a1 a2 := by
  funext i; rw [eq_ix2 i]
  exact (k_eq (projA (normA a0 a1) a2) _ _).trans (projA_eq _ _ _ _ _)

/-- The reference's value array. -/
theorem v_all (a0 : FVec Ideal S17920x2048 .f32) (a1 : FVec Ideal S1x2048 .f32) (a2 : FVec Ideal S1x2048x4608 .f32) :
    extractStridedSlice S17920x256 ![0, 2304] (projA (normA a0 a1) a2) slices_S17920x4608_S17920x256_0_2304 = Vv a0 a1 a2 := by
  funext i; rw [eq_ix2 i]
  exact (v_eq (projA (normA a0 a1) a2) _ _).trans (projA_eq _ _ _ _ _)

/-- The reference's gate array. -/
theorem g_all (a0 : FVec Ideal S17920x2048 .f32) (a1 : FVec Ideal S1x2048 .f32) (a2 : FVec Ideal S1x2048x4608 .f32) :
    extractStridedSlice S17920x2048 ![0, 2560] (projA (normA a0 a1) a2) slices_S17920x4608_S17920x2048_0_2560 = Gt a0 a1 a2 := by
  funext i; rw [eq_ix2 i]
  exact (g_eq (projA (normA a0 a1) a2) _ _).trans (projA_eq _ _ _ _ _)

/-- Kernel and reference end with the same four arrays. -/
theorem algebraic : Cert.algebraic_Kernel3Ideal_Reference3Ideal := by
  intro m g m' g' hpre hargs
  refine ⟨fun c => Q (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => K (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Vv (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Gt (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    (θ_run _ _ _).mono (fun r h c => ?_) (Cert.Kernel3Ideal.Value.run_blocks m g),
    (θ_run _ _ _).mono (fun r h c => ?_) (Cert.Reference3Ideal.Value.run m' g')⟩
  · obtain ⟨h3, h4, h5, h6, hk⟩ := h c
    exact ⟨h3.trans (Cert.Kernel3Ideal.Rows.final3 m c), h4.trans (Cert.Kernel3Ideal.Rows.final4 m c), h5.trans (Cert.Kernel3Ideal.Rows.final5 m c),
      h6.trans (Cert.Kernel3Ideal.Rows.final6 m c), hk⟩
  · obtain ⟨h3, h4, h5, h6, hk⟩ := h c
    obtain ⟨e0, e1, e2⟩ := hargs c
    refine ⟨h3.trans ((q_all _ _ _).trans ?_), h4.trans ((k_all _ _ _).trans ?_), h5.trans ((v_all _ _ _).trans ?_), h6.trans ((g_all _ _ _).trans ?_), hk⟩
    all_goals rw [e0, e1, e2]

/-- The reference's frame, from its run. -/
theorem frame : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run (F := Ideal) m g)

end Cert.Reference3Ideal.Rows

end
-- ==== Proof.Rows.Ker4.lean ====
/- The last output projection, residual and final norm of the prompt rows. -/
module

public import proofs.«01_k».proof.Proof.Gen.Kernel4Ideal.Value
public import proofs.«01_k».proof.Proof.Rows.Row
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel4Ideal.Rows

open Cert.Kernel4Ideal Cert.Kernel4Ideal.Gen Idealize.ShloMosaic Idealize.ShloMosaic.TcCoe Idealize.SL.Sem Cert.Rows

/-- One entry of a result block: the row with its projection added, normalised. -/
def val (x0 : Vec Ideal S128x2048 .f32) (x1 : Vec Ideal S128x2048 .bf16) (x2 : Vec Ideal S2048x2048 .bf16) (x3 : Vec Ideal S1x2048 .f32) (p : Fin 128) (q : Fin 2048) : EReal :=
  nrm 0x45000000#32 (fun j => x0 (ix2 p j) + lin (fun k => x1 (ix2 p k)) (fun k => x2 (ix2 k j))) (fun k => x3 (ix2 0 k)) q

/-- The body's stored block at an entry. -/
theorem pay_eq (x0 : Vec Ideal S128x2048 .f32) (x1 : Vec Ideal S128x2048 .bf16) (x2 : Vec Ideal S2048x2048 .bf16) (x3 : Vec Ideal S1x2048 .f32) (p : Fin 128) (q : Fin 2048) :
    (k0_pay1 (View.ld x0 r0_0) (View.ld x1 r0_0) (View.ld x2 r0_1) (View.ld x3 r0_2) (ix3 0 p q) : EReal) = val x0 x1 x2 x3 p q := by
  pointwise [k0_pay1]
  rfl

/-- What the body leaves in the result window. -/
theorem out4_eq (x0 : Vec Ideal S128x2048 .f32) (x1 : Vec Ideal S128x2048 .bf16) (x2 : Vec Ideal S2048x2048 .bf16) (x3 : Vec Ideal S1x2048 .f32) (y : S1x128x2048.Idx) :
    (out0_4 x0 x1 x2 x3 y : EReal) = val x0 x1 x2 x3 (y 1) (y 2) := by
  unfold out0_4
  canon_tiles x h using View.cover_of_tiledBy _ ![1, 128, 2048] (by sl_kernel_rfl) _
  have e := pay_eq x0 x1 x2 x3 (x 1) (x 2)
  rw [show (ix3 0 (x 1) (x 2) : S1x128x2048.Idx) = x from by rw [show (0 : Fin 1) = x 0 from Subsingleton.elim _ _]; exact (eq_ix3 x).symm] at e
  exact e.trans (congrArg₂ (val x0 x1 x2 x3) (Fin.ext h1.symm) (Fin.ext h2.symm))

variable (m : (ℓ : Loc nD τ sig) → Buf (Elt Ideal) ℓ) (c : Dev nD)

/-- The index maps. -/
theorem idx : ∀ t : Fin grid0.N, win0_0.index t = ![t.val / 16 * 17 + 1 + t.val % 16, 0] ∧ win0_1.index t = ![t.val / 16 * 17 + 1 + t.val % 16, 0]
    ∧ win0_2.index t = ![0, 0] ∧ win0_3.index t = ![0, 0] ∧ win0_4.index t = ![t.val / 16, t.val % 16, 0] := by decide +kernel

/-- The projection's weights, at an entry. -/
theorem w_read (a : FVec Ideal S1x2048x2048 .f32) (p q : Fin 2048) :
    (truncf .bf16 (shapeCast S2048x2048 a shapeCasts_S1x2048x2048_S2048x2048) bitsLt_bf16_f32 (ix2 p q) : EReal) = a (ix3 0 p q) := by
  pointwise

/-- The projection's weights, as the region finds it. -/
theorem V_w (p q : Fin 2048) : (V m c main_v1 (ix2 p q) : EReal) = m ((c : Thread nD τ).loc main_arg2) (ix3 0 p q) := by
  have e : V m c main_v1 = (truncf .bf16 ((shapeCast S2048x2048 (m ((c : Thread nD τ).loc main_arg2)) shapeCasts_S1x2048x2048_S2048x2048 : FVec Ideal _ .f32)) bitsLt_bf16_f32 : FVec Ideal _ .bf16) := by
    show StableHlo.after hostOps0 _ (Proc.devRef .tc main_v1) = _
    after_results
    rfl
  exact (congrFun e _).trans (w_read _ p q)

/-- The final norm's weights, at an entry. -/
theorem g_read (a : FVec Ideal S2048 .f32) (q : Fin 2048) :
    (shapeCast S1x2048 a shapeCasts_S2048_S1x2048 (ix2 0 q) : EReal) = a (ix1 q) := by
  pointwise

/-- The final norm's weights, as the region finds it. -/
theorem V_g (q : Fin 2048) : (V m c main_v2 (ix2 0 q) : EReal) = m ((c : Thread nD τ).loc main_arg3) (ix1 q) := by
  have e : V m c main_v2 = ((shapeCast S1x2048 (m ((c : Thread nD τ).loc main_arg3)) shapeCasts_S2048_S1x2048 : FVec Ideal _ .f32) : FVec Ideal _ .f32) := by
    show StableHlo.after hostOps0 _ (Proc.devRef .tc main_v2) = _
    after_results
    rfl
  exact (congrFun e _).trans (g_read _ q)

/-- Window 0's block is the point's residual rows. -/
theorem read0 (t : Fin cfg0.N) (p : Fin 128) (k : Fin 2048) : (iblk m c 0 t (ix2 p k) : EReal)
    = m ((c : Thread nD τ).loc main_arg0) (ix2 ⟨(t.val / 16 * 17 + 1 + t.val % 16) * 128 + p.val, by have := t.isLt; have : cfg0.N = 128 := N_0; omega⟩ k) := by
  obtain ⟨e0, e1, e2, e3, e4⟩ := idx t
  blk_ext [iblk, V, e0]

/-- Window 1's block is the point's rows to project. -/
theorem read1 (t : Fin cfg0.N) (p : Fin 128) (k : Fin 2048) : (iblk m c 1 t (ix2 p k) : EReal)
    = m ((c : Thread nD τ).loc main_arg1) (ix2 ⟨(t.val / 16 * 17 + 1 + t.val % 16) * 128 + p.val, by have := t.isLt; have : cfg0.N = 128 := N_0; omega⟩ k) := by
  obtain ⟨e0, e1, e2, e3, e4⟩ := idx t
  blk_ext [iblk, V, e1]

/-- Window 2's block is the weights. -/
theorem read2 (t : Fin cfg0.N) (p k : Fin 2048) : (iblk m c 2 t (ix2 p k) : EReal) = m ((c : Thread nD τ).loc main_arg2) (ix3 0 p k) := by
  obtain ⟨e0, e1, e2, e3, e4⟩ := idx t
  rw [← V_w m c p k]
  blk_ext [iblk, e2]

/-- Window 3's block is the final norm's weights. -/
theorem read3 (t : Fin cfg0.N) (k : Fin 2048) : (iblk m c 3 t (ix2 0 k) : EReal) = m ((c : Thread nD τ).loc main_arg3) (ix1 k) := by
  obtain ⟨e0, e1, e2, e3, e4⟩ := idx t
  rw [← V_g m c k]
  blk_ext [iblk, e3]

/-- Entry `q` of a result row: the residual row `r` with row `s`'s projection added, normalised. -/
def row (a0 : S17920x2048.Idx → EReal) (a1 : S17408x2048.Idx → EReal) (a2 : S1x2048x2048.Idx → EReal) (a3 : S2048.Idx → EReal)
    (r : Fin 17920) (s : Fin 17408) (q : Fin 2048) : EReal :=
  nrm 0x45000000#32 (fun j => a0 (ix2 r j) + lin (fun k => a1 (ix2 s k)) (fun k => a2 (ix3 0 k j))) (fun k => a3 (ix1 k)) q

/-- The entry of a block, by the arguments. -/
theorem val_eq (t : Fin cfg0.N) (p : Fin 128) (q : Fin 2048) : val (iblk m c 0 t) (iblk m c 1 t) (iblk m c 2 t) (iblk m c 3 t) p q
    = row (m ((c : Thread nD τ).loc main_arg0)) (m ((c : Thread nD τ).loc main_arg1)) (m ((c : Thread nD τ).loc main_arg2)) (m ((c : Thread nD τ).loc main_arg3))
        ⟨(t.val / 16 * 17 + 1 + t.val % 16) * 128 + p.val, by have := t.isLt; have : cfg0.N = 128 := N_0; omega⟩ ⟨(t.val / 16 * 17 + 1 + t.val % 16) * 128 + p.val, by have := t.isLt; have : cfg0.N = 128 := N_0; omega⟩ q := by
  unfold val row
  simp only [read0, read1, read2, read3]

/-- The result array: row `i 1` of batch `i 0` is row `128 + i 1` of the batch's padded rows. -/
def G (a0 : S17920x2048.Idx → EReal) (a1 : S17408x2048.Idx → EReal) (a2 : S1x2048x2048.Idx → EReal) (a3 : S2048.Idx → EReal) (i : S8x2048x2048.Idx) : EReal :=
  row a0 a1 a2 a3 ⟨(i 0).val * 2176 + (128 + (i 1).val), by have : (i 0).val < 8 := (i 0).isLt; have : (i 1).val < 2048 := (i 1).isLt; omega⟩
    ⟨(i 0).val * 2176 + (128 + (i 1).val), by have : (i 0).val < 8 := (i 0).isLt; have : (i 1).val < 2048 := (i 1).isLt; omega⟩ (i 2)

/-- The result array after the run. -/
theorem final : (dats m 0 c).arrAt 4 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := idx t
  rw [after0_4]
  have E0 : ((((cfg0.win 4).blk t).view.emb y) 0).val = t.val / 16 := by
    have y0 : (y 0).val < 1 := lt_of_lt_of_le (y 0).isLt ((cfg0.win 4).xsize_le (cfg0.grid.coords t) (0 : Fin 3))
    blk_simp [e4]
  have E1 : ((((cfg0.win 4).blk t).view.emb y) 1).val = t.val % 16 * 128 + (y 1).val := by blk_simp [e4]
  have E2 : ((((cfg0.win 4).blk t).view.emb y) 2).val = (y 2).val := by blk_simp [e4]
  refine (cast_eq _ _).trans ?_
  refine (out4_eq (iblk m c 0 t) (iblk m c 1 t) (iblk m c 2 t) (iblk m c 3 t) ((cfg0.win 4).xinj (cfg0.grid.coords t) y)).trans ?_
  refine (val_eq m c t _ _).trans ?_
  unfold G
  refine congr (congr (congrArg (row _ _ _ _) (Fin.ext ?_)) (Fin.ext ?_)) (Fin.ext E2.symm)
  · show (t.val / 16 * 17 + 1 + t.val % 16) * 128 + (y 1).val = _ * 2176 + (128 + _)
    rw [E0, E1]; omega
  · show (t.val / 16 * 17 + 1 + t.val % 16) * 128 + (y 1).val = _ * 2176 + (128 + _)
    rw [E0, E1]; omega

end Cert.Kernel4Ideal.Rows

end
-- ==== Proof.Rows.Ref4.lean ====
/- The last output projection and final norm of the prompt rows as the reference computes them. -/
module

public import proofs.«01_k».proof.Defs
public import proofs.«01_k».proof.Proof.Gen.Reference4Ideal.Run
public import proofs.«01_k».proof.Proof.Rows.Ker4
public import Idealize.ShloMosaic.Lib.Pointwise
public import Idealize.ShloMosaic.Adequacy
public import Idealize.ShloMosaic.Init

@[expose] public section

set_option maxRecDepth 16384

noncomputable section

namespace Cert.Reference4Ideal.Rows

open Cert.Reference4Ideal Cert.Reference4Ideal.Gen Idealize.ShloMosaic Idealize.ShloMosaic.TcCoe Idealize.SL.Sem Cert.Rows

open Cert.Kernel4Ideal.Rows (G row)

/-- The residual rows with the projection added. -/
def sumA (a0 : FVec Ideal S17920x2048 .f32) (a1 : FVec Ideal S17408x2048 .bf16) (a2 : FVec Ideal S1x2048x2048 .f32) : FVec Ideal S8x2064x2048 .f32 :=
  addf (extractStridedSlice S8x2064x2048 ![0, 112, 0] (shapeCast S8x2176x2048 (extractStridedSlice S17408x2048 ![0, 0] a0 slices_S17920x2048_S17408x2048_0_0) shapeCasts_S17408x2048_S8x2176x2048) slices_S8x2176x2048_S8x2064x2048_0_112_0) (Host.dotGeneral dot_S8x2064x2048_S2048x2048_S8x2064x2048_2_0_01_1_n_n none (extractStridedSlice S8x2064x2048 ![0, 112, 0] (shapeCast S8x2176x2048 (extf .f32 a1 bitsLt_bf16_f32) shapeCasts_S17408x2048_S8x2176x2048) slices_S8x2176x2048_S8x2064x2048_0_112_0) (shapeCast S2048x2048 a2 shapeCasts_S1x2048x2048_S2048x2048))

/-- The final norm of rows `h`, the meta tokens' rows dropped. -/
def outA (h : FVec Ideal S8x2064x2048 .f32) (a3 : FVec Ideal S2048 .f32) : FVec Ideal S8x2048x2048 .f32 :=
  extractStridedSlice S8x2048x2048 ![0, 16, 0] (mulf (mulf h (broadcastInDim S8x2064x2048 ![0, 1, 2] bcast_S8x2064x1_S8x2064x2048_0_1_2 (Host.rsqrt (addf (Host.divf (broadcastInDim S8x2064x1 ![0, 1] bcast_S8x2064_S8x2064x1_0_1 (Host.reduceAdd (mulf h h) (constant S_ .f32 0x00000000#32) reducesTo_S8x2064x2048_S8x2064_d2 h_S_)) (broadcastInDim S8x2064x1 ![] bcast_S_S8x2064x1 (constant S_ .f32 0x45000000#32))) (broadcastInDim S8x2064x1 ![] bcast_S_S8x2064x1 (constant S_ .f32 0x358637BD#32)))))) (broadcastInDim S8x2064x2048 ![0, 1, 2] bcast_S1x1x2048_S8x2064x2048_0_1_2 (broadcastInDim S1x1x2048 ![2] bcast_S2048_S1x1x2048_2 a3))) slices_S8x2064x2048_S8x2048x2048_0_16_0

/-- The sum at an entry. -/
theorem sumA_eq (a0 : FVec Ideal S17920x2048 .f32) (a1 : FVec Ideal S17408x2048 .bf16) (a2 : FVec Ideal S1x2048x2048 .f32) (b : Fin 8) (p : Fin 2064) (q : Fin 2048) :
    (sumA a0 a1 a2 (ix3 b p q) : EReal) = a0 (ix2 ⟨b.val * 2176 + (112 + p.val), by omega⟩ q)
      + lin (fun k => a1 (ix2 ⟨b.val * 2176 + (112 + p.val), by omega⟩ k)) (fun k => a2 (ix3 0 k q)) := by
  unfold sumA
  pointwise
  rfl

/-- The norm at an entry. -/
theorem outA_eq (h : FVec Ideal S8x2064x2048 .f32) (a3 : FVec Ideal S2048 .f32) (b : Fin 8) (p : Fin 2048) (q : Fin 2048) :
    (outA h a3 (ix3 b p q) : EReal) = nrm 0x45000000#32 (fun k => h (ix3 b ⟨16 + p.val, by omega⟩ k)) (fun k => a3 (ix1 k)) q := by
  unfold outA
  pointwise
  rfl

/-- The reference's result array. -/
theorem out_all (a0 : FVec Ideal S17920x2048 .f32) (a1 : FVec Ideal S17408x2048 .bf16) (a2 : FVec Ideal S1x2048x2048 .f32) (a3 : FVec Ideal S2048 .f32) :
    outA (sumA a0 a1 a2) a3 = G a0 a1 a2 a3 := by
  have key : ∀ (b : Fin 8) (p q : Fin 2048), (outA (sumA a0 a1 a2) a3 (ix3 b p q) : EReal)
      = row a0 a1 a2 a3 ⟨b.val * 2176 + (128 + p.val), by omega⟩ ⟨b.val * 2176 + (128 + p.val), by omega⟩ q := by
    intro b p q
    refine (outA_eq _ _ _ _ _).trans ?_
    unfold row
    refine congrArg (fun f => nrm 0x45000000#32 f (fun k => a3 (ix1 k)) q) (funext fun k => (sumA_eq _ _ _ _ _ _).trans ?_)
    have e : (⟨b.val * 2176 + (112 + (16 + p.val)), by omega⟩ : Fin 17920) = ⟨b.val * 2176 + (128 + p.val), by omega⟩ := Fin.ext (by show b.val * 2176 + (112 + (16 + p.val)) = b.val * 2176 + (128 + p.val); omega)
    have e' : (⟨b.val * 2176 + (112 + (16 + p.val)), by omega⟩ : Fin 17408) = ⟨b.val * 2176 + (128 + p.val), by omega⟩ := Fin.ext (by show b.val * 2176 + (112 + (16 + p.val)) = b.val * 2176 + (128 + p.val); omega)
    exact congrArg₂ (fun (x : Fin 17920) (y : Fin 17408) => a0 (ix2 x k) + lin (fun l => a1 (ix2 y l)) (fun l => a2 (ix3 0 l k))) e e'
  funext i; rw [eq_ix3 i]
  exact key (i 0) (i 1) (i 2)

/-- Kernel and reference end with the same array. -/
theorem algebraic : Cert.algebraic_Kernel4Ideal_Reference4Ideal := by
  intro m g m' g' hpre hargs
  refine ⟨fun c => G (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)),
    (θ_run _ _ _).mono (fun r h c => ?_) (Cert.Kernel4Ideal.Value.run_blocks m g),
    (θ_run _ _ _).mono (fun r h c => ?_) (Cert.Reference4Ideal.Value.run m' g')⟩
  · exact ⟨(h c).1.trans (Cert.Kernel4Ideal.Rows.final m c), (h c).2⟩
  · obtain ⟨e0, e1, e2, e3⟩ := hargs c
    refine ⟨(h c).1.trans ((out_all _ _ _ _ ).trans ?_), (h c).2⟩
    rw [e0, e1, e2, e3]

/-- The reference's frame, from its run. -/
theorem frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

end Cert.Reference4Ideal.Rows

end
-- ==== Proof.Rows.Ker5.lean ====
/- The last output projection, residual and final norm of the sample rows. -/
module

public import proofs.«01_k».proof.Proof.Gen.Kernel5Ideal.Value
public import proofs.«01_k».proof.Proof.Rows.Row
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel5Ideal.Rows

open Cert.Kernel5Ideal Cert.Kernel5Ideal.Gen Idealize.ShloMosaic Idealize.ShloMosaic.TcCoe Idealize.SL.Sem Cert.Rows

/-- One entry of a result block: the row with its projection added, normalised. -/
def val (x0 : Vec Ideal S128x2048 .f32) (x1 : Vec Ideal S128x2048 .bf16) (x2 : Vec Ideal S2048x2048 .bf16) (x3 : Vec Ideal S1x2048 .f32) (p : Fin 128) (q : Fin 2048) : EReal :=
  nrm 0x45000000#32 (fun j => x0 (ix2 p j) + lin (fun k => x1 (ix2 p k)) (fun k => x2 (ix2 k j))) (fun k => x3 (ix2 0 k)) q

/-- The body's stored block at an entry. -/
theorem pay_eq (x0 : Vec Ideal S128x2048 .f32) (x1 : Vec Ideal S128x2048 .bf16) (x2 : Vec Ideal S2048x2048 .bf16) (x3 : Vec Ideal S1x2048 .f32) (p : Fin 128) (q : Fin 2048) :
    (k0_pay1 (View.ld x0 r0_0) (View.ld x1 r0_0) (View.ld x2 r0_1) (View.ld x3 r0_2) (ix2 p q) : EReal) = val x0 x1 x2 x3 p q := by
  pointwise [k0_pay1]
  rfl

/-- What the body leaves in the result window. -/
theorem out4_eq (x0 : Vec Ideal S128x2048 .f32) (x1 : Vec Ideal S128x2048 .bf16) (x2 : Vec Ideal S2048x2048 .bf16) (x3 : Vec Ideal S1x2048 .f32) (y : S128x2048.Idx) :
    (out0_4 x0 x1 x2 x3 y : EReal) = val x0 x1 x2 x3 (y 0) (y 1) := by
  unfold out0_4
  canon_tiles x h using View.cover_of_tiledBy _ ![128, 2048] (by sl_kernel_rfl) _
  have e := pay_eq x0 x1 x2 x3 (x 0) (x 1)
  rw [← eq_ix2 x] at e
  exact e.trans (congrArg₂ (val x0 x1 x2 x3) (Fin.ext h0.symm) (Fin.ext h1.symm))

variable (m : (ℓ : Loc nD τ sig) → Buf (Elt Ideal) ℓ) (c : Dev nD)

/-- The index maps. -/
theorem idx : ∀ t : Fin grid0.N, win0_0.index t = ![136 + t.val, 0] ∧ win0_1.index t = ![t.val, 0]
    ∧ win0_2.index t = ![0, 0] ∧ win0_3.index t = ![0, 0] ∧ win0_4.index t = ![t.val, 0] := by decide +kernel

/-- The projection's weights, at an entry. -/
theorem w_read (a : FVec Ideal S1x2048x2048 .f32) (p q : Fin 2048) :
    (truncf .bf16 (shapeCast S2048x2048 a shapeCasts_S1x2048x2048_S2048x2048) bitsLt_bf16_f32 (ix2 p q) : EReal) = a (ix3 0 p q) := by
  pointwise

/-- The projection's weights, as the region finds it. -/
theorem V_w (p q : Fin 2048) : (V m c main_v1 (ix2 p q) : EReal) = m ((c : Thread nD τ).loc main_arg2) (ix3 0 p q) := by
  have e : V m c main_v1 = (truncf .bf16 ((shapeCast S2048x2048 (m ((c : Thread nD τ).loc main_arg2)) shapeCasts_S1x2048x2048_S2048x2048 : FVec Ideal _ .f32)) bitsLt_bf16_f32 : FVec Ideal _ .bf16) := by
    show StableHlo.after hostOps0 _ (Proc.devRef .tc main_v1) = _
    after_results
    rfl
  exact (congrFun e _).trans (w_read _ p q)

/-- The final norm's weights, at an entry. -/
theorem g_read (a : FVec Ideal S2048 .f32) (q : Fin 2048) :
    (shapeCast S1x2048 a shapeCasts_S2048_S1x2048 (ix2 0 q) : EReal) = a (ix1 q) := by
  pointwise

/-- The final norm's weights, as the region finds it. -/
theorem V_g (q : Fin 2048) : (V m c main_v2 (ix2 0 q) : EReal) = m ((c : Thread nD τ).loc main_arg3) (ix1 q) := by
  have e : V m c main_v2 = ((shapeCast S1x2048 (m ((c : Thread nD τ).loc main_arg3)) shapeCasts_S2048_S1x2048 : FVec Ideal _ .f32) : FVec Ideal _ .f32) := by
    show StableHlo.after hostOps0 _ (Proc.devRef .tc main_v2) = _
    after_results
    rfl
  exact (congrFun e _).trans (g_read _ q)

/-- Window 0's block is the point's residual rows. -/
theorem read0 (t : Fin cfg0.N) (p : Fin 128) (k : Fin 2048) : (iblk m c 0 t (ix2 p k) : EReal)
    = m ((c : Thread nD τ).loc main_arg0) (ix2 ⟨(136 + t.val) * 128 + p.val, by have := t.isLt; have : cfg0.N = 4 := N_0; omega⟩ k) := by
  obtain ⟨e0, e1, e2, e3, e4⟩ := idx t
  blk_ext [iblk, V, e0]

/-- Window 1's block is the point's rows to project. -/
theorem read1 (t : Fin cfg0.N) (p : Fin 128) (k : Fin 2048) : (iblk m c 1 t (ix2 p k) : EReal)
    = m ((c : Thread nD τ).loc main_arg1) (ix2 ⟨t.val * 128 + p.val, by have := t.isLt; have : cfg0.N = 4 := N_0; omega⟩ k) := by
  obtain ⟨e0, e1, e2, e3, e4⟩ := idx t
  blk_ext [iblk, V, e1]

/-- Window 2's block is the weights. -/
theorem read2 (t : Fin cfg0.N) (p k : Fin 2048) : (iblk m c 2 t (ix2 p k) : EReal) = m ((c : Thread nD τ).loc main_arg2) (ix3 0 p k) := by
  obtain ⟨e0, e1, e2, e3, e4⟩ := idx t
  rw [← V_w m c p k]
  blk_ext [iblk, e2]

/-- Window 3's block is the final norm's weights. -/
theorem read3 (t : Fin cfg0.N) (k : Fin 2048) : (iblk m c 3 t (ix2 0 k) : EReal) = m ((c : Thread nD τ).loc main_arg3) (ix1 k) := by
  obtain ⟨e0, e1, e2, e3, e4⟩ := idx t
  rw [← V_g m c k]
  blk_ext [iblk, e3]

/-- Entry `q` of a result row: the residual row `r` with row `s`'s projection added, normalised. -/
def row (a0 : S17920x2048.Idx → EReal) (a1 : S512x2048.Idx → EReal) (a2 : S1x2048x2048.Idx → EReal) (a3 : S2048.Idx → EReal)
    (r : Fin 17920) (s : Fin 512) (q : Fin 2048) : EReal :=
  nrm 0x45000000#32 (fun j => a0 (ix2 r j) + lin (fun k => a1 (ix2 s k)) (fun k => a2 (ix3 0 k j))) (fun k => a3 (ix1 k)) q

/-- The entry of a block, by the arguments. -/
theorem val_eq (t : Fin cfg0.N) (p : Fin 128) (q : Fin 2048) : val (iblk m c 0 t) (iblk m c 1 t) (iblk m c 2 t) (iblk m c 3 t) p q
    = row (m ((c : Thread nD τ).loc main_arg0)) (m ((c : Thread nD τ).loc main_arg1)) (m ((c : Thread nD τ).loc main_arg2)) (m ((c : Thread nD τ).loc main_arg3))
        ⟨(136 + t.val) * 128 + p.val, by have := t.isLt; have : cfg0.N = 4 := N_0; omega⟩ ⟨t.val * 128 + p.val, by have := t.isLt; have : cfg0.N = 4 := N_0; omega⟩ q := by
  unfold val row
  simp only [read0, read1, read2, read3]

/-- The result array: sample row `i 0` is row `17408 + i 0` of the rows. -/
def G (a0 : S17920x2048.Idx → EReal) (a1 : S512x2048.Idx → EReal) (a2 : S1x2048x2048.Idx → EReal) (a3 : S2048.Idx → EReal) (i : S512x2048.Idx) : EReal :=
  row a0 a1 a2 a3 ⟨17408 + (i 0).val, by have : (i 0).val < 512 := (i 0).isLt; omega⟩ (i 0) (i 1)

/-- The result array after the run. -/
theorem final : (dats m 0 c).arrAt 4 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := idx t
  rw [after0_4]
  have E0 : ((((cfg0.win 4).blk t).view.emb y) 0).val = t.val * 128 + (y 0).val := by blk_simp [e4]
  have E1 : ((((cfg0.win 4).blk t).view.emb y) 1).val = (y 1).val := by blk_simp [e4]
  refine (cast_eq _ _).trans ?_
  refine (out4_eq (iblk m c 0 t) (iblk m c 1 t) (iblk m c 2 t) (iblk m c 3 t) ((cfg0.win 4).xinj (cfg0.grid.coords t) y)).trans ?_
  refine (val_eq m c t _ _).trans ?_
  unfold G
  refine congr (congr (congrArg (row _ _ _ _) (Fin.ext ?_)) (Fin.ext E0.symm)) (Fin.ext E1.symm)
  show (136 + t.val) * 128 + (y 0).val = 17408 + _
  rw [E0]; omega

end Cert.Kernel5Ideal.Rows

end
-- ==== Proof.Rows.Ref5.lean ====
/- The last output projection and final norm of the sample rows as the reference computes them. -/
module

public import proofs.«01_k».proof.Defs
public import proofs.«01_k».proof.Proof.Gen.Reference5Ideal.Run
public import proofs.«01_k».proof.Proof.Rows.Ker5
public import Idealize.ShloMosaic.Lib.Pointwise
public import Idealize.ShloMosaic.Adequacy
public import Idealize.ShloMosaic.Init

@[expose] public section

set_option maxRecDepth 16384

noncomputable section

namespace Cert.Reference5Ideal.Rows

open Cert.Reference5Ideal Cert.Reference5Ideal.Gen Idealize.ShloMosaic Idealize.ShloMosaic.TcCoe Idealize.SL.Sem Cert.Rows

open Cert.Kernel5Ideal.Rows (G row)

/-- The residual rows with the projection added. -/
def sumA (a0 : FVec Ideal S17920x2048 .f32) (a1 : FVec Ideal S512x2048 .bf16) (a2 : FVec Ideal S1x2048x2048 .f32) : FVec Ideal S512x2048 .f32 :=
  addf (extractStridedSlice S512x2048 ![17408, 0] a0 slices_S17920x2048_S512x2048_17408_0) (Host.dotGeneral dot_S512x2048_S2048x2048_S512x2048_1_0_0_1_n_n none (extf .f32 a1 bitsLt_bf16_f32) (shapeCast S2048x2048 a2 shapeCasts_S1x2048x2048_S2048x2048))

/-- The final norm of rows `h`. -/
def outA (h : FVec Ideal S512x2048 .f32) (a3 : FVec Ideal S2048 .f32) : FVec Ideal S512x2048 .f32 :=
  mulf (mulf h (broadcastInDim S512x2048 ![0, 1] bcast_S512x1_S512x2048_0_1 (Host.rsqrt (addf (Host.divf (broadcastInDim S512x1 ![0] bcast_S512_S512x1_0 (Host.reduceAdd (mulf h h) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 a3))

/-- The sum at an entry. -/
theorem sumA_eq (a0 : FVec Ideal S17920x2048 .f32) (a1 : FVec Ideal S512x2048 .bf16) (a2 : FVec Ideal S1x2048x2048 .f32) (p : Fin 512) (q : Fin 2048) :
    (sumA a0 a1 a2 (ix2 p q) : EReal) = a0 (ix2 ⟨17408 + p.val, by omega⟩ q)
      + lin (fun k => a1 (ix2 p k)) (fun k => a2 (ix3 0 k q)) := by
  unfold sumA
  pointwise
  rfl

/-- The norm at an entry. -/
theorem outA_eq (h : FVec Ideal S512x2048 .f32) (a3 : FVec Ideal S2048 .f32) (p : Fin 512) (q : Fin 2048) :
    (outA h a3 (ix2 p q) : EReal) = nrm 0x45000000#32 (fun k => h (ix2 p k)) (fun k => a3 (ix1 k)) q := by
  unfold outA
  pointwise
  rfl

/-- The reference's result array. -/
theorem out_all (a0 : FVec Ideal S17920x2048 .f32) (a1 : FVec Ideal S512x2048 .bf16) (a2 : FVec Ideal S1x2048x2048 .f32) (a3 : FVec Ideal S2048 .f32) :
    outA (sumA a0 a1 a2) a3 = G a0 a1 a2 a3 := by
  funext i; rw [eq_ix2 i]
  exact (outA_eq _ _ _ _).trans (congrArg (fun f => nrm _ f _ _) (funext fun k => sumA_eq _ _ _ _ _))

/-- Kernel and reference end with the same array. -/
theorem algebraic : Cert.algebraic_Kernel5Ideal_Reference5Ideal := by
  intro m g m' g' hpre hargs
  refine ⟨fun c => G (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)),
    (θ_run _ _ _).mono (fun r h c => ?_) (Cert.Kernel5Ideal.Value.run_blocks m g),
    (θ_run _ _ _).mono (fun r h c => ?_) (Cert.Reference5Ideal.Value.run m' g')⟩
  · exact ⟨(h c).1.trans (Cert.Kernel5Ideal.Rows.final m c), (h c).2⟩
  · obtain ⟨e0, e1, e2, e3⟩ := hargs c
    refine ⟨(h c).1.trans ((out_all _ _ _ _ ).trans ?_), (h c).2⟩
    rw [e0, e1, e2, e3]

/-- The reference's frame, from its run. -/
theorem frame : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

end Cert.Reference5Ideal.Rows

end
-- ==== Proof.Rows.Ker6.lean ====
/- The first layer's output projection added to the layer's rows. -/
module

public import proofs.«01_k».proof.Proof.Rows.Padded
public import proofs.«01_k».proof.Proof.Rows.Row
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel6Ideal.Rows

open Cert.Kernel6Ideal Cert.Kernel6Ideal.Gen Idealize.ShloMosaic Idealize.ShloMosaic.TcCoe Idealize.SL.Sem Cert.Rows

/-- One entry of a result block: the row's entry and its projection. -/
def val (x0 : Vec Ideal S512x2048 .f32) (x1 : Vec Ideal S512x2048 .bf16) (x3 : Vec Ideal S2048x2048 .bf16) (p : Fin 512) (q : Fin 2048) : EReal := x0 (ix2 p q) + lin (fun k => x1 (ix2 p k)) (fun k => x3 (ix2 k q))

/-- The stored block of a prompt point at an entry. -/
theorem pay1_eq (x0 : Vec Ideal S512x2048 .f32) (x1 : Vec Ideal S512x2048 .bf16) (x3 : Vec Ideal S2048x2048 .bf16) (p : Fin 512) (q : Fin 2048) : (k0_pay1 x0 x1 x3 (ix2 p q) : EReal) = val x0 x1 x3 p q := by
  pointwise [k0_pay1]
  rfl

/-- The stored block of the sample point at an entry. -/
theorem pay2_eq (x0 : Vec Ideal S512x2048 .f32) (x1 : Vec Ideal S512x2048 .bf16) (x3 : Vec Ideal S2048x2048 .bf16) (p : Fin 512) (q : Fin 2048) : (k0_pay2 x0 x1 x3 (ix2 p q) : EReal) = val x0 x1 x3 p q := pay1_eq x0 x1 x3 p q

/-- What a prompt point leaves in the result window. -/
theorem outA_eq (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (hc0 : cond0_0 i) (hc1 : ¬cond0_1 i)
    (x0 : Vec Ideal S512x2048 .f32) (x1 : Vec Ideal S512x2048 .bf16) (x2 : Vec Ideal S512x2048 .bf16) (x3 : Vec Ideal S2048x2048 .bf16) (y : S512x2048.Idx) :
    (out0_A_4 c i arg1 harg1 arg2 harg2 arg3 harg3 arg4 harg4 arg5 harg5 hc0 hc1 x0 x1 x2 x3 y : EReal) = val x0 x1 x3 (y 0) (y 1) := by
  frame_out
  have e := pay1_eq x0 x1 x3 (y 0) (y 1)
  rw [← eq_ix2 y] at e
  exact e

/-- What a sample point leaves in the result window. -/
theorem outB_eq (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (hc0 : ¬cond0_0 i) (hc1 : cond0_1 i)
    (x0 : Vec Ideal S512x2048 .f32) (x1 : Vec Ideal S512x2048 .bf16) (x2 : Vec Ideal S512x2048 .bf16) (x3 : Vec Ideal S2048x2048 .bf16) (y : S512x2048.Idx) :
    (out0_B_4 c i arg1 harg1 arg2 harg2 arg3 harg3 arg4 harg4 arg5 harg5 hc0 hc1 x0 x1 x2 x3 y : EReal) = val x0 x2 x3 (y 0) (y 1) := by
  frame_out
  have e := pay2_eq x0 x2 x3 (y 0) (y 1)
  rw [← eq_ix2 y] at e
  exact e

variable (m : (ℓ : Loc nD τ sig) → Buf (Elt Ideal) ℓ) (c : Dev nD)

/-- The index maps: the prompt's rows stop at block 33, the sample rows are read from block 34 on. -/
theorem idx : ∀ t : Fin grid0.N, win0_0.index t = ![t.val, 0] ∧ win0_1.index t = ![min t.val 33, 0]
    ∧ win0_2.index t = ![t.val - 34, 0] ∧ win0_3.index t = ![0, 0] ∧ win0_4.index t = ![t.val, 0] := by decide +kernel

/-- The projection's weights, at an entry. -/
theorem w_read (a : FVec Ideal S1x2048x2048 .f32) (p q : Fin 2048) :
    (truncf .bf16 (shapeCast S2048x2048 a shapeCasts_S1x2048x2048_S2048x2048) bitsLt_bf16_f32 (ix2 p q) : EReal) = a (ix3 0 p q) := by
  pointwise

/-- The projection's weights, as the region finds it. -/
theorem V_w (p q : Fin 2048) : (V m c main_v22 (ix2 p q) : EReal) = m ((c : Thread nD τ).loc main_arg5) (ix3 0 p q) := by
  have e : V m c main_v22 = (truncf .bf16 ((shapeCast S2048x2048 (m ((c : Thread nD τ).loc main_arg5)) shapeCasts_S1x2048x2048_S2048x2048 : FVec Ideal _ .f32)) bitsLt_bf16_f32 : FVec Ideal _ .bf16) := by
    show StableHlo.after hostOps0 _ (Proc.devRef .tc main_v22) = _
    after_results
    rfl
  exact (congrFun e _).trans (w_read _ p q)

/-- The padded rows, as the region finds them. -/
theorem V_rows (r : Fin 17920) (k : Fin 2048) : (V m c main_v20 (ix2 r k) : EReal) = input (m ((c : Thread nD τ).loc main_arg0)) (m ((c : Thread nD τ).loc main_arg1)) (m ((c : Thread nD τ).loc main_arg2)) r k := by
  have e : V m c main_v20 = padded (m ((c : Thread nD τ).loc main_arg0)) (m ((c : Thread nD τ).loc main_arg1)) (m ((c : Thread nD τ).loc main_arg2)) := by
    show StableHlo.after hostOps0 _ (Proc.devRef .tc main_v20) = _
    after_results
    rfl
  exact (congrFun e _).trans (padded_eq _ _ _ r k)

/-- Window 0's block is the point's rows. -/
theorem read0 (t : Fin cfg0.N) (p : Fin 512) (k : Fin 2048) : (iblk m c 0 t (ix2 p k) : EReal)
    = input (m ((c : Thread nD τ).loc main_arg0)) (m ((c : Thread nD τ).loc main_arg1)) (m ((c : Thread nD τ).loc main_arg2)) ⟨t.val * 512 + p.val, by have := t.isLt; have : cfg0.N = 35 := N_0; omega⟩ k := by
  obtain ⟨e0, e1, e2, e3, e4⟩ := idx t
  rw [← V_rows m c _ k]
  blk_ext [iblk, e0]

/-- Window 1's block at a prompt point is the point's rows to project. -/
theorem read1 (t : Fin cfg0.N) (ht : t.val < 34) (p : Fin 512) (k : Fin 2048) : (iblk m c 1 t (ix2 p k) : EReal)
    = m ((c : Thread nD τ).loc main_arg3) (ix2 ⟨t.val * 512 + p.val, by omega⟩ k) := by
  obtain ⟨e0, e1, e2, e3, e4⟩ := idx t
  rw [Nat.min_eq_left (by omega : t.val ≤ 33)] at e1
  blk_ext [iblk, V, e1]

/-- Window 2's block at the sample point is the sample rows to project. -/
theorem read2 (t : Fin cfg0.N) (p : Fin 512) (k : Fin 2048) : (iblk m c 2 t (ix2 p k) : EReal)
    = m ((c : Thread nD τ).loc main_arg4) (ix2 p k) := by
  obtain ⟨e0, e1, e2, e3, e4⟩ := idx t
  have hz : t.val - 34 = 0 := by have := t.isLt; have : cfg0.N = 35 := N_0; omega
  rw [hz] at e2
  blk_ext [iblk, V, e2]

/-- Window 3's block is the weights. -/
theorem read3 (t : Fin cfg0.N) (p k : Fin 2048) : (iblk m c 3 t (ix2 p k) : EReal) = m ((c : Thread nD τ).loc main_arg5) (ix3 0 p k) := by
  obtain ⟨e0, e1, e2, e3, e4⟩ := idx t
  rw [← V_w m c p k]
  blk_ext [iblk, e3]

/-- The row to project: a prompt row or a sample row. -/
def gated (a3 : S17408x2048.Idx → EReal) (a4 : S512x2048.Idx → EReal) (r : Fin 17920) (k : Fin 2048) : EReal :=
  if h : r.val < 17408 then a3 (ix2 ⟨r.val, h⟩ k) else a4 (ix2 ⟨r.val - 17408, by omega⟩ k)

/-- The result array. -/
def G (a0 : S8x2048x2048.Idx → EReal) (a1 : S128x4x2048.Idx → EReal) (a2 : S16x2048.Idx → EReal) (a3 : S17408x2048.Idx → EReal)
    (a4 : S512x2048.Idx → EReal) (a5 : S1x2048x2048.Idx → EReal) (r : Fin 17920) (q : Fin 2048) : EReal :=
  input a0 a1 a2 r q + lin (gated a3 a4 r) (fun k => a5 (ix3 0 k q))

/-- The entry of a prompt point's block, by the arguments. -/
theorem valA_eq (t : Fin cfg0.N) (ht : t.val < 34) (p : Fin 512) (q : Fin 2048) : val (iblk m c 0 t) (iblk m c 1 t) (iblk m c 3 t) p q
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + p.val, by omega⟩ q := by
  unfold val G
  rw [read0]
  refine congrArg (_ + ·) (Finset.sum_congr rfl fun k _ => ?_)
  refine congrArg₂ (· * ·) ((read1 m c t ht p k).trans ?_) (read3 m c t k q)
  unfold gated
  rw [dif_pos (by show t.val * 512 + p.val < 17408; omega)]

/-- The entry of the sample point's block, by the arguments. -/
theorem valB_eq (t : Fin cfg0.N) (ht : t.val = 34) (p : Fin 512) (q : Fin 2048) : val (iblk m c 0 t) (iblk m c 2 t) (iblk m c 3 t) p q
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + p.val, by omega⟩ q := by
  unfold val G
  rw [read0]
  refine congrArg (_ + ·) (Finset.sum_congr rfl fun k _ => ?_)
  refine congrArg₂ (· * ·) ((read2 m c t p k).trans ?_) (read3 m c t k q)
  unfold gated
  rw [dif_neg (by show ¬ t.val * 512 + p.val < 17408; omega)]
  exact congrArg (fun s => m ((c : Thread nD τ).loc main_arg4) (ix2 s k)) (Fin.ext (by show p.val = t.val * 512 + p.val - 17408; omega))

/-- The result array after the run. -/
theorem final : (dats m 0 c).arrAt 4 cfg0.N = fun i : S17920x2048.Idx => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 4 _ (by decide +kernel) fun t hf y => ?_
  obtain ⟨e0, e1, e2, e3, e4⟩ := idx t
  rw [after0_4]
  have E0 : ((((cfg0.win 4).blk t).view.emb y) 0).val = t.val * 512 + (y 0).val := by blk_simp [e4]
  have E1 : ((((cfg0.win 4).blk t).view.emb y) 1).val = (y 1).val := by blk_simp [e4]
  refine (cast_eq _ _).trans ?_
  have hN := t.isLt
  have hN' : cfg0.grid.N = 35 := N_0
  by_cases h0 : t.val < 34
  · rw [outsAt0_A m c t h0 (by omega)]
    refine (outA_eq _ _ _ _ _ _ _ _ _ _ _ _ _ _ (iblk m c 0 t) (iblk m c 1 t) (iblk m c 2 t) (iblk m c 3 t) ((cfg0.win 4).xinj (cfg0.grid.coords t) y)).trans ?_
    refine (valA_eq m c t h0 _ _).trans ?_
    exact congrArg₂ (G _ _ _ _ _ _) (Fin.ext E0.symm) (Fin.ext E1.symm)
  · rw [outsAt0_B m c t h0 (by omega)]
    refine (outB_eq _ _ _ _ _ _ _ _ _ _ _ _ _ _ (iblk m c 0 t) (iblk m c 1 t) (iblk m c 2 t) (iblk m c 3 t) ((cfg0.win 4).xinj (cfg0.grid.coords t) y)).trans ?_
    refine (valB_eq m c t (by omega) _ _).trans ?_
    exact congrArg₂ (G _ _ _ _ _ _) (Fin.ext E0.symm) (Fin.ext E1.symm)

end Cert.Kernel6Ideal.Rows

end
-- ==== Proof.Rows.Ref6.lean ====
/- The first layer's output projection added to the layer's rows as the reference computes it. -/
module

public import proofs.«01_k».proof.Defs
public import proofs.«01_k».proof.Proof.Gen.Reference6Ideal.Run
public import proofs.«01_k».proof.Proof.Rows.Ker6
public import Idealize.ShloMosaic.Lib.Pointwise
public import Idealize.ShloMosaic.Adequacy
public import Idealize.ShloMosaic.Init

@[expose] public section

set_option maxRecDepth 16384

noncomputable section

namespace Cert.Reference6Ideal.Rows

open Cert.Reference6Ideal Cert.Reference6Ideal.Gen Idealize.ShloMosaic Idealize.ShloMosaic.TcCoe Idealize.SL.Sem Cert.Rows

open Cert.Kernel6Ideal.Rows (G gated)

/-- The prompt rows with their meta tokens, padded. -/
def rowsA (a0 : FVec Ideal S8x2048x2048 .f32) (a2 : FVec Ideal S16x2048 .f32) : FVec Ideal S8x2176x2048 .f32 :=
  pad S8x2176x2048 ![0, 112, 0] ![0, 0, 0] ![0, 0, 0] (concatenate S8x2064x2048 1 [⟨S8x16x2048, (broadcastInDim S8x16x2048 ![0, 1, 2] bcast_S1x16x2048_S8x16x2048_0_1_2 (broadcastInDim S1x16x2048 ![1, 2] bcast_S16x2048_S1x16x2048_1_2 a2))⟩, ⟨S8x2048x2048, a0⟩] concatenates_S8x16x2048_S8x2048x2048_S8x2064x2048_d1) (sitofp .f32 (constantI S_ 32 0#32)) pads_S8x2064x2048_S8x2176x2048_000_11200_000 h_S_

/-- Prompt rows and sample rows under one another. -/
def joinA (x : FVec Ideal S8x2176x2048 .f32) (y : FVec Ideal S128x4x2048 .f32) : FVec Ideal S17920x2048 .f32 :=
  concatenate S17920x2048 0 [⟨S17408x2048, (shapeCast S17408x2048 x shapeCasts_S8x2176x2048_S17408x2048)⟩, ⟨S512x2048, (shapeCast S512x2048 y shapeCasts_S128x4x2048_S512x2048)⟩] concatenates_S17408x2048_S512x2048_S17920x2048_d0

/-- The prompt rows with the projection added. -/
def promptA (x : FVec Ideal S8x2176x2048 .f32) (a3 : FVec Ideal S17408x2048 .bf16) (a5 : FVec Ideal S1x2048x2048 .f32) : FVec Ideal S8x2176x2048 .f32 :=
  addf x (Host.dotGeneral dot_S8x2176x2048_S2048x2048_S8x2176x2048_2_0_01_1_n_n none (shapeCast S8x2176x2048 (extf .f32 a3 bitsLt_bf16_f32) shapeCasts_S17408x2048_S8x2176x2048) (shapeCast S2048x2048 a5 shapeCasts_S1x2048x2048_S2048x2048))

/-- The sample rows with the projection added. -/
def sampleA (a1 : FVec Ideal S128x4x2048 .f32) (a4 : FVec Ideal S512x2048 .bf16) (a5 : FVec Ideal S1x2048x2048 .f32) : FVec Ideal S128x4x2048 .f32 :=
  addf a1 (Host.dotGeneral dot_S128x4x2048_S2048x2048_S128x4x2048_2_0_01_1_n_n none (shapeCast S128x4x2048 (extf .f32 a4 bitsLt_bf16_f32) shapeCasts_S512x2048_S128x4x2048) (shapeCast S2048x2048 a5 shapeCasts_S1x2048x2048_S2048x2048))

/-- The padded prompt rows at an entry. -/
theorem rowsA_eq (a0 : FVec Ideal S8x2048x2048 .f32) (a2 : FVec Ideal S16x2048 .f32) (b : Fin 8) (p : Fin 2176) (k : Fin 2048) :
    (rowsA a0 a2 (ix3 b p k) : EReal) = prompt a0 a2 (b.val * 2176 + p.val) k := by
  unfold rowsA
  pointwise
  have e : (b.val * 2176 + p.val) % 2176 = p.val := by omega
  have e' : (b.val * 2176 + p.val) / 2176 = b.val := by omega
  by_cases h : 112 ≤ p.val
  · rw [dif_pos ⟨h, by omega⟩]
    by_cases h' : p.val - 112 < 16
    · rw [dif_pos h']
      exact (prompt_meta a0 a2 _ k ⟨p.val - 112, h'⟩ (by omega) (by show _ = 112 + (p.val - 112); omega)).symm
    · rw [dif_neg h']
      exact (prompt_tok a0 a2 _ k b ⟨p.val - 112 - 16, by omega⟩ e' (by show _ = 128 + (p.val - 112 - 16); omega)).symm
  · rw [dif_neg (fun hc => h hc.1), prompt_zero a0 a2 _ k (by omega)]
    simp [FloatOps.sitofp]

/-- The prompt rows' sum at an entry. -/
theorem promptA_eq (x : FVec Ideal S8x2176x2048 .f32) (a3 : FVec Ideal S17408x2048 .bf16) (a5 : FVec Ideal S1x2048x2048 .f32) (b : Fin 8) (p : Fin 2176) (q : Fin 2048) :
    (promptA x a3 a5 (ix3 b p q) : EReal) = x (ix3 b p q) + lin (fun k => a3 (ix2 ⟨b.val * 2176 + p.val, by omega⟩ k)) (fun k => a5 (ix3 0 k q)) := by
  unfold promptA
  pointwise
  rfl

/-- The sample rows' sum at an entry. -/
theorem sampleA_eq (a1 : FVec Ideal S128x4x2048 .f32) (a4 : FVec Ideal S512x2048 .bf16) (a5 : FVec Ideal S1x2048x2048 .f32) (b : Fin 128) (p : Fin 4) (q : Fin 2048) :
    (sampleA a1 a4 a5 (ix3 b p q) : EReal) = a1 (ix3 b p q) + lin (fun k => a4 (ix2 ⟨b.val * 4 + p.val, by omega⟩ k)) (fun k => a5 (ix3 0 k q)) := by
  unfold sampleA
  pointwise
  rfl

/-- The joined rows at an entry. -/
theorem joinA_eq (x : FVec Ideal S8x2176x2048 .f32) (y : FVec Ideal S128x4x2048 .f32) (r : Fin 17920) (q : Fin 2048) :
    (joinA x y (ix2 r q) : EReal) = if h : r.val < 17408 then x (ix3 ⟨r.val / 2176, by omega⟩ ⟨r.val % 2176, by omega⟩ q)
      else y (ix3 ⟨(r.val - 17408) / 4, by omega⟩ ⟨(r.val - 17408) % 4, by omega⟩ q) := by
  unfold joinA
  pointwise

/-- The reference's result array. -/
theorem out_all (a0 : FVec Ideal S8x2048x2048 .f32) (a1 : FVec Ideal S128x4x2048 .f32) (a2 : FVec Ideal S16x2048 .f32) (a3 : FVec Ideal S17408x2048 .bf16) (a4 : FVec Ideal S512x2048 .bf16) (a5 : FVec Ideal S1x2048x2048 .f32) :
    joinA (promptA (rowsA a0 a2) a3 a5) (sampleA a1 a4 a5) = fun i : S17920x2048.Idx => G a0 a1 a2 a3 a4 a5 (i 0) (i 1) := by
  have key : ∀ (r : Fin 17920) (q : Fin 2048), (joinA (promptA (rowsA a0 a2) a3 a5) (sampleA a1 a4 a5) (ix2 r q) : EReal) = G a0 a1 a2 a3 a4 a5 r q := by
    intro r q
    rw [joinA_eq]
    unfold G input
    by_cases h : r.val < 17408
    · have e : r.val / 2176 * 2176 + r.val % 2176 = r.val := by omega
      rw [dif_pos h, if_pos h, promptA_eq, rowsA_eq]
      refine congrArg₂ (· + ·) (congrArg (fun s => prompt a0 a2 s q) e) (Finset.sum_congr rfl fun k _ => ?_)
      unfold gated
      rw [dif_pos h]
      exact congrArg (fun s => a3 (ix2 s k) * _) (Fin.ext e)
    · have e : (r.val - 17408) / 4 * 4 + (r.val - 17408) % 4 = r.val - 17408 := by omega
      rw [dif_neg h, if_neg h, sampleA_eq]
      refine congrArg (_ + ·) (Finset.sum_congr rfl fun k _ => ?_)
      unfold gated
      rw [dif_neg h]
      exact congrArg (fun s => a4 (ix2 s k) * _) (Fin.ext e)
  funext i
  rw [eq_ix2 i]
  exact key (i 0) (i 1)

/-- Kernel and reference end with the same array. -/
theorem algebraic : Cert.algebraic_Kernel6Ideal_Reference6Ideal := by
  intro m g m' g' hpre hargs
  refine ⟨fun c => fun i : Cert.Kernel6Ideal.S17920x2048.Idx => G (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)) (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg5)) (i 0) (i 1),
    (θ_run _ _ _).mono (fun r h c => ?_) (Cert.Kernel6Ideal.Value.run_blocks m g),
    (θ_run _ _ _).mono (fun r h c => ?_) (Cert.Reference6Ideal.Value.run m' g')⟩
  · exact ⟨(h c).1.trans (Cert.Kernel6Ideal.Rows.final m c), (h c).2⟩
  · obtain ⟨e0, e1, e2, e3, e4, e5⟩ := hargs c
    refine ⟨(h c).1.trans ((out_all _ _ _ _ _ _ ).trans ?_), (h c).2⟩
    rw [e0, e1, e2, e3, e4, e5]

/-- The reference's frame, from its run. -/
theorem frame : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

end Cert.Reference6Ideal.Rows

end
-- ==== Proof.Rows.Ker7.lean ====
/- The first layer's queries, keys and values from the latent rows. -/
module

public import proofs.«01_k».proof.Proof.Rows.Tables
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel7Ideal.Rows

open Cert.Kernel7Ideal Cert.Kernel7Ideal.Gen Idealize.ShloMosaic Idealize.ShloMosaic.TcCoe Idealize.SL.Sem Cert.Rows

/-- One entry of a plain product: row `p` against weight column `q`. -/
def vlin {n : ℕ} (x : Shape.Idx ⟨2, ![512, 512]⟩ → EReal) (w : Shape.Idx ⟨2, ![512, n]⟩ → EReal) (p : Fin 512) (q : Fin n) : EReal :=
  lin (fun k => x (ix2 p k)) (fun k => w (ix2 k q))

/-- One entry of the rotated queries: the two products, weighted by the tables. -/
def vrot (x : Shape.Idx ⟨2, ![512, 512]⟩ → EReal) (cs sn : Shape.Idx ⟨2, ![512, 128]⟩ → EReal) (a b : Shape.Idx ⟨2, ![512, 2048]⟩ → EReal) (p : Fin 512) (q : Fin 2048) : EReal :=
  vlin x a p q * cs (ix2 p ⟨q.val % 128, by omega⟩) + vlin x b p q * sn (ix2 p ⟨q.val % 128, by omega⟩)

/-- Eight copies of a table side by side, at an entry. -/
theorem cs_eq (v : Vec Ideal S512x128 .f32) (p : Fin 512) (q : Fin 1024) : (k0_pay2 v (ix2 p q) : EReal) = v (ix2 p ⟨q.val % 128, by omega⟩) := by
  pointwise [k0_pay2]
  iterate 7
    refine dite_step (fun _ => congrArg (fun l => v (ix2 p l)) (Fin.ext ?_)) (fun _ => ?_)
    · try dsimp only
      omega
  refine congrArg (fun l => v (ix2 p l)) (Fin.ext ?_)
  try dsimp only
  omega

/-- The second table's copies. -/
theorem sn_eq (v : Vec Ideal S512x128 .f32) (p : Fin 512) (q : Fin 1024) : (k0_pay3 v (ix2 p q) : EReal) = v (ix2 p ⟨q.val % 128, by omega⟩) := cs_eq v p q

/-- The plain queries' left half. -/
theorem pay4_eq (x0 : Vec Ideal S512x512 .bf16) (x1 : Vec Ideal S512x512 .f32) (x2 : Vec Ideal S512x128 .f32) (x3 : Vec Ideal S512x128 .f32) (x4 x5 x6 x7 x8 : Vec Ideal S512x2048 .bf16) (p : Fin 512) (q : Fin 1024) :
    (k0_pay4 (View.ld x0 r0_0) (View.ld x4 r0_2) (ix2 p q) : EReal) = vlin x0 x4 p ⟨q.val, by omega⟩ := by
  pointwise [k0_pay4]
  rfl

/-- The plain queries' right half. -/
theorem pay8_eq (x0 : Vec Ideal S512x512 .bf16) (x1 : Vec Ideal S512x512 .f32) (x2 : Vec Ideal S512x128 .f32) (x3 : Vec Ideal S512x128 .f32) (x4 x5 x6 x7 x8 : Vec Ideal S512x2048 .bf16) (p : Fin 512) (q : Fin 1024) :
    (k0_pay8 (View.ld x0 r0_0) (View.ld x4 r0_3) (ix2 p q) : EReal) = vlin x0 x4 p ⟨1024 + q.val, by omega⟩ := by
  pointwise [k0_pay8]
  rfl

/-- The keys' left half. -/
theorem pay6_eq (x0 : Vec Ideal S512x512 .bf16) (x1 : Vec Ideal S512x512 .f32) (x2 : Vec Ideal S512x128 .f32) (x3 : Vec Ideal S512x128 .f32) (x4 x5 x6 x7 x8 : Vec Ideal S512x2048 .bf16) (p : Fin 512) (q : Fin 1024) :
    (k0_pay6 (View.ld x1 r0_0) (View.ld x7 r0_2) (ix2 p q) : EReal) = vlin x1 x7 p ⟨q.val, by omega⟩ := by
  pointwise [k0_pay6, k0_pay1]
  rfl

/-- The keys' right half. -/
theorem pay10_eq (x0 : Vec Ideal S512x512 .bf16) (x1 : Vec Ideal S512x512 .f32) (x2 : Vec Ideal S512x128 .f32) (x3 : Vec Ideal S512x128 .f32) (x4 x5 x6 x7 x8 : Vec Ideal S512x2048 .bf16) (p : Fin 512) (q : Fin 1024) :
    (k0_pay10 (k0_pay12 x0 x1 x2 x3 x4 x5 x6 x7 x8) (View.ld x7 r0_3) (ix2 p q) : EReal) = vlin x1 x7 p ⟨1024 + q.val, by omega⟩ := by
  pointwise [k0_pay10, k0_pay12, k0_pay1]
  rfl

/-- The values' left half. -/
theorem pay7_eq (x0 : Vec Ideal S512x512 .bf16) (x1 : Vec Ideal S512x512 .f32) (x2 : Vec Ideal S512x128 .f32) (x3 : Vec Ideal S512x128 .f32) (x4 x5 x6 x7 x8 : Vec Ideal S512x2048 .bf16) (p : Fin 512) (q : Fin 1024) :
    (k0_pay7 (k0_pay12 x0 x1 x2 x3 x4 x5 x6 x7 x8) (View.ld x8 r0_2) (ix2 p q) : EReal) = vlin x1 x8 p ⟨q.val, by omega⟩ := by
  pointwise [k0_pay7, k0_pay12, k0_pay1]
  rfl

/-- The values' right half. -/
theorem pay11_eq (x0 : Vec Ideal S512x512 .bf16) (x1 : Vec Ideal S512x512 .f32) (x2 : Vec Ideal S512x128 .f32) (x3 : Vec Ideal S512x128 .f32) (x4 x5 x6 x7 x8 : Vec Ideal S512x2048 .bf16) (p : Fin 512) (q : Fin 1024) :
    (k0_pay11 (k0_pay12 x0 x1 x2 x3 x4 x5 x6 x7 x8) (View.ld x8 r0_3) (ix2 p q) : EReal) = vlin x1 x8 p ⟨1024 + q.val, by omega⟩ := by
  pointwise [k0_pay11, k0_pay12, k0_pay1]
  rfl

/-- The rotated queries' left half. -/
theorem pay5_eq (x0 : Vec Ideal S512x512 .bf16) (x1 : Vec Ideal S512x512 .f32) (x2 : Vec Ideal S512x128 .f32) (x3 : Vec Ideal S512x128 .f32) (x4 x5 x6 x7 x8 : Vec Ideal S512x2048 .bf16) (p : Fin 512) (q : Fin 1024) :
    (k0_pay5 (View.ld x0 r0_0) (View.ld x2 r0_1) (View.ld x3 r0_1) (View.ld x5 r0_2) (View.ld x6 r0_2) (ix2 p q) : EReal) = vrot x0 x2 x3 x5 x6 p ⟨q.val, by omega⟩ := by
  pointwise [k0_pay5]
  rw [cs_eq, sn_eq]
  pointwise
  rfl

/-- The rotated queries' right half. -/
theorem pay9_eq (x0 : Vec Ideal S512x512 .bf16) (x1 : Vec Ideal S512x512 .f32) (x2 : Vec Ideal S512x128 .f32) (x3 : Vec Ideal S512x128 .f32) (x4 x5 x6 x7 x8 : Vec Ideal S512x2048 .bf16) (p : Fin 512) (q : Fin 1024) :
    (k0_pay9 (View.ld x0 r0_0) (k0_pay2 (View.ld x2 r0_1)) (k0_pay3 (View.ld x3 r0_1)) (View.ld x5 r0_3) (View.ld x6 r0_3) (ix2 p q) : EReal) = vrot x0 x2 x3 x5 x6 p ⟨1024 + q.val, by omega⟩ := by
  pointwise [k0_pay9]
  rw [cs_eq, sn_eq]
  pointwise
  have e : (⟨q.val % 128, by omega⟩ : Fin 128) = ⟨(1024 + q.val) % 128, by omega⟩ := Fin.ext (by show q.val % 128 = (1024 + q.val) % 128; omega)
  rw [e]
  rfl

/-- What the body leaves in the window of the plain queries. -/
theorem out9_eq (x0 : Vec Ideal S512x512 .bf16) (x1 : Vec Ideal S512x512 .f32) (x2 : Vec Ideal S512x128 .f32) (x3 : Vec Ideal S512x128 .f32) (x4 x5 x6 x7 x8 : Vec Ideal S512x2048 .bf16) (y : S512x2048.Idx) : (out0_9 x0 x1 x2 x3 x4 x5 x6 x7 x8 y : EReal) = vlin x0 x4 (y 0) (y 1) := by
  unfold out0_9
  canon_tiles x h using View.cover_of_tiledBy _ ![512, 1024] (by sl_kernel_rfl) _
  case piece0 =>
    have e := pay8_eq x0 x1 x2 x3 x4 x5 x6 x7 x8 (x 0) (x 1)
    rw [← eq_ix2 x] at e
    exact e.trans (congrArg₂ (vlin x0 x4) (Fin.ext h0.symm) (Fin.ext h1.symm))
  case piece1 =>
    have e := pay4_eq x0 x1 x2 x3 x4 x5 x6 x7 x8 (x 0) (x 1)
    rw [← eq_ix2 x] at e
    exact e.trans (congrArg₂ (vlin x0 x4) (Fin.ext h0.symm) (Fin.ext h1.symm))

/-- What the body leaves in the window of the rotated queries. -/
theorem out10_eq (x0 : Vec Ideal S512x512 .bf16) (x1 : Vec Ideal S512x512 .f32) (x2 : Vec Ideal S512x128 .f32) (x3 : Vec Ideal S512x128 .f32) (x4 x5 x6 x7 x8 : Vec Ideal S512x2048 .bf16) (y : S512x2048.Idx) : (out0_10 x0 x1 x2 x3 x4 x5 x6 x7 x8 y : EReal) = vrot x0 x2 x3 x5 x6 (y 0) (y 1) := by
  unfold out0_10
  canon_tiles x h using View.cover_of_tiledBy _ ![512, 1024] (by sl_kernel_rfl) _
  case piece0 =>
    have e := pay9_eq x0 x1 x2 x3 x4 x5 x6 x7 x8 (x 0) (x 1)
    rw [← eq_ix2 x] at e
    exact e.trans (congrArg₂ (vrot x0 x2 x3 x5 x6) (Fin.ext h0.symm) (Fin.ext h1.symm))
  case piece1 =>
    have e := pay5_eq x0 x1 x2 x3 x4 x5 x6 x7 x8 (x 0) (x 1)
    rw [← eq_ix2 x] at e
    exact e.trans (congrArg₂ (vrot x0 x2 x3 x5 x6) (Fin.ext h0.symm) (Fin.ext h1.symm))

/-- What the body leaves in the window of the keys. -/
theorem out11_eq (x0 : Vec Ideal S512x512 .bf16) (x1 : Vec Ideal S512x512 .f32) (x2 : Vec Ideal S512x128 .f32) (x3 : Vec Ideal S512x128 .f32) (x4 x5 x6 x7 x8 : Vec Ideal S512x2048 .bf16) (y : S512x2048.Idx) : (out0_11 x0 x1 x2 x3 x4 x5 x6 x7 x8 y : EReal) = vlin x1 x7 (y 0) (y 1) := by
  unfold out0_11
  canon_tiles x h using View.cover_of_tiledBy _ ![512, 1024] (by sl_kernel_rfl) _
  case piece0 =>
    have e := pay10_eq x0 x1 x2 x3 x4 x5 x6 x7 x8 (x 0) (x 1)
    rw [← eq_ix2 x] at e
    exact e.trans (congrArg₂ (vlin x1 x7) (Fin.ext h0.symm) (Fin.ext h1.symm))
  case piece1 =>
    have e := pay6_eq x0 x1 x2 x3 x4 x5 x6 x7 x8 (x 0) (x 1)
    rw [← eq_ix2 x] at e
    exact e.trans (congrArg₂ (vlin x1 x7) (Fin.ext h0.symm) (Fin.ext h1.symm))

/-- What the body leaves in the window of the values. -/
theorem out12_eq (x0 : Vec Ideal S512x512 .bf16) (x1 : Vec Ideal S512x512 .f32) (x2 : Vec Ideal S512x128 .f32) (x3 : Vec Ideal S512x128 .f32) (x4 x5 x6 x7 x8 : Vec Ideal S512x2048 .bf16) (y : S512x2048.Idx) : (out0_12 x0 x1 x2 x3 x4 x5 x6 x7 x8 y : EReal) = vlin x1 x8 (y 0) (y 1) := by
  unfold out0_12
  canon_tiles x h using View.cover_of_tiledBy _ ![512, 1024] (by sl_kernel_rfl) _
  case piece0 =>
    have e := pay11_eq x0 x1 x2 x3 x4 x5 x6 x7 x8 (x 0) (x 1)
    rw [← eq_ix2 x] at e
    exact e.trans (congrArg₂ (vlin x1 x8) (Fin.ext h0.symm) (Fin.ext h1.symm))
  case piece1 =>
    have e := pay7_eq x0 x1 x2 x3 x4 x5 x6 x7 x8 (x 0) (x 1)
    rw [← eq_ix2 x] at e
    exact e.trans (congrArg₂ (vlin x1 x8) (Fin.ext h0.symm) (Fin.ext h1.symm))

open Cert.Soft (IsReal)

variable (m : (ℓ : Loc nD τ sig) → Buf (Elt Ideal) ℓ) (c : Dev nD)

/-- The index maps: the row windows move with the point, the weights stay. -/
theorem idx : ∀ t : Fin grid0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0] := by decide +kernel

/-- The table of cosines, as the region finds it. -/
theorem V_cs (r : Fin 17920) (l : Fin 128) : (V m c main_v50 (ix2 r l) : EReal) = tab (side (Host.cos angP) (Host.cos angS) r) l := by
  have e : V m c main_v50 = tabA (Host.cos angP) (Host.cos angS) := by
    show StableHlo.after hostOps0 _ (Proc.devRef .tc main_v50) = _
    after_results
    rfl
  exact (congrFun e _).trans (tabA_eq _ _ r l)

/-- The table of sines, as the region finds it. -/
theorem V_sn (r : Fin 17920) (l : Fin 128) : (V m c main_v51 (ix2 r l) : EReal) = tab (side (Host.sin angP) (Host.sin angS) r) l := by
  have e : V m c main_v51 = tabA (Host.sin angP) (Host.sin angS) := by
    show StableHlo.after hostOps0 _ (Proc.devRef .tc main_v51) = _
    after_results
    rfl
  exact (congrFun e _).trans (tabA_eq _ _ r l)

/-- The plain queries' weights, at an entry. -/
theorem wq_read (a : FVec Ideal S1x512x16x192 .f32) (k : Fin 512) (q : Fin 2048) :
    (truncf .bf16 (shapeCast S512x2048 (extractStridedSlice S512x16x128 ![0, 0, 0] (shapeCast S512x16x192 a shapeCasts_S1x512x16x192_S512x16x192) slices_S512x16x192_S512x16x128_0_0_0) shapeCasts_S512x16x128_S512x2048) bitsLt_bf16_f32 (ix2 k q) : EReal) = a (ix4 0 k ⟨q.val / 128, by omega⟩ ⟨q.val % 128, by omega⟩) := by
  pointwise

/-- The plain queries' weights, as the region finds it. -/
theorem V_wq (k : Fin 512) (q : Fin 2048) : (V m c main_v55 (ix2 k q) : EReal) = m ((c : Thread nD τ).loc main_arg2) (ix4 0 k ⟨q.val / 128, by omega⟩ ⟨q.val % 128, by omega⟩) := by
  have e : V m c main_v55 = (truncf .bf16 (shapeCast S512x2048 (extractStridedSlice S512x16x128 ![0, 0, 0] ((shapeCast S512x16x192 (m ((c : Thread nD τ).loc main_arg2)) shapeCasts_S1x512x16x192_S512x16x192 : FVec Ideal _ .f32)) slices_S512x16x192_S512x16x128_0_0_0) shapeCasts_S512x16x128_S512x2048) bitsLt_bf16_f32 : FVec Ideal _ .bf16) := by
    show StableHlo.after hostOps0 _ (Proc.devRef .tc main_v55) = _
    after_results
    rfl
  exact (congrFun e _).trans (wq_read _ k q)

/-- The rotated queries' weights, widened, at an entry. -/
theorem wa_read (a : FVec Ideal S1x512x16x192 .f32) (k : Fin 512) (q : Fin 2048) :
    (truncf .bf16 (shapeCast S512x2048 (concatenate S512x16x128 2 [⟨S512x16x64, (extractStridedSlice S512x16x64 ![0, 0, 128] (shapeCast S512x16x192 a shapeCasts_S1x512x16x192_S512x16x192) slices_S512x16x192_S512x16x64_0_0_128)⟩, ⟨S512x16x64, (broadcastInDim S512x16x64 ![] bcast_S_S512x16x64 (constant S_ .f32 0x00000000#32))⟩] concatenates_S512x16x64_S512x16x64_S512x16x128_d2) shapeCasts_S512x16x128_S512x2048) bitsLt_bf16_f32 (ix2 k q) : EReal) = wide (fun j => a (ix4 0 k ⟨q.val / 128, by omega⟩ ⟨128 + j.val, by omega⟩)) ⟨q.val % 128, by omega⟩ := by
  pointwise
  rfl

/-- The rotated queries' weights, widened, as the region finds it. -/
theorem V_wa (k : Fin 512) (q : Fin 2048) : (V m c main_v60 (ix2 k q) : EReal) = wide (fun j => m ((c : Thread nD τ).loc main_arg2) (ix4 0 k ⟨q.val / 128, by omega⟩ ⟨128 + j.val, by omega⟩)) ⟨q.val % 128, by omega⟩ := by
  have e : V m c main_v60 = (truncf .bf16 (shapeCast S512x2048 (concatenate S512x16x128 2 [⟨S512x16x64, (extractStridedSlice S512x16x64 ![0, 0, 128] ((shapeCast S512x16x192 (m ((c : Thread nD τ).loc main_arg2)) shapeCasts_S1x512x16x192_S512x16x192 : FVec Ideal _ .f32)) slices_S512x16x192_S512x16x64_0_0_128)⟩, ⟨S512x16x64, (broadcastInDim S512x16x64 ![] bcast_S_S512x16x64 (constant S_ .f32 0x00000000#32))⟩] concatenates_S512x16x64_S512x16x64_S512x16x128_d2) shapeCasts_S512x16x128_S512x2048) bitsLt_bf16_f32 : FVec Ideal _ .bf16) := by
    show StableHlo.after hostOps0 _ (Proc.devRef .tc main_v60) = _
    after_results
    rfl
  exact (congrFun e _).trans (wa_read _ k q)

/-- The rotated queries' weights, turned and widened, at an entry. -/
theorem wb_read (a : FVec Ideal S1x512x16x192 .f32) (k : Fin 512) (q : Fin 2048) :
    (truncf .bf16 (shapeCast S512x2048 (concatenate S512x16x128 2 [⟨S512x16x64, (concatenate S512x16x64 2 [⟨S512x16x32, Host.negf (extractStridedSlice S512x16x32 ![0, 0, 32] (extractStridedSlice S512x16x64 ![0, 0, 128] (shapeCast S512x16x192 a shapeCasts_S1x512x16x192_S512x16x192) slices_S512x16x192_S512x16x64_0_0_128) slices_S512x16x64_S512x16x32_0_0_32)⟩, ⟨S512x16x32, extractStridedSlice S512x16x32 ![0, 0, 0] (extractStridedSlice S512x16x64 ![0, 0, 128] (shapeCast S512x16x192 a shapeCasts_S1x512x16x192_S512x16x192) slices_S512x16x192_S512x16x64_0_0_128) slices_S512x16x64_S512x16x32_0_0_0⟩] concatenates_S512x16x32_S512x16x32_S512x16x64_d2)⟩, ⟨S512x16x64, (broadcastInDim S512x16x64 ![] bcast_S_S512x16x64 (constant S_ .f32 0x00000000#32))⟩] concatenates_S512x16x64_S512x16x64_S512x16x128_d2) shapeCasts_S512x16x128_S512x2048) bitsLt_bf16_f32 (ix2 k q) : EReal) = turned (fun j => a (ix4 0 k ⟨q.val / 128, by omega⟩ ⟨128 + j.val, by omega⟩)) ⟨q.val % 128, by omega⟩ := by
  pointwise
  exact turned_of (fun j : Fin 64 => a (ix4 0 k ⟨q.val / 128, by omega⟩ ⟨128 + j.val, by omega⟩)) ⟨q.val % 128, by omega⟩

/-- The rotated queries' weights, turned and widened, as the region finds it. -/
theorem V_wb (k : Fin 512) (q : Fin 2048) : (V m c main_v69 (ix2 k q) : EReal) = turned (fun j => m ((c : Thread nD τ).loc main_arg2) (ix4 0 k ⟨q.val / 128, by omega⟩ ⟨128 + j.val, by omega⟩)) ⟨q.val % 128, by omega⟩ := by
  have e : V m c main_v69 = (truncf .bf16 (shapeCast S512x2048 (concatenate S512x16x128 2 [⟨S512x16x64, (concatenate S512x16x64 2 [⟨S512x16x32, Host.negf (extractStridedSlice S512x16x32 ![0, 0, 32] (extractStridedSlice S512x16x64 ![0, 0, 128] ((shapeCast S512x16x192 (m ((c : Thread nD τ).loc main_arg2)) shapeCasts_S1x512x16x192_S512x16x192 : FVec Ideal _ .f32)) slices_S512x16x192_S512x16x64_0_0_128) slices_S512x16x64_S512x16x32_0_0_32)⟩, ⟨S512x16x32, extractStridedSlice S512x16x32 ![0, 0, 0] (extractStridedSlice S512x16x64 ![0, 0, 128] ((shapeCast S512x16x192 (m ((c : Thread nD τ).loc main_arg2)) shapeCasts_S1x512x16x192_S512x16x192 : FVec Ideal _ .f32)) slices_S512x16x192_S512x16x64_0_0_128) slices_S512x16x64_S512x16x32_0_0_0⟩] concatenates_S512x16x32_S512x16x32_S512x16x64_d2)⟩, ⟨S512x16x64, (broadcastInDim S512x16x64 ![] bcast_S_S512x16x64 (constant S_ .f32 0x00000000#32))⟩] concatenates_S512x16x64_S512x16x64_S512x16x128_d2) shapeCasts_S512x16x128_S512x2048) bitsLt_bf16_f32 : FVec Ideal _ .bf16) := by
    show StableHlo.after hostOps0 _ (Proc.devRef .tc main_v69) = _
    after_results
    rfl
  exact (congrFun e _).trans (wb_read _ k q)

/-- The keys' weights, at an entry. -/
theorem wk_read (a : FVec Ideal S1x512x16x128 .f32) (k : Fin 512) (q : Fin 2048) :
    (truncf .bf16 (shapeCast S512x2048 (shapeCast S512x16x128 a shapeCasts_S1x512x16x128_S512x16x128) shapeCasts_S512x16x128_S512x2048) bitsLt_bf16_f32 (ix2 k q) : EReal) = a (ix4 0 k ⟨q.val / 128, by omega⟩ ⟨q.val % 128, by omega⟩) := by
  pointwise

/-- The keys' weights, as the region finds it. -/
theorem V_wk (k : Fin 512) (q : Fin 2048) : (V m c main_v72 (ix2 k q) : EReal) = m ((c : Thread nD τ).loc main_arg3) (ix4 0 k ⟨q.val / 128, by omega⟩ ⟨q.val % 128, by omega⟩) := by
  have e : V m c main_v72 = (truncf .bf16 (shapeCast S512x2048 ((shapeCast S512x16x128 (m ((c : Thread nD τ).loc main_arg3)) shapeCasts_S1x512x16x128_S512x16x128 : FVec Ideal _ .f32)) shapeCasts_S512x16x128_S512x2048) bitsLt_bf16_f32 : FVec Ideal _ .bf16) := by
    show StableHlo.after hostOps0 _ (Proc.devRef .tc main_v72) = _
    after_results
    rfl
  exact (congrFun e _).trans (wk_read _ k q)

/-- The values' weights, at an entry. -/
theorem wv_read (a : FVec Ideal S1x512x16x128 .f32) (k : Fin 512) (q : Fin 2048) :
    (truncf .bf16 (shapeCast S512x2048 (shapeCast S512x16x128 a shapeCasts_S1x512x16x128_S512x16x128) shapeCasts_S512x16x128_S512x2048) bitsLt_bf16_f32 (ix2 k q) : EReal) = a (ix4 0 k ⟨q.val / 128, by omega⟩ ⟨q.val % 128, by omega⟩) := by
  pointwise

/-- The values' weights, as the region finds it. -/
theorem V_wv (k : Fin 512) (q : Fin 2048) : (V m c main_v75 (ix2 k q) : EReal) = m ((c : Thread nD τ).loc main_arg4) (ix4 0 k ⟨q.val / 128, by omega⟩ ⟨q.val % 128, by omega⟩) := by
  have e : V m c main_v75 = (truncf .bf16 (shapeCast S512x2048 ((shapeCast S512x16x128 (m ((c : Thread nD τ).loc main_arg4)) shapeCasts_S1x512x16x128_S512x16x128 : FVec Ideal _ .f32)) shapeCasts_S512x16x128_S512x2048) bitsLt_bf16_f32 : FVec Ideal _ .bf16) := by
    show StableHlo.after hostOps0 _ (Proc.devRef .tc main_v75) = _
    after_results
    rfl
  exact (congrFun e _).trans (wv_read _ k q)

/-- Window 0's block is the point's rows. -/
theorem read0 (t : Fin cfg0.N) (p k : Fin 512) : (iblk m c 0 t (ix2 p k) : EReal) = (m ((c : Thread nD τ).loc main_arg0)) (ix2 ⟨t.val * 512 + p.val, by have := t.isLt; have : cfg0.N = 35 := N_0; omega⟩ k) := by
  obtain ⟨e0, e1, e2, e3, e4, e5, e6, e7, e8, e9, e10, e11, e12⟩ := idx t
  blk_ext [iblk, V, e0]

/-- Window 1's block is the point's rows. -/
theorem read1 (t : Fin cfg0.N) (p k : Fin 512) : (iblk m c 1 t (ix2 p k) : EReal) = (m ((c : Thread nD τ).loc main_arg1)) (ix2 ⟨t.val * 512 + p.val, by have := t.isLt; have : cfg0.N = 35 := N_0; omega⟩ k) := by
  obtain ⟨e0, e1, e2, e3, e4, e5, e6, e7, e8, e9, e10, e11, e12⟩ := idx t
  blk_ext [iblk, V, e1]

/-- Window 2's block is the point's rows of the table. -/
theorem read2 (t : Fin cfg0.N) (p : Fin 512) (l : Fin 128) : (iblk m c 2 t (ix2 p l) : EReal) = tab (side (Host.cos angP) (Host.cos angS) ⟨t.val * 512 + p.val, by have := t.isLt; have : cfg0.N = 35 := N_0; omega⟩) l := by
  obtain ⟨e0, e1, e2, e3, e4, e5, e6, e7, e8, e9, e10, e11, e12⟩ := idx t
  rw [← V_cs m c _ l]
  blk_ext [iblk, e2]

/-- Window 3's block is the point's rows of the table. -/
theorem read3 (t : Fin cfg0.N) (p : Fin 512) (l : Fin 128) : (iblk m c 3 t (ix2 p l) : EReal) = tab (side (Host.sin angP) (Host.sin angS) ⟨t.val * 512 + p.val, by have := t.isLt; have : cfg0.N = 35 := N_0; omega⟩) l := by
  obtain ⟨e0, e1, e2, e3, e4, e5, e6, e7, e8, e9, e10, e11, e12⟩ := idx t
  rw [← V_sn m c _ l]
  blk_ext [iblk, e3]

/-- Window 4's block is its weights. -/
theorem read4 (t : Fin cfg0.N) (k : Fin 512) (q : Fin 2048) : (iblk m c 4 t (ix2 k q) : EReal) = (m ((c : Thread nD τ).loc main_arg2)) (ix4 0 k ⟨q.val / 128, by omega⟩ ⟨q.val % 128, by omega⟩) := by
  obtain ⟨e0, e1, e2, e3, e4, e5, e6, e7, e8, e9, e10, e11, e12⟩ := idx t
  rw [← V_wq m c k q]
  blk_ext [iblk, e4]

/-- Window 5's block is its weights. -/
theorem read5 (t : Fin cfg0.N) (k : Fin 512) (q : Fin 2048) : (iblk m c 5 t (ix2 k q) : EReal) = wide (fun j => (m ((c : Thread nD τ).loc main_arg2)) (ix4 0 k ⟨q.val / 128, by omega⟩ ⟨128 + j.val, by omega⟩)) ⟨q.val % 128, by omega⟩ := by
  obtain ⟨e0, e1, e2, e3, e4, e5, e6, e7, e8, e9, e10, e11, e12⟩ := idx t
  rw [← V_wa m c k q]
  blk_ext [iblk, e5]

/-- Window 6's block is its weights. -/
theorem read6 (t : Fin cfg0.N) (k : Fin 512) (q : Fin 2048) : (iblk m c 6 t (ix2 k q) : EReal) = turned (fun j => (m ((c : Thread nD τ).loc main_arg2)) (ix4 0 k ⟨q.val / 128, by omega⟩ ⟨128 + j.val, by omega⟩)) ⟨q.val % 128, by omega⟩ := by
  obtain ⟨e0, e1, e2, e3, e4, e5, e6, e7, e8, e9, e10, e11, e12⟩ := idx t
  rw [← V_wb m c k q]
  blk_ext [iblk, e6]

/-- Window 7's block is its weights. -/
theorem read7 (t : Fin cfg0.N) (k : Fin 512) (q : Fin 2048) : (iblk m c 7 t (ix2 k q) : EReal) = (m ((c : Thread nD τ).loc main_arg3)) (ix4 0 k ⟨q.val / 128, by omega⟩ ⟨q.val % 128, by omega⟩) := by
  obtain ⟨e0, e1, e2, e3, e4, e5, e6, e7, e8, e9, e10, e11, e12⟩ := idx t
  rw [← V_wk m c k q]
  blk_ext [iblk, e7]

/-- Window 8's block is its weights. -/
theorem read8 (t : Fin cfg0.N) (k : Fin 512) (q : Fin 2048) : (iblk m c 8 t (ix2 k q) : EReal) = (m ((c : Thread nD τ).loc main_arg4)) (ix4 0 k ⟨q.val / 128, by omega⟩ ⟨q.val % 128, by omega⟩) := by
  obtain ⟨e0, e1, e2, e3, e4, e5, e6, e7, e8, e9, e10, e11, e12⟩ := idx t
  rw [← V_wv m c k q]
  blk_ext [iblk, e8]

/-- An entry of the plain queries, the keys or the values: a latent row against a head's weight column. -/
def plain {w : ℕ} (x : S17920x512.Idx → EReal) (a : Shape.Idx ⟨4, ![1, 512, 16, w]⟩ → EReal) (r : Fin 17920) (h : Fin 16) (n : Fin w) : EReal :=
  lin (fun k => x (ix2 r k)) (fun k => a (ix4 0 k h n))

/-- The plain queries. -/
def Gq (x : S17920x512.Idx → EReal) (a : S1x512x16x192.Idx → EReal) (r : Fin 17920) (q : Fin 2048) : EReal :=
  plain x a r ⟨q.val / 128, by omega⟩ ⟨q.val % 128, by omega⟩

/-- The rotated queries. -/
def Gr (x : S17920x512.Idx → EReal) (a : S1x512x16x192.Idx → EReal) (r : Fin 17920) (q : Fin 2048) : EReal :=
  rot (fun j => plain x a r ⟨q.val / 128, by omega⟩ ⟨128 + j.val, by omega⟩) (side (Host.cos angP) (Host.cos angS) r) (side (Host.sin angP) (Host.sin angS) r) ⟨q.val % 128, by omega⟩

/-- The keys and the values. -/
def Gk (x : S17920x512.Idx → EReal) (a : S1x512x16x128.Idx → EReal) (r : Fin 17920) (q : Fin 2048) : EReal :=
  plain x a r ⟨q.val / 128, by omega⟩ ⟨q.val % 128, by omega⟩

/-- The plain queries' entry of a block, by the arguments. -/
theorem val9 (t : Fin cfg0.N) (p : Fin 512) (q : Fin 2048) : vlin (iblk m c 0 t) (iblk m c 4 t) p q = Gq (m ((c : Thread nD τ).loc main_arg0)) (m ((c : Thread nD τ).loc main_arg2)) ⟨t.val * 512 + p.val, by have := t.isLt; have : cfg0.N = 35 := N_0; omega⟩ q :=
  lin_congr (fun k => read0 m c t p k) (fun k => read4 m c t k q)

/-- The keys' entry of a block, by the arguments. -/
theorem val11 (t : Fin cfg0.N) (p : Fin 512) (q : Fin 2048) : vlin (iblk m c 1 t) (iblk m c 7 t) p q = Gk (m ((c : Thread nD τ).loc main_arg1)) (m ((c : Thread nD τ).loc main_arg3)) ⟨t.val * 512 + p.val, by have := t.isLt; have : cfg0.N = 35 := N_0; omega⟩ q :=
  lin_congr (fun k => read1 m c t p k) (fun k => read7 m c t k q)

/-- The values' entry of a block, by the arguments. -/
theorem val12 (t : Fin cfg0.N) (p : Fin 512) (q : Fin 2048) : vlin (iblk m c 1 t) (iblk m c 8 t) p q = Gk (m ((c : Thread nD τ).loc main_arg1)) (m ((c : Thread nD τ).loc main_arg4)) ⟨t.val * 512 + p.val, by have := t.isLt; have : cfg0.N = 35 := N_0; omega⟩ q :=
  lin_congr (fun k => read1 m c t p k) (fun k => read8 m c t k q)

/-- The rotated queries' entry of a block, by the arguments, for real queries and weights. -/
theorem val10 (hx : ∀ i, IsReal ((m ((c : Thread nD τ).loc main_arg0)) i)) (hw : ∀ i, IsReal ((m ((c : Thread nD τ).loc main_arg2)) i)) (t : Fin cfg0.N) (p : Fin 512) (q : Fin 2048) :
    vrot (iblk m c 0 t) (iblk m c 2 t) (iblk m c 3 t) (iblk m c 5 t) (iblk m c 6 t) p q = Gr (m ((c : Thread nD τ).loc main_arg0)) (m ((c : Thread nD τ).loc main_arg2)) ⟨t.val * 512 + p.val, by have := t.isLt; have : cfg0.N = 35 := N_0; omega⟩ q := by
  refine Eq.trans ?_ (rot_eq (fun k => (m ((c : Thread nD τ).loc main_arg0)) (ix2 ⟨t.val * 512 + p.val, by have := t.isLt; have : cfg0.N = 35 := N_0; omega⟩ k)) (fun k j => (m ((c : Thread nD τ).loc main_arg2)) (ix4 0 k ⟨q.val / 128, by omega⟩ ⟨128 + j.val, by omega⟩)) _ _ _ (fun k => hx _) (fun k j => hw _))
  exact mix_congr (lin_congr (fun k => read0 m c t p k) (fun k => read5 m c t k q)) (read2 m c t p _)
    (lin_congr (fun k => read0 m c t p k) (fun k => read6 m c t k q)) (read3 m c t p _)

/-- The plain queries after the run. -/
theorem final9 : (dats m 0 c).arrAt 9 cfg0.N = fun i : S17920x2048.Idx => Gq (m ((c : Thread nD τ).loc main_arg0)) (m ((c : Thread nD τ).loc main_arg2)) (i 0) (i 1) := by
  refine (dats m 0 c).arrAt_eq_of_covers 9 _ (by decide +kernel) fun t hf y => ?_
  obtain ⟨e0, e1, e2, e3, e4, e5, e6, e7, e8, e9, e10, e11, e12⟩ := idx t
  rw [after0_9]
  have E0 : ((((cfg0.win 9).blk t).view.emb y) 0).val = t.val * 512 + (y 0).val := by blk_simp [e9]
  have E1 : ((((cfg0.win 9).blk t).view.emb y) 1).val = (y 1).val := by blk_simp [e9]
  refine (cast_eq _ _).trans ?_
  refine (out9_eq (iblk m c 0 t) (iblk m c 1 t) (iblk m c 2 t) (iblk m c 3 t) (iblk m c 4 t) (iblk m c 5 t) (iblk m c 6 t) (iblk m c 7 t) (iblk m c 8 t) ((cfg0.win 9).xinj (cfg0.grid.coords t) y)).trans ?_
  refine (val9 m c t _ _).trans ?_
  exact congrArg₂ (Gq _ _) (Fin.ext E0.symm) (Fin.ext E1.symm)

/-- The rotated queries after the run. -/
theorem final10 (hx : ∀ i, IsReal ((m ((c : Thread nD τ).loc main_arg0)) i)) (hw : ∀ i, IsReal ((m ((c : Thread nD τ).loc main_arg2)) i)) : (dats m 0 c).arrAt 10 cfg0.N = fun i : S17920x2048.Idx => Gr (m ((c : Thread nD τ).loc main_arg0)) (m ((c : Thread nD τ).loc main_arg2)) (i 0) (i 1) := by
  refine (dats m 0 c).arrAt_eq_of_covers 10 _ (by decide +kernel) fun t hf y => ?_
  obtain ⟨e0, e1, e2, e3, e4, e5, e6, e7, e8, e9, e10, e11, e12⟩ := idx t
  rw [after0_10]
  have E0 : ((((cfg0.win 10).blk t).view.emb y) 0).val = t.val * 512 + (y 0).val := by blk_simp [e10]
  have E1 : ((((cfg0.win 10).blk t).view.emb y) 1).val = (y 1).val := by blk_simp [e10]
  refine (cast_eq _ _).trans ?_
  refine (out10_eq (iblk m c 0 t) (iblk m c 1 t) (iblk m c 2 t) (iblk m c 3 t) (iblk m c 4 t) (iblk m c 5 t) (iblk m c 6 t) (iblk m c 7 t) (iblk m c 8 t) ((cfg0.win 10).xinj (cfg0.grid.coords t) y)).trans ?_
  refine (val10 m c hx hw t _ _).trans ?_
  exact congrArg₂ (Gr _ _) (Fin.ext E0.symm) (Fin.ext E1.symm)

/-- The keys after the run. -/
theorem final11 : (dats m 0 c).arrAt 11 cfg0.N = fun i : S17920x2048.Idx => Gk (m ((c : Thread nD τ).loc main_arg1)) (m ((c : Thread nD τ).loc main_arg3)) (i 0) (i 1) := by
  refine (dats m 0 c).arrAt_eq_of_covers 11 _ (by decide +kernel) fun t hf y => ?_
  obtain ⟨e0, e1, e2, e3, e4, e5, e6, e7, e8, e9, e10, e11, e12⟩ := idx t
  rw [after0_11]
  have E0 : ((((cfg0.win 11).blk t).view.emb y) 0).val = t.val * 512 + (y 0).val := by blk_simp [e11]
  have E1 : ((((cfg0.win 11).blk t).view.emb y) 1).val = (y 1).val := by blk_simp [e11]
  refine (cast_eq _ _).trans ?_
  refine (out11_eq (iblk m c 0 t) (iblk m c 1 t) (iblk m c 2 t) (iblk m c 3 t) (iblk m c 4 t) (iblk m c 5 t) (iblk m c 6 t) (iblk m c 7 t) (iblk m c 8 t) ((cfg0.win 11).xinj (cfg0.grid.coords t) y)).trans ?_
  refine (val11 m c t _ _).trans ?_
  exact congrArg₂ (Gk _ _) (Fin.ext E0.symm) (Fin.ext E1.symm)

/-- The values after the run. -/
theorem final12 : (dats m 0 c).arrAt 12 cfg0.N = fun i : S17920x2048.Idx => Gk (m ((c : Thread nD τ).loc main_arg1)) (m ((c : Thread nD τ).loc main_arg4)) (i 0) (i 1) := by
  refine (dats m 0 c).arrAt_eq_of_covers 12 _ (by decide +kernel) fun t hf y => ?_
  obtain ⟨e0, e1, e2, e3, e4, e5, e6, e7, e8, e9, e10, e11, e12⟩ := idx t
  rw [after0_12]
  have E0 : ((((cfg0.win 12).blk t).view.emb y) 0).val = t.val * 512 + (y 0).val := by blk_simp [e12]
  have E1 : ((((cfg0.win 12).blk t).view.emb y) 1).val = (y 1).val := by blk_simp [e12]
  refine (cast_eq _ _).trans ?_
  refine (out12_eq (iblk m c 0 t) (iblk m c 1 t) (iblk m c 2 t) (iblk m c 3 t) (iblk m c 4 t) (iblk m c 5 t) (iblk m c 6 t) (iblk m c 7 t) (iblk m c 8 t) ((cfg0.win 12).xinj (cfg0.grid.coords t) y)).trans ?_
  refine (val12 m c t _ _).trans ?_
  exact congrArg₂ (Gk _ _) (Fin.ext E0.symm) (Fin.ext E1.symm)

end Cert.Kernel7Ideal.Rows

end
-- ==== Proof.Rows.Ref7.lean ====
/- The first layer's queries, keys and values as the reference computes them. -/
module

public import proofs.«01_k».proof.Defs
public import proofs.«01_k».proof.Proof.Gen.Reference7Ideal.Run
public import proofs.«01_k».proof.Proof.Gen.Pre_finite_queries
public import proofs.«01_k».proof.Proof.Attn.Equal
public import proofs.«01_k».proof.Proof.Rows.Ker7
public import Idealize.ShloMosaic.Lib.Pointwise
public import Idealize.ShloMosaic.Adequacy
public import Idealize.ShloMosaic.Init

@[expose] public section

set_option maxRecDepth 16384

noncomputable section

namespace Cert.Reference7Ideal.Rows

open Cert.Reference7Ideal Cert.Reference7Ideal.Gen Idealize.ShloMosaic Idealize.ShloMosaic.TcCoe Idealize.SL.Sem Cert.Rows

open Cert.Kernel7Ideal.Rows (Gq Gr Gk plain side angP angS)
open Cert.Soft (IsReal)
open Cert.Attn (real_of_lt)

/-- The queries of all heads. -/
def qA (a0 : FVec Ideal S17920x512 .bf16) (a2 : FVec Ideal S1x512x16x192 .f32) : FVec Ideal S17920x16x192 .f32 :=
  Host.dotGeneral dot_S17920x512_S512x16x192_S17920x16x192_1_0_0_12_n_n none (extf .f32 a0 bitsLt_bf16_f32) (shapeCast S512x16x192 a2 shapeCasts_S1x512x16x192_S512x16x192)

/-- The queries of all heads at an entry. -/
theorem qA_eq (a0 : FVec Ideal S17920x512 .bf16) (a2 : FVec Ideal S1x512x16x192 .f32) (r : Fin 17920) (h : Fin 16) (n : Fin 192) : (qA a0 a2 (ix3 r h n) : EReal) = plain a0 a2 r h n := by
  unfold qA
  pointwise
  rfl

/-- The rotated columns of the prompt rows. -/
def cutP (q : FVec Ideal S17920x16x192 .f32) : FVec Ideal S8x2176x16x64 .f32 :=
  shapeCast S8x2176x16x64 (extractStridedSlice S17408x16x64 ![0, 0, 128] q slices_S17920x16x192_S17408x16x64_0_0_128) shapeCasts_S17408x16x64_S8x2176x16x64

/-- The columns at an entry. -/
theorem cutP_eq (q : FVec Ideal S17920x16x192 .f32) (b : Fin 8) (p : Fin 2176) (h : Fin 16) (j : Fin 64) :
    (cutP q (ix4 b p h j) : EReal) = q (ix3 ⟨b.val * 2176 + p.val, by omega⟩ h ⟨128 + j.val, by omega⟩) := by
  unfold cutP
  pointwise

/-- The columns rotated. -/
def rotP (x : FVec Ideal S8x2176x16x64 .f32) (c s : FVec Ideal S2176x32 .f32) : FVec Ideal S8x2176x16x64 .f32 :=
  concatenate S8x2176x16x64 3 [⟨S8x2176x16x32, (subf (mulf (extractStridedSlice S8x2176x16x32 ![0, 0, 0, 0] x slices_S8x2176x16x64_S8x2176x16x32_0_0_0_0) (broadcastInDim S8x2176x16x32 ![0, 1, 2, 3] bcast_S1x2176x1x32_S8x2176x16x32_0_1_2_3 (shapeCast S1x2176x1x32 c shapeCasts_S2176x32_S1x2176x1x32))) (mulf (extractStridedSlice S8x2176x16x32 ![0, 0, 0, 32] x slices_S8x2176x16x64_S8x2176x16x32_0_0_0_32) (broadcastInDim S8x2176x16x32 ![0, 1, 2, 3] bcast_S1x2176x1x32_S8x2176x16x32_0_1_2_3 (shapeCast S1x2176x1x32 s shapeCasts_S2176x32_S1x2176x1x32))))⟩, ⟨S8x2176x16x32, (addf (mulf (extractStridedSlice S8x2176x16x32 ![0, 0, 0, 32] x slices_S8x2176x16x64_S8x2176x16x32_0_0_0_32) (broadcastInDim S8x2176x16x32 ![0, 1, 2, 3] bcast_S1x2176x1x32_S8x2176x16x32_0_1_2_3 (shapeCast S1x2176x1x32 c shapeCasts_S2176x32_S1x2176x1x32))) (mulf (extractStridedSlice S8x2176x16x32 ![0, 0, 0, 0] x slices_S8x2176x16x64_S8x2176x16x32_0_0_0_0) (broadcastInDim S8x2176x16x32 ![0, 1, 2, 3] bcast_S1x2176x1x32_S8x2176x16x32_0_1_2_3 (shapeCast S1x2176x1x32 s shapeCasts_S2176x32_S1x2176x1x32))))⟩] concatenates_S8x2176x16x32_S8x2176x16x32_S8x2176x16x64_d3

/-- The rotated columns at an entry. -/
theorem rotP_eq (x : FVec Ideal S8x2176x16x64 .f32) (c s : FVec Ideal S2176x32 .f32) (b : Fin 8) (p : Fin 2176) (h : Fin 16) (j : Fin 64) :
    (rotP x c s (ix4 b p h j) : EReal) = rot (fun i => x (ix4 b p h i)) (fun i => c (ix2 p i)) (fun i => s (ix2 p i)) ⟨j.val, by omega⟩ := by
  unfold rotP
  pointwise
  unfold rot
  refine dite_step (fun h => ?_) (fun h => ?_)
  · rw [dif_pos h]
  · rw [dif_neg h, dif_pos (by exact j.isLt)]
    have e : (⟨32 + (j.val - 32), by omega⟩ : Fin 64) = ⟨j.val, j.isLt⟩ := Fin.ext (by show 32 + (j.val - 32) = j.val; omega)
    rw [e]

/-- The rotated columns of the sample rows. -/
def cutS (q : FVec Ideal S17920x16x192 .f32) : FVec Ideal S128x4x16x64 .f32 :=
  shapeCast S128x4x16x64 (extractStridedSlice S512x16x64 ![17408, 0, 128] q slices_S17920x16x192_S512x16x64_17408_0_128) shapeCasts_S512x16x64_S128x4x16x64

/-- The columns at an entry. -/
theorem cutS_eq (q : FVec Ideal S17920x16x192 .f32) (b : Fin 128) (p : Fin 4) (h : Fin 16) (j : Fin 64) :
    (cutS q (ix4 b p h j) : EReal) = q (ix3 ⟨17408 + (b.val * 4 + p.val), by omega⟩ h ⟨128 + j.val, by omega⟩) := by
  unfold cutS
  pointwise

/-- The columns rotated. -/
def rotS (x : FVec Ideal S128x4x16x64 .f32) (c s : FVec Ideal S4x32 .f32) : FVec Ideal S128x4x16x64 .f32 :=
  concatenate S128x4x16x64 3 [⟨S128x4x16x32, (subf (mulf (extractStridedSlice S128x4x16x32 ![0, 0, 0, 0] x slices_S128x4x16x64_S128x4x16x32_0_0_0_0) (broadcastInDim S128x4x16x32 ![0, 1, 2, 3] bcast_S1x4x1x32_S128x4x16x32_0_1_2_3 (shapeCast S1x4x1x32 c shapeCasts_S4x32_S1x4x1x32))) (mulf (extractStridedSlice S128x4x16x32 ![0, 0, 0, 32] x slices_S128x4x16x64_S128x4x16x32_0_0_0_32) (broadcastInDim S128x4x16x32 ![0, 1, 2, 3] bcast_S1x4x1x32_S128x4x16x32_0_1_2_3 (shapeCast S1x4x1x32 s shapeCasts_S4x32_S1x4x1x32))))⟩, ⟨S128x4x16x32, (addf (mulf (extractStridedSlice S128x4x16x32 ![0, 0, 0, 32] x slices_S128x4x16x64_S128x4x16x32_0_0_0_32) (broadcastInDim S128x4x16x32 ![0, 1, 2, 3] bcast_S1x4x1x32_S128x4x16x32_0_1_2_3 (shapeCast S1x4x1x32 c shapeCasts_S4x32_S1x4x1x32))) (mulf (extractStridedSlice S128x4x16x32 ![0, 0, 0, 0] x slices_S128x4x16x64_S128x4x16x32_0_0_0_0) (broadcastInDim S128x4x16x32 ![0, 1, 2, 3] bcast_S1x4x1x32_S128x4x16x32_0_1_2_3 (shapeCast S1x4x1x32 s shapeCasts_S4x32_S1x4x1x32))))⟩] concatenates_S128x4x16x32_S128x4x16x32_S128x4x16x64_d3

/-- The rotated columns at an entry. -/
theorem rotS_eq (x : FVec Ideal S128x4x16x64 .f32) (c s : FVec Ideal S4x32 .f32) (b : Fin 128) (p : Fin 4) (h : Fin 16) (j : Fin 64) :
    (rotS x c s (ix4 b p h j) : EReal) = rot (fun i => x (ix4 b p h i)) (fun i => c (ix2 p i)) (fun i => s (ix2 p i)) ⟨j.val, by omega⟩ := by
  unfold rotS
  pointwise
  unfold rot
  refine dite_step (fun h => ?_) (fun h => ?_)
  · rw [dif_pos h]
  · rw [dif_neg h, dif_pos (by exact j.isLt)]
    have e : (⟨32 + (j.val - 32), by omega⟩ : Fin 64) = ⟨j.val, j.isLt⟩ := Fin.ext (by show 32 + (j.val - 32) = j.val; omega)
    rw [e]

/-- The rotated columns of all rows, 64 zeros after them. -/
def joinA (X : FVec Ideal S8x2176x16x64 .f32) (Y : FVec Ideal S128x4x16x64 .f32) : FVec Ideal S17920x2048 .bf16 :=
  truncf .bf16 (shapeCast S17920x2048 (pad S17920x16x128 ![0, 0, 0] ![0, 0, 64] ![0, 0, 0] (concatenate S17920x16x64 0 [⟨S17408x16x64, (shapeCast S17408x16x64 X shapeCasts_S8x2176x16x64_S17408x16x64)⟩, ⟨S512x16x64, (shapeCast S512x16x64 Y shapeCasts_S128x4x16x64_S512x16x64)⟩] concatenates_S17408x16x64_S512x16x64_S17920x16x64_d0) (sitofp .f32 (constantI S_ 32 0#32)) pads_S17920x16x64_S17920x16x128_000_000_0640 h_S_) shapeCasts_S17920x16x128_S17920x2048) bitsLt_bf16_f32

/-- The rotated columns of all rows at an entry. -/
theorem joinA_eq (X : FVec Ideal S8x2176x16x64 .f32) (Y : FVec Ideal S128x4x16x64 .f32) (r : Fin 17920) (q : Fin 2048) :
    (joinA X Y (ix2 r q) : EReal) = if hq : q.val % 128 < 64 then
        if h : r.val < 17408 then X (ix4 ⟨r.val / 2176, by omega⟩ ⟨r.val % 2176, by omega⟩ ⟨q.val / 128, by omega⟩ ⟨q.val % 128, hq⟩)
        else Y (ix4 ⟨(r.val - 17408) / 4, by omega⟩ ⟨(r.val - 17408) % 4, by omega⟩ ⟨q.val / 128, by omega⟩ ⟨q.val % 128, hq⟩)
      else 0 := by
  unfold joinA
  pointwise
  refine dite_step (fun h => ?_) (fun h => ?_)
  · simp only [h.2, ↓reduceDIte]
  · have hq : ¬ (q.val % 128 < 64) := fun hq => h ⟨by omega, hq⟩
    simp only [hq, ↓reduceDIte]
    simp [FloatOps.sitofp]

/-- The reference's rotated queries. -/
theorem rot_all (a0 : FVec Ideal S17920x512 .bf16) (a2 : FVec Ideal S1x512x16x192 .f32) :
    joinA (rotP (cutP (qA a0 a2)) (Host.cos angP) (Host.sin angP)) (rotS (cutS (qA a0 a2)) (Host.cos angS) (Host.sin angS))
      = fun i : S17920x2048.Idx => Gr a0 a2 (i 0) (i 1) := by
  have key : ∀ (r : Fin 17920) (q : Fin 2048),
      (joinA (rotP (cutP (qA a0 a2)) (Host.cos angP) (Host.sin angP)) (rotS (cutS (qA a0 a2)) (Host.cos angS) (Host.sin angS)) (ix2 r q) : EReal) = Gr a0 a2 r q := by
    intro r q
    rw [joinA_eq]
    unfold Gr
    by_cases hq : q.val % 128 < 64
    · rw [dif_pos hq]
      by_cases h : r.val < 17408
      · rw [dif_pos h, rotP_eq]
        have e : r.val / 2176 * 2176 + r.val % 2176 = r.val := by omega
        refine rot_congr (fun j => ?_) (fun j => (if_pos h).symm) (fun j => (if_pos h).symm) rfl
        rw [cutP_eq, qA_eq]
        exact congrArg (fun s => plain a0 a2 s _ _) (Fin.ext e)
      · rw [dif_neg h, rotS_eq]
        have e : 17408 + ((r.val - 17408) / 4 * 4 + (r.val - 17408) % 4) = r.val := by omega
        refine rot_congr (fun j => ?_) (fun j => (if_neg h).symm) (fun j => (if_neg h).symm) rfl
        rw [cutS_eq, qA_eq]
        exact congrArg (fun s => plain a0 a2 s _ _) (Fin.ext e)
    · rw [dif_neg hq]
      exact (rot_zero _ _ _ _ (by show 64 ≤ q.val % 128; omega)).symm
  funext i
  rw [eq_ix2 i]
  exact key (i 0) (i 1)

/-- The reference's plain queries. -/
theorem q_all (a0 : FVec Ideal S17920x512 .bf16) (a2 : FVec Ideal S1x512x16x192 .f32) :
    truncf .bf16 (shapeCast S17920x2048 (extractStridedSlice S17920x16x128 ![0, 0, 0] (qA a0 a2) slices_S17920x16x192_S17920x16x128_0_0_0) shapeCasts_S17920x16x128_S17920x2048) bitsLt_bf16_f32 = fun i : S17920x2048.Idx => Gq a0 a2 (i 0) (i 1) := by
  have key : ∀ (q : FVec Ideal S17920x16x192 .f32) (r : Fin 17920) (i : Fin 2048),
      (truncf .bf16 (shapeCast S17920x2048 (extractStridedSlice S17920x16x128 ![0, 0, 0] q slices_S17920x16x192_S17920x16x128_0_0_0) shapeCasts_S17920x16x128_S17920x2048) bitsLt_bf16_f32 (ix2 r i) : EReal) = q (ix3 r ⟨i.val / 128, by omega⟩ ⟨i.val % 128, by omega⟩) := by
    intro q r i
    pointwise
  funext i
  rw [eq_ix2 i]
  exact (key _ _ _).trans (qA_eq _ _ _ _ _)

/-- The reference's keys and values. -/
theorem k_all (a1 : FVec Ideal S17920x512 .f32) (a3 : FVec Ideal S1x512x16x128 .f32) :
    truncf .bf16 (shapeCast S17920x2048 (Host.dotGeneral dot_S17920x512_S512x16x128_S17920x16x128_1_0_0_12_n_n none a1 (shapeCast S512x16x128 a3 shapeCasts_S1x512x16x128_S512x16x128)) shapeCasts_S17920x16x128_S17920x2048) bitsLt_bf16_f32 = fun i : S17920x2048.Idx => Gk a1 a3 (i 0) (i 1) := by
  have key : ∀ (r : Fin 17920) (i : Fin 2048), (truncf .bf16 (shapeCast S17920x2048 (Host.dotGeneral dot_S17920x512_S512x16x128_S17920x16x128_1_0_0_12_n_n none a1 (shapeCast S512x16x128 a3 shapeCasts_S1x512x16x128_S512x16x128)) shapeCasts_S17920x16x128_S17920x2048) bitsLt_bf16_f32 (ix2 r i) : EReal) = Gk a1 a3 r i := by
    intro r i
    pointwise
    rfl
  funext i
  rw [eq_ix2 i]
  exact key (i 0) (i 1)

/-- The precondition read: the latent query rows and their weights are real numbers. -/
theorem pre_real (a0 : FVec Ideal S17920x512 .bf16) (a1 : FVec Ideal S17920x512 .f32) (a2 : FVec Ideal S1x512x16x192 .f32) (a3 a4 : FVec Ideal S1x512x16x128 .f32)
    (h : Cert.Pre_finite_queries.fn (F := Ideal) a0 a1 a2 a3 a4 = fun _ => 1#1) : (∀ i, IsReal (a0 i)) ∧ ∀ i, IsReal (a2 i) := by
  have e := congrFun h ix0
  dsimp only [Cert.Pre_finite_queries.fn] at e
  obtain ⟨e0, e1⟩ := IntOp.andi_eq_one.1 e
  exact ⟨fun i => real_of_lt _ (Host.reduce_andi_all _ _ _ _ _ e0 i), fun i => real_of_lt _ (Host.reduce_andi_all _ _ _ _ _ e1 i)⟩

/-- Kernel and reference end with the same four arrays, for real latent query rows and weights. -/
theorem algebraic : Cert.algebraic_Kernel7Ideal_Reference7Ideal_pre_finite_queries := by
  intro m g m' g' hpre hargs
  refine ⟨fun c => fun i : Cert.Kernel7Ideal.S17920x2048.Idx => Gq (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)) (i 0) (i 1), fun c => fun i : Cert.Kernel7Ideal.S17920x2048.Idx => Gr (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)) (i 0) (i 1), fun c => fun i : Cert.Kernel7Ideal.S17920x2048.Idx => Gk (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg3)) (i 0) (i 1), fun c => fun i : Cert.Kernel7Ideal.S17920x2048.Idx => Gk (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg4)) (i 0) (i 1),
    (θ_run _ _ _).mono (fun r h c => ?_) (Cert.Kernel7Ideal.Value.run_blocks m g),
    (θ_run _ _ _).mono (fun r h c => ?_) (Cert.Reference7Ideal.Value.run m' g')⟩
  · obtain ⟨h9, h10, h11, h12, hk⟩ := h c
    obtain ⟨hx, hw⟩ := pre_real _ _ _ _ _ (hpre c)
    exact ⟨h9.trans (Cert.Kernel7Ideal.Rows.final9 m c), h10.trans (Cert.Kernel7Ideal.Rows.final10 m c hx hw),
      h11.trans (Cert.Kernel7Ideal.Rows.final11 m c), h12.trans (Cert.Kernel7Ideal.Rows.final12 m c), hk⟩
  · obtain ⟨h9, h10, h11, h12, hk⟩ := h c
    obtain ⟨e0, e1, e2, e3, e4⟩ := hargs c
    refine ⟨h9.trans ((q_all _ _).trans ?_), h10.trans ((rot_all _ _).trans ?_), h11.trans ((k_all _ _).trans ?_), h12.trans ((k_all _ _).trans ?_), hk⟩
    · rw [e0, e2]
    · rw [e0, e2]
    · rw [e1, e3]
    · rw [e1, e4]

/-- The reference's frame, from its run. -/
theorem frame : Cert.quiescent_Reference7Ideal := fun m g _ =>
  (θ_run Cert.Reference7Ideal.defs _ _).mono (fun r h => ⟨fun c => (h c).2.2.2.2, sem_eq_zero_of_no_sems (by decide) r.2⟩)
    (Cert.Reference7Ideal.Value.run (F := Ideal) m g)

end Cert.Reference7Ideal.Rows

end
-- ==== Proof.Rows.Ker8.lean ====
/- The sample queries taken into the latent space, head by head. -/
module

public import proofs.«01_k».proof.Proof.Gen.Kernel8Ideal.Value
public import proofs.«01_k».proof.Proof.Rows.Row
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel8Ideal.Rows

open Cert.Kernel8Ideal Cert.Kernel8Ideal.Gen Idealize.ShloMosaic Idealize.ShloMosaic.TcCoe Idealize.SL.Sem Cert.Rows

/-- One entry of a result block. -/
def val (x0 : Vec Ideal S512x128 .bf16) (x1 : Vec Ideal S1x128x512 .bf16) (p q : Fin 512) : EReal := lin (fun k => x0 (ix2 p k)) (fun k => x1 (ix3 0 k q))

/-- The body's stored block at an entry. -/
theorem pay_eq (x0 : Vec Ideal S512x128 .bf16) (x1 : Vec Ideal S1x128x512 .bf16) (p q : Fin 512) : (k0_pay1 (View.ld x0 r0_0) (View.ld x1 r0_1) (ix3 0 p q) : EReal) = val x0 x1 p q := by
  pointwise [k0_pay1]
  rfl

/-- What the body leaves in the result window. -/
theorem out2_eq (x0 : Vec Ideal S512x128 .bf16) (x1 : Vec Ideal S1x128x512 .bf16) (y : S1x512x512.Idx) : (out0_2 x0 x1 y : EReal) = val x0 x1 (y 1) (y 2) := by
  unfold out0_2
  canon_tiles x h using View.cover_of_tiledBy _ ![1, 512, 512] (by sl_kernel_rfl) _
  have e := pay_eq x0 x1 (x 1) (x 2)
  rw [show (ix3 0 (x 1) (x 2) : S1x512x512.Idx) = x from by rw [show (0 : Fin 1) = x 0 from Subsingleton.elim _ _]; exact (eq_ix3 x).symm] at e
  exact e.trans (congrArg₂ (val x0 x1) (Fin.ext h1.symm) (Fin.ext h2.symm))

variable (m : (ℓ : Loc nD τ sig) → Buf (Elt Ideal) ℓ) (c : Dev nD)

/-- The index maps: head along the lanes of the query rows, along the leading axis of weights and result. -/
theorem idx : ∀ t : Fin grid0.N, win0_0.index t = ![34, t.val] ∧ win0_1.index t = ![t.val, 0, 0] ∧ win0_2.index t = ![t.val, 0, 0] := by decide +kernel

/-- The key weights with the head leading and the latent axis last, at an entry. -/
theorem w_read (a : FVec Ideal S1x512x16x128 .f32) (h : Fin 16) (p : Fin 128) (q : Fin 512) :
    (truncf .bf16 (transpose S16x128x512 [1, 2, 0] (shapeCast S512x16x128 a shapeCasts_S1x512x16x128_S512x16x128) transposes_S512x16x128_S16x128x512_1_2_0) bitsLt_bf16_f32 (ix3 h p q) : EReal) = a (ix4 0 q h p) := by
  pointwise

/-- The key weights with the head leading and the latent axis last, as the region finds it. -/
theorem V_w (h : Fin 16) (p : Fin 128) (q : Fin 512) : (V m c main_v2 (ix3 h p q) : EReal) = m ((c : Thread nD τ).loc main_arg1) (ix4 0 q h p) := by
  have e : V m c main_v2 = (truncf .bf16 (transpose S16x128x512 [1, 2, 0] ((shapeCast S512x16x128 (m ((c : Thread nD τ).loc main_arg1)) shapeCasts_S1x512x16x128_S512x16x128 : FVec Ideal _ .f32)) transposes_S512x16x128_S16x128x512_1_2_0) bitsLt_bf16_f32 : FVec Ideal _ .bf16) := by
    show StableHlo.after hostOps0 _ (Proc.devRef .tc main_v2) = _
    after_results
    rfl
  exact (congrFun e _).trans (w_read _ h p q)

/-- Window 0's block is the sample rows of the point's head. -/
theorem read0 (t : Fin cfg0.N) (p : Fin 512) (k : Fin 128) : (iblk m c 0 t (ix2 p k) : EReal)
    = m ((c : Thread nD τ).loc main_arg0) (ix2 ⟨17408 + p.val, by omega⟩ ⟨t.val * 128 + k.val, by have := t.isLt; have : cfg0.N = 16 := N_0; omega⟩) := by
  obtain ⟨e0, e1, e2⟩ := idx t
  blk_ext [iblk, V, e0]

/-- Window 1's block is the weights of the point's head. -/
theorem read1 (t : Fin cfg0.N) (p : Fin 128) (k : Fin 512) : (iblk m c 1 t (ix3 0 p k) : EReal)
    = m ((c : Thread nD τ).loc main_arg1) (ix4 0 k ⟨t.val, by have := t.isLt; have : cfg0.N = 16 := N_0; omega⟩ p) := by
  obtain ⟨e0, e1, e2⟩ := idx t
  rw [← V_w m c ⟨t.val, by have := t.isLt; have : cfg0.N = 16 := N_0; omega⟩ p k]
  blk_ext [iblk, e1]

/-- The result array: head `i 0`, row `i 1`, latent column `i 2`. -/
def G (a0 : S17920x2048.Idx → EReal) (a1 : S1x512x16x128.Idx → EReal) (i : S16x512x512.Idx) : EReal :=
  lin (fun k : Fin 128 => a0 (ix2 ⟨17408 + (i 1).val, by have : (i 1).val < 512 := (i 1).isLt; omega⟩
    ⟨(i 0).val * 128 + k.val, by have : (i 0).val < 16 := (i 0).isLt; omega⟩)) (fun k => a1 (ix4 0 (i 2) (i 0) k))

/-- The entry of a block, by the arguments. -/
theorem val_eq (t : Fin cfg0.N) (p q : Fin 512) : val (iblk m c 0 t) (iblk m c 1 t) p q
    = G (m ((c : Thread nD τ).loc main_arg0)) (m ((c : Thread nD τ).loc main_arg1)) (ix3 ⟨t.val, by have := t.isLt; have : cfg0.N = 16 := N_0; omega⟩ p q) := by
  unfold val G
  simp only [read0, read1]
  rfl

/-- The result array after the run. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨e0, e1, e2⟩ := idx t
  rw [after0_2]
  have E0 : ((((cfg0.win 2).blk t).view.emb y) 0).val = t.val := by
    have y0 : (y 0).val < 1 := lt_of_lt_of_le (y 0).isLt ((cfg0.win 2).xsize_le (cfg0.grid.coords t) (0 : Fin 3))
    blk_simp [e2]
  have E1 : ((((cfg0.win 2).blk t).view.emb y) 1).val = (y 1).val := by blk_simp [e2]
  have E2 : ((((cfg0.win 2).blk t).view.emb y) 2).val = (y 2).val := by blk_simp [e2]
  refine (cast_eq _ _).trans ?_
  refine (out2_eq (iblk m c 0 t) (iblk m c 1 t) ((cfg0.win 2).xinj (cfg0.grid.coords t) y)).trans ?_
  refine (val_eq m c t _ _).trans ?_
  refine congrArg (G _ _) ?_
  funext k
  fin_cases k
  · exact Fin.ext E0.symm
  · exact Fin.ext E1.symm
  · exact Fin.ext E2.symm

end Cert.Kernel8Ideal.Rows

end
-- ==== Proof.Rows.Ref8.lean ====
/- The sample queries taken into the latent space as the reference computes them. -/
module

public import proofs.«01_k».proof.Defs
public import proofs.«01_k».proof.Proof.Gen.Reference8Ideal.Run
public import proofs.«01_k».proof.Proof.Rows.Ker8
public import Idealize.ShloMosaic.Lib.Pointwise
public import Idealize.ShloMosaic.Adequacy
public import Idealize.ShloMosaic.Init

@[expose] public section

set_option maxRecDepth 16384

noncomputable section

namespace Cert.Reference8Ideal.Rows

open Cert.Reference8Ideal Cert.Reference8Ideal.Gen Idealize.ShloMosaic Idealize.ShloMosaic.TcCoe Idealize.SL.Sem Cert.Rows

open Cert.Kernel8Ideal.Rows (G)

/-- The reference's result. -/
def outA (a0 : FVec Ideal S17920x2048 .bf16) (a1 : FVec Ideal S1x512x16x128 .f32) : FVec Ideal S16x512x512 .bf16 :=
  truncf .bf16 (Host.dotGeneral dot_S512x16x128_S512x16x128_S16x512x512_2_2_0_0_1_1 none (shapeCast S512x16x128 (extractStridedSlice S512x2048 ![17408, 0] (extf .f32 a0 bitsLt_bf16_f32) slices_S17920x2048_S512x2048_17408_0) shapeCasts_S512x2048_S512x16x128) (shapeCast S512x16x128 a1 shapeCasts_S1x512x16x128_S512x16x128)) bitsLt_bf16_f32

/-- The reference's result array. -/
theorem out_all (a0 : FVec Ideal S17920x2048 .bf16) (a1 : FVec Ideal S1x512x16x128 .f32) : outA a0 a1 = G a0 a1 := by
  funext i; rw [eq_ix3 i]
  have e : ∀ (h : Fin 16) (p q : Fin 512), (outA a0 a1 (ix3 h p q) : EReal) = G a0 a1 (ix3 h p q) := by
    intro h p q
    unfold outA
    pointwise
    rfl
  exact e _ _ _

/-- Kernel and reference end with the same array. -/
theorem algebraic : Cert.algebraic_Kernel8Ideal_Reference8Ideal := by
  intro m g m' g' hpre hargs
  refine ⟨fun c => G (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)),
    (θ_run _ _ _).mono (fun r h c => ?_) (Cert.Kernel8Ideal.Value.run_blocks m g),
    (θ_run _ _ _).mono (fun r h c => ?_) (Cert.Reference8Ideal.Value.run m' g')⟩
  · exact ⟨(h c).1.trans (Cert.Kernel8Ideal.Rows.final m c), (h c).2⟩
  · obtain ⟨e0, e1⟩ := hargs c
    refine ⟨(h c).1.trans ((out_all _ _ ).trans ?_), (h c).2⟩
    rw [e0, e1]

/-- The reference's frame, from its run. -/
theorem frame : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

end Cert.Reference8Ideal.Rows

end
-- ==== Proof.Rows.Ker9.lean ====
/- The sample rows' latent averages taken to the value space and gated, head by head. -/
module

public import proofs.«01_k».proof.Proof.Gen.Kernel9Ideal.Value
public import proofs.«01_k».proof.Proof.Rows.Row
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel9Ideal.Rows

open Cert.Kernel9Ideal Cert.Kernel9Ideal.Gen Idealize.ShloMosaic Idealize.ShloMosaic.TcCoe Idealize.SL.Sem Cert.Rows

/-- One entry of a result block. -/
def val (x0 : Vec Ideal S1x512x512 .bf16) (x1 : Vec Ideal S512x128 .bf16) (x2 : Vec Ideal S512x128 .f32) (p : Fin 512) (q : Fin 128) : EReal := lin (fun k => x0 (ix3 0 p k)) (fun k => x1 (ix2 k q)) * silu (x2 (ix2 p q))

/-- The body's stored block at an entry. -/
theorem pay_eq (x0 : Vec Ideal S1x512x512 .bf16) (x1 : Vec Ideal S512x128 .bf16) (x2 : Vec Ideal S512x128 .f32) (p : Fin 512) (q : Fin 128) : (k0_pay1 (View.ld x0 r0_0) (View.ld x1 r0_1) (View.ld x2 r0_1) (ix2 p q) : EReal) = val x0 x1 x2 p q := by
  pointwise [k0_pay1]
  rw [zero_sub]
  rfl

/-- What the body leaves in the result window. -/
theorem out3_eq (x0 : Vec Ideal S1x512x512 .bf16) (x1 : Vec Ideal S512x128 .bf16) (x2 : Vec Ideal S512x128 .f32) (y : S512x128.Idx) : (out0_3 x0 x1 x2 y : EReal) = val x0 x1 x2 (y 0) (y 1) := by
  unfold out0_3
  canon_tiles x h using View.cover_of_tiledBy _ ![512, 128] (by sl_kernel_rfl) _
  have e := pay_eq x0 x1 x2 (x 0) (x 1)
  rw [← eq_ix2 x] at e
  exact e.trans (congrArg₂ (val x0 x1 x2) (Fin.ext h0.symm) (Fin.ext h1.symm))

variable (m : (ℓ : Loc nD τ sig) → Buf (Elt Ideal) ℓ) (c : Dev nD)

/-- The index maps: head along the leading axis of the averages, along the lanes of weights, gate and result. -/
theorem idx : ∀ t : Fin grid0.N, win0_0.index t = ![t.val, 0, 0] ∧ win0_1.index t = ![0, t.val] ∧ win0_2.index t = ![34, t.val]
    ∧ win0_3.index t = ![0, t.val] := by decide +kernel

/-- The value weights with head and lane joined, at an entry. -/
theorem w_read (a : FVec Ideal S1x512x16x128 .f32) (p : Fin 512) (q : Fin 2048) :
    (truncf .bf16 (shapeCast S512x2048 (shapeCast S512x16x128 a shapeCasts_S1x512x16x128_S512x16x128) shapeCasts_S512x16x128_S512x2048) bitsLt_bf16_f32 (ix2 p q) : EReal) = a (ix4 0 p ⟨q.val / 128, by omega⟩ ⟨q.val % 128, by omega⟩) := by
  pointwise

/-- The value weights with head and lane joined, as the region finds it. -/
theorem V_w (p : Fin 512) (q : Fin 2048) : (V m c main_v2 (ix2 p q) : EReal) = m ((c : Thread nD τ).loc main_arg1) (ix4 0 p ⟨q.val / 128, by omega⟩ ⟨q.val % 128, by omega⟩) := by
  have e : V m c main_v2 = (truncf .bf16 (shapeCast S512x2048 ((shapeCast S512x16x128 (m ((c : Thread nD τ).loc main_arg1)) shapeCasts_S1x512x16x128_S512x16x128 : FVec Ideal _ .f32)) shapeCasts_S512x16x128_S512x2048) bitsLt_bf16_f32 : FVec Ideal _ .bf16) := by
    show StableHlo.after hostOps0 _ (Proc.devRef .tc main_v2) = _
    after_results
    rfl
  exact (congrFun e _).trans (w_read _ p q)

/-- Window 0's block is the averages of the point's head. -/
theorem read0 (t : Fin cfg0.N) (p k : Fin 512) : (iblk m c 0 t (ix3 0 p k) : EReal)
    = m ((c : Thread nD τ).loc main_arg0) (ix3 ⟨t.val, by have := t.isLt; have : cfg0.N = 16 := N_0; omega⟩ p k) := by
  obtain ⟨e0, e1, e2, e3⟩ := idx t
  blk_ext [iblk, V, e0]

/-- The lane of a head. -/
abbrev lane (t : Fin cfg0.N) (q : Fin 128) : Fin 2048 := ⟨t.val * 128 + q.val, by have := t.isLt; have : cfg0.N = 16 := N_0; omega⟩

/-- Window 1's block is the weights of the point's head. -/
theorem read1 (t : Fin cfg0.N) (p : Fin 512) (k : Fin 128) : (iblk m c 1 t (ix2 p k) : EReal)
    = m ((c : Thread nD τ).loc main_arg1) (ix4 0 p ⟨(lane t k).val / 128, by have := (lane t k).isLt; omega⟩ ⟨(lane t k).val % 128, by omega⟩) := by
  obtain ⟨e0, e1, e2, e3⟩ := idx t
  rw [← V_w m c p (lane t k)]
  blk_ext [iblk, e1]

/-- Window 2's block is the gate of the sample rows at the point's head. -/
theorem read2 (t : Fin cfg0.N) (p : Fin 512) (k : Fin 128) : (iblk m c 2 t (ix2 p k) : EReal)
    = m ((c : Thread nD τ).loc main_arg2) (ix2 ⟨17408 + p.val, by omega⟩ (lane t k)) := by
  obtain ⟨e0, e1, e2, e3⟩ := idx t
  blk_ext [iblk, V, e2]

/-- The result array: row `i 0`, lane `i 1 % 128` of head `i 1 / 128`. -/
def G (a0 : S16x512x512.Idx → EReal) (a1 : S1x512x16x128.Idx → EReal) (a2 : S17920x2048.Idx → EReal) (p : Fin 512) (q : Fin 2048) : EReal :=
  lin (fun k : Fin 512 => a0 (ix3 ⟨q.val / 128, by omega⟩ p k)) (fun k => a1 (ix4 0 k ⟨q.val / 128, by omega⟩ ⟨q.val % 128, by omega⟩))
    * silu (a2 (ix2 ⟨17408 + p.val, by omega⟩ q))

/-- The entry of a block, by the arguments. -/
theorem val_eq (t : Fin cfg0.N) (p : Fin 512) (q : Fin 128) : val (iblk m c 0 t) (iblk m c 1 t) (iblk m c 2 t) p q
    = G (m ((c : Thread nD τ).loc main_arg0)) (m ((c : Thread nD τ).loc main_arg1)) (m ((c : Thread nD τ).loc main_arg2)) p (lane t q) := by
  unfold val G
  simp only [read0, read1, read2]
  have e : (⟨t.val, by have := t.isLt; have : cfg0.N = 16 := N_0; omega⟩ : Fin 16) = ⟨(lane t q).val / 128, by have := (lane t q).isLt; omega⟩ :=
    Fin.ext (by show t.val = (t.val * 128 + q.val) / 128; omega)
  rw [e]

/-- The result array after the run. -/
theorem final : (dats m 0 c).arrAt 3 cfg0.N = fun i : S512x2048.Idx => G (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  obtain ⟨e0, e1, e2, e3⟩ := idx t
  rw [after0_3]
  have E0 : ((((cfg0.win 3).blk t).view.emb y) 0).val = (y 0).val := by blk_simp [e3]
  have E1 : ((((cfg0.win 3).blk t).view.emb y) 1).val = t.val * 128 + (y 1).val := by blk_simp [e3]
  refine (cast_eq _ _).trans ?_
  refine (out3_eq (iblk m c 0 t) (iblk m c 1 t) (iblk m c 2 t) ((cfg0.win 3).xinj (cfg0.grid.coords t) y)).trans ?_
  refine (val_eq m c t _ _).trans ?_
  exact congrArg₂ (G _ _ _) (Fin.ext E0.symm) (Fin.ext E1.symm)

end Cert.Kernel9Ideal.Rows

end
-- ==== Proof.Rows.Ref9.lean ====
/- The sample rows' values and gate as the reference computes them. -/
module

public import proofs.«01_k».proof.Defs
public import proofs.«01_k».proof.Proof.Gen.Reference9Ideal.Run
public import proofs.«01_k».proof.Proof.Rows.Ker9
public import Idealize.ShloMosaic.Lib.Pointwise
public import Idealize.ShloMosaic.Adequacy
public import Idealize.ShloMosaic.Init

@[expose] public section

set_option maxRecDepth 16384

noncomputable section

namespace Cert.Reference9Ideal.Rows

open Cert.Reference9Ideal Cert.Reference9Ideal.Gen Idealize.ShloMosaic Idealize.ShloMosaic.TcCoe Idealize.SL.Sem Cert.Rows

open Cert.Kernel9Ideal.Rows (G)

/-- The reference's result. -/
def outA (a0 : FVec Ideal S16x512x512 .bf16) (a1 : FVec Ideal S1x512x16x128 .f32) (a2 : FVec Ideal S17920x2048 .f32) : FVec Ideal S512x2048 .bf16 :=
  truncf .bf16 (mulf (shapeCast S512x2048 (transpose S512x16x128 [2, 0, 1] (Host.dotGeneral dot_S512x16x128_S16x512x512_S16x128x512_0_2_2_1_1_0 none (shapeCast S512x16x128 a1 shapeCasts_S1x512x16x128_S512x16x128) (extf .f32 a0 bitsLt_bf16_f32)) transposes_S16x128x512_S512x16x128_2_0_1) shapeCasts_S512x16x128_S512x2048) (mulf (extractStridedSlice S512x2048 ![17408, 0] a2 slices_S17920x2048_S512x2048_17408_0) (Host.divf (broadcastInDim S512x2048 ![] bcast_S_S512x2048 (constant S_ .f32 0x3F800000#32)) (addf (broadcastInDim S512x2048 ![] bcast_S_S512x2048 (constant S_ .f32 0x3F800000#32)) (Host.exp (Host.negf (extractStridedSlice S512x2048 ![17408, 0] a2 slices_S17920x2048_S512x2048_17408_0))))))) bitsLt_bf16_f32

/-- The reference's result array. -/
theorem out_all (a0 : FVec Ideal S16x512x512 .bf16) (a1 : FVec Ideal S1x512x16x128 .f32) (a2 : FVec Ideal S17920x2048 .f32) :
    outA a0 a1 a2 = fun i : S512x2048.Idx => G a0 a1 a2 (i 0) (i 1) := by
  funext i
  have e : ∀ (p : Fin 512) (q : Fin 2048), (outA a0 a1 a2 (ix2 p q) : EReal) = G a0 a1 a2 p q := by
    intro p q
    unfold outA
    pointwise
    unfold G lin silu
    refine congrArg (· * _) (Finset.sum_congr rfl fun k _ => mul_comm _ _)
  have e' := e (i 0) (i 1)
  rw [← eq_ix2 i] at e'
  exact e'

/-- Kernel and reference end with the same array. -/
theorem algebraic : Cert.algebraic_Kernel9Ideal_Reference9Ideal := by
  intro m g m' g' hpre hargs
  refine ⟨fun c => fun i : Cert.Kernel9Ideal.S512x2048.Idx => G (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2)) (i 0) (i 1),
    (θ_run _ _ _).mono (fun r h c => ?_) (Cert.Kernel9Ideal.Value.run_blocks m g),
    (θ_run _ _ _).mono (fun r h c => ?_) (Cert.Reference9Ideal.Value.run m' g')⟩
  · exact ⟨(h c).1.trans (Cert.Kernel9Ideal.Rows.final m c), (h c).2⟩
  · obtain ⟨e0, e1, e2⟩ := hargs c
    refine ⟨(h c).1.trans ((out_all _ _ _ ).trans ?_), (h c).2⟩
    rw [e0, e1, e2]

/-- The reference's frame, from its run. -/
theorem frame : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

end Cert.Reference9Ideal.Rows

end
-- ==== Proof.Rows.Ker10.lean ====
/- The sample rows' gate. -/
module

public import proofs.«01_k».proof.Proof.Gen.Kernel10Ideal.Value
public import proofs.«01_k».proof.Proof.Rows.Row
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel10Ideal.Rows

open Cert.Kernel10Ideal Cert.Kernel10Ideal.Gen Idealize.ShloMosaic Idealize.ShloMosaic.TcCoe Idealize.SL.Sem Cert.Rows

/-- The result array: row `i 0` gated by row `17408 + i 0` of the gate. -/
def G (a0 : S512x2048.Idx → EReal) (a1 : S17920x2048.Idx → EReal) (i : S512x2048.Idx) : EReal :=
  a0 i * silu (a1 (ix2 ⟨17408 + (i 0).val, by have : (i 0).val < 512 := (i 0).isLt; omega⟩ (i 1)))

/-- The body's stored block at an entry. -/
theorem pay_eq (x0 x1 : Vec Ideal S512x2048 .f32) (p : Fin 512) (q : Fin 2048) : (k0_pay1 x0 x1 (ix2 p q) : EReal) = x0 (ix2 p q) * silu (x1 (ix2 p q)) := by
  pointwise [k0_pay1]
  rw [zero_sub]
  rfl

variable (m : (ℓ : Loc nD τ sig) → Buf (Elt Ideal) ℓ) (c : Dev nD)

/-- The result array after the run. -/
theorem final : (dats m 0 c).arrAt 2 cfg0.N = G (m ((c : Thread nD τ).loc main_arg0)) (m ((c : Thread nD τ).loc main_arg1)) := by
  refine (Value.final2 m c).trans ?_
  funext i
  have e : (Value.inIdx2_1 i : S17920x2048.Idx) = ix2 ⟨17408 + (i 0).val, by have : (i 0).val < 512 := (i 0).isLt; omega⟩ (i 1) := by
    funext k
    fin_cases k
    · exact Fin.ext (Nat.add_comm _ _)
    · rfl
  refine (pay_eq (fun _ => (m ((c : Thread nD τ).loc main_arg0)) i) (fun _ => (m ((c : Thread nD τ).loc main_arg1)) (Value.inIdx2_1 i)) (i 0) (i 1)).trans ?_
  rw [e]
  rfl

end Cert.Kernel10Ideal.Rows

end
-- ==== Proof.Rows.Ref10.lean ====
/- The sample rows' gate as the reference computes it. -/
module

public import proofs.«01_k».proof.Defs
public import proofs.«01_k».proof.Proof.Gen.Reference10Ideal.Run
public import proofs.«01_k».proof.Proof.Rows.Ker10
public import Idealize.ShloMosaic.Lib.Pointwise
public import Idealize.ShloMosaic.Adequacy
public import Idealize.ShloMosaic.Init

@[expose] public section

set_option maxRecDepth 16384

noncomputable section

namespace Cert.Reference10Ideal.Rows

open Cert.Reference10Ideal Cert.Reference10Ideal.Gen Idealize.ShloMosaic Idealize.ShloMosaic.TcCoe Idealize.SL.Sem Cert.Rows

open Cert.Kernel10Ideal.Rows (G)

/-- The reference's result. -/
def outA (a0 : FVec Ideal S512x2048 .f32) (a1 : FVec Ideal S17920x2048 .f32) : FVec Ideal S512x2048 .bf16 :=
  truncf .bf16 (mulf a0 (mulf (extractStridedSlice S512x2048 ![17408, 0] a1 slices_S17920x2048_S512x2048_17408_0) (Host.divf (broadcastInDim S512x2048 ![] bcast_S_S512x2048 (constant S_ .f32 0x3F800000#32)) (addf (broadcastInDim S512x2048 ![] bcast_S_S512x2048 (constant S_ .f32 0x3F800000#32)) (Host.exp (Host.negf (extractStridedSlice S512x2048 ![17408, 0] a1 slices_S17920x2048_S512x2048_17408_0))))))) bitsLt_bf16_f32

/-- The reference's result array. -/
theorem out_all (a0 : FVec Ideal S512x2048 .f32) (a1 : FVec Ideal S17920x2048 .f32) : outA a0 a1 = G a0 a1 := by
  funext i; rw [eq_ix2 i]
  have e : ∀ (p : Fin 512) (q : Fin 2048), (outA a0 a1 (ix2 p q) : EReal) = G a0 a1 (ix2 p q) := by
    intro p q
    unfold outA
    pointwise
    rfl
  exact e _ _

/-- Kernel and reference end with the same array. -/
theorem algebraic : Cert.algebraic_Kernel10Ideal_Reference10Ideal := by
  intro m g m' g' hpre hargs
  refine ⟨fun c => G (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)),
    (θ_run _ _ _).mono (fun r h c => ?_) (Cert.Kernel10Ideal.Value.run_blocks m g),
    (θ_run _ _ _).mono (fun r h c => ?_) (Cert.Reference10Ideal.Value.run m' g')⟩
  · exact ⟨(h c).1.trans (Cert.Kernel10Ideal.Rows.final m c), (h c).2⟩
  · obtain ⟨e0, e1⟩ := hargs c
    refine ⟨(h c).1.trans ((out_all _ _ ).trans ?_), (h c).2⟩
    rw [e0, e1]

/-- The reference's frame, from its run. -/
theorem frame : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

end Cert.Reference10Ideal.Rows

end
-- ==== Proof.lean ====
module

public import proofs.«01_k».proof.Proof.Gen.KernelIdeal.Value
public import proofs.«01_k».proof.Proof.Gen.ReferenceIdeal.Run
public import proofs.«01_k».proof.Proof.Gen.Pre_finite_scores
public import proofs.«01_k».proof.Proof.Gen.On_real_rows
public import proofs.«01_k».proof.Proof.Attn.Equal
public import proofs.«01_k».proof.Proof.Gen.Kernel2.Frame
public import proofs.«01_k».proof.Proof.Gen.Kernel2Ideal.Value
public import proofs.«01_k».proof.Proof.Gen.Reference2Ideal.Run
public import proofs.«01_k».proof.Proof.Rows.Ref2
public import proofs.«01_k».proof.Proof.Gen.Pre_finite_inputs
public import proofs.«01_k».proof.Proof.Gen.Kernel3.Frame
public import proofs.«01_k».proof.Proof.Gen.Kernel3Ideal.Value
public import proofs.«01_k».proof.Proof.Gen.Reference3Ideal.Run
public import proofs.«01_k».proof.Proof.Rows.Ref3
public import proofs.«01_k».proof.Proof.Gen.Kernel4.Frame
public import proofs.«01_k».proof.Proof.Gen.Kernel4Ideal.Value
public import proofs.«01_k».proof.Proof.Gen.Reference4Ideal.Run
public import proofs.«01_k».proof.Proof.Rows.Ref4
public import proofs.«01_k».proof.Proof.Gen.Kernel5.Frame
public import proofs.«01_k».proof.Proof.Gen.Kernel5Ideal.Value
public import proofs.«01_k».proof.Proof.Gen.Reference5Ideal.Run
public import proofs.«01_k».proof.Proof.Rows.Ref5
public import proofs.«01_k».proof.Proof.Gen.Kernel6.Frame
public import proofs.«01_k».proof.Proof.Gen.Kernel6Ideal.Value
public import proofs.«01_k».proof.Proof.Gen.Reference6Ideal.Run
public import proofs.«01_k».proof.Proof.Rows.Ref6
public import proofs.«01_k».proof.Proof.Gen.Kernel7.Frame
public import proofs.«01_k».proof.Proof.Gen.Kernel7Ideal.Value
public import proofs.«01_k».proof.Proof.Gen.Reference7Ideal.Run
public import proofs.«01_k».proof.Proof.Rows.Ref7
public import proofs.«01_k».proof.Proof.Gen.Pre_finite_queries
public import proofs.«01_k».proof.Proof.Gen.Kernel8.Frame
public import proofs.«01_k».proof.Proof.Gen.Kernel8Ideal.Value
public import proofs.«01_k».proof.Proof.Gen.Reference8Ideal.Run
public import proofs.«01_k».proof.Proof.Rows.Ref8
public import proofs.«01_k».proof.Proof.Gen.Kernel9.Frame
public import proofs.«01_k».proof.Proof.Gen.Kernel9Ideal.Value
public import proofs.«01_k».proof.Proof.Gen.Reference9Ideal.Run
public import proofs.«01_k».proof.Proof.Rows.Ref9
public import proofs.«01_k».proof.Proof.Gen.Kernel10.Frame
public import proofs.«01_k».proof.Proof.Gen.Kernel10Ideal.Value
public import proofs.«01_k».proof.Proof.Gen.Reference10Ideal.Run
public import proofs.«01_k».proof.Proof.Rows.Ref10
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The claim: the frames, the sanctioned rewrites, and the value equality. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Pre_finite_scores.Gen.facts,
    Cert.Pre_finite_inputs.Gen.facts,
    Cert.Pre_finite_queries.Gen.facts,
    Cert.On_real_rows.Gen.facts,
    fun m ρ _ => Cert.Kernel.Gen.frame m ρ,
    fun m ρ _ => Cert.KernelIdeal.Gen.frame m ρ,
    fun m ρ _ => Cert.KernelIdeal.Gen.frame m ρ,
    Cert.Attn.frame_reference,
    fun m ρ _ => Cert.Attn.frame_reference m ρ trivial,
    fun m ρ _ => Cert.Kernel2.Gen.frame m ρ,
    fun m ρ _ => Cert.Kernel2Ideal.Gen.frame m ρ,
    fun m ρ _ => Cert.Kernel2Ideal.Gen.frame m ρ,
    Cert.Reference2Ideal.Rows.frame,
    fun m ρ _ => Cert.Reference2Ideal.Rows.frame m ρ trivial,
    fun m ρ _ => Cert.Kernel3.Gen.frame m ρ,
    fun m ρ _ => Cert.Kernel3Ideal.Gen.frame m ρ,
    Cert.Reference3Ideal.Rows.frame,
    fun m ρ _ => Cert.Kernel4.Gen.frame m ρ,
    fun m ρ _ => Cert.Kernel4Ideal.Gen.frame m ρ,
    Cert.Reference4Ideal.Rows.frame,
    fun m ρ _ => Cert.Kernel5.Gen.frame m ρ,
    fun m ρ _ => Cert.Kernel5Ideal.Gen.frame m ρ,
    Cert.Reference5Ideal.Rows.frame,
    fun m ρ _ => Cert.Kernel6.Gen.frame m ρ,
    fun m ρ _ => Cert.Kernel6Ideal.Gen.frame m ρ,
    Cert.Reference6Ideal.Rows.frame,
    fun m ρ _ => Cert.Kernel7.Gen.frame m ρ,
    fun m ρ _ => Cert.Kernel7Ideal.Gen.frame m ρ,
    fun m ρ _ => Cert.Kernel7Ideal.Gen.frame m ρ,
    Cert.Reference7Ideal.Rows.frame,
    fun m ρ _ => Cert.Reference7Ideal.Rows.frame m ρ trivial,
    fun m ρ _ => Cert.Kernel8.Gen.frame m ρ,
    fun m ρ _ => Cert.Kernel8Ideal.Gen.frame m ρ,
    Cert.Reference8Ideal.Rows.frame,
    fun m ρ _ => Cert.Kernel9.Gen.frame m ρ,
    fun m ρ _ => Cert.Kernel9Ideal.Gen.frame m ρ,
    Cert.Reference9Ideal.Rows.frame,
    fun m ρ _ => Cert.Kernel10.Gen.frame m ρ,
    fun m ρ _ => Cert.Kernel10Ideal.Gen.frame m ρ,
    Cert.Reference10Ideal.Rows.frame,
    ⟨IdealRules.named_const.statement Cert.KernelIdeal.κ "scale" .f32 0x3D93CD3A#32 (((Real.sqrt 192)⁻¹ : ℝ) : EReal) rfl,
      IdealRules.named_const.statement Cert.KernelIdeal.κ "mask" .f32 0xF149F2CA#32 ⊥ rfl⟩,
    Cert.Attn.algebraic,
    trivial,
    Cert.Reference2Ideal.Rows.algebraic,
    trivial,
    Cert.Reference3Ideal.Rows.algebraic,
    trivial,
    Cert.Reference4Ideal.Rows.algebraic,
    trivial,
    Cert.Reference5Ideal.Rows.algebraic,
    trivial,
    Cert.Reference6Ideal.Rows.algebraic,
    trivial,
    Cert.Reference7Ideal.Rows.algebraic,
    trivial,
    Cert.Reference8Ideal.Rows.algebraic,
    trivial,
    Cert.Reference9Ideal.Rows.algebraic,
    trivial,
    Cert.Reference10Ideal.Rows.algebraic⟩

end Cert.Proof

end
